-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x6152 : Shape := ⟨3, ![2, 8192, 6152]⟩
abbrev S8 : Shape := ⟨1, ![8]⟩
abbrev S2048 : Shape := ⟨1, ![2048]⟩
abbrev S2x8192x4096 : Shape := ⟨3, ![2, 8192, 4096]⟩
abbrev S_ : Shape := ⟨0, ![]⟩
abbrev S2x8192x8 : Shape := ⟨3, ![2, 8192, 8]⟩

class Facts : Prop where
  slices_S2x8192x6152_S2x8192x4096_0_0_0 : S2x8192x6152.Slices ![0, 0, 0] S2x8192x4096
  bcast_S_S2x8192x4096 : S_.BroadcastsInDim S2x8192x4096 (![] : Fin 0 → Fin S2x8192x4096.rank)
  slices_S2x8192x6152_S2x8192x8_0_0_6144 : S2x8192x6152.Slices ![0, 0, 6144] S2x8192x8
  bcast_S_S2x8192x8 : S_.BroadcastsInDim S2x8192x8 (![] : Fin 0 → Fin S2x8192x8.rank)
  bcast_S_S8 : S_.BroadcastsInDim S8 (![] : Fin 0 → Fin S8.rank)

variable [Facts]

def fn {F : FTy → Type} [FloatOps F] (main_arg0 : FVec F S2x8192x6152 .f32) (main_arg1 : FVec F S8 .f32) (main_arg2 : FVec F S2048 .f32) : IVec S2x8192x4096 1 × IVec S2x8192x8 1 × IVec S8 1 :=
  let main_v0 : FVec F S2x8192x4096 .f32 := (extractStridedSlice S2x8192x4096 ![0, 0, 0] · slices_S2x8192x6152_S2x8192x4096_0_0_0) main_arg0
  let main_v1 : FVec F S2x8192x4096 .f32 := Host.absf main_v0
  let main_cst : FVec F S_ .f32 := constant S_ .f32 0x7F800000#32
  let main_v2 : FVec F S2x8192x4096 .f32 := broadcastInDim S2x8192x4096 ![] bcast_S_S2x8192x4096 main_cst
  let main_v3 : IVec S2x8192x4096 1 := cmpf .olt main_v1 main_v2
  let main_v4 : FVec F S2x8192x8 .f32 := (extractStridedSlice S2x8192x8 ![0, 0, 6144] · slices_S2x8192x6152_S2x8192x8_0_0_6144) main_arg0
  let main_v5 : FVec F S2x8192x8 .f32 := Host.absf main_v4
  let main_cst_0 : FVec F S_ .f32 := constant S_ .f32 0x7F800000#32
  let main_v6 : FVec F S2x8192x8 .f32 := broadcastInDim S2x8192x8 ![] bcast_S_S2x8192x8 main_cst_0
  let main_v7 : IVec S2x8192x8 1 := cmpf .olt main_v5 main_v6
  let main_v8 : FVec F S8 .f32 := Host.absf main_arg1
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v3, main_v7, main_v10)
-- ==== Kernel.lean ====
abbrev S2x8192x6152 : Shape := ⟨3, ![2, 8192, 6152]⟩
abbrev S8 : Shape := ⟨1, ![8]⟩
abbrev S2048 : Shape := ⟨1, ![2048]⟩
abbrev S16384x6152 : Shape := ⟨2, ![16384, 6152]⟩
abbrev S16384x8 : Shape := ⟨2, ![16384, 8]⟩
abbrev S_ : Shape := ⟨0, ![]⟩
abbrev S16384x128 : Shape := ⟨2, ![16384, 128]⟩
abbrev S1x8 : Shape := ⟨2, ![1, 8]⟩
abbrev S1x128 : Shape := ⟨2, ![1, 128]⟩
abbrev S16384x6144 : Shape := ⟨2, ![16384, 6144]⟩
abbrev S1x2048 : Shape := ⟨2, ![1, 2048]⟩
abbrev S16384x2048 : Shape := ⟨2, ![16384, 2048]⟩
abbrev S256x1024 : Shape := ⟨2, ![256, 1024]⟩
abbrev S256x2048 : Shape := ⟨2, ![256, 2048]⟩
abbrev S256x128 : Shape := ⟨2, ![256, 128]⟩
abbrev S4x256x512 : Shape := ⟨3, ![4, 256, 512]⟩
abbrev S4x1x256 : Shape := ⟨3, ![4, 1, 256]⟩
abbrev S4x1x1 : Shape := ⟨3, ![4, 1, 1]⟩
abbrev S256x256 : Shape := ⟨2, ![256, 256]⟩
abbrev S256x512 : Shape := ⟨2, ![256, 512]⟩
abbrev S1x256x512 : Shape := ⟨3, ![1, 256, 512]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1x256 : Shape := ⟨3, ![1, 1, 256]⟩
abbrev S1x512 : Shape := ⟨2, ![1, 512]⟩

abbrev nBuf : Space → Nat
  | .hbm => 16
  | .vmem => 17
  | .smem => 0
  | _ => 0

abbrev bufTy : (tb : Table) → Fin (tcTables nBuf tb) → BufTy
  | .hbm, ⟨0, _⟩ => ⟨S2x8192x6152, .f32⟩
  | .hbm, ⟨1, _⟩ => ⟨S8, .f32⟩
  | .hbm, ⟨2, _⟩ => ⟨S2048, .f32⟩
  | .hbm, ⟨3, _⟩ => ⟨S16384x6152, .f32⟩
  | .hbm, ⟨4, _⟩ => ⟨S16384x8, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S1x8, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S16384x6144, .f32⟩
  | .hbm, ⟨13, _⟩ => ⟨S16384x6144, .bf16⟩
  | .hbm, ⟨14, _⟩ => ⟨S1x2048, .f32⟩
  | .hbm, ⟨15, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S4x256x512, .f32⟩
  | .local _ .vmem, ⟨15, _⟩ => ⟨S4x1x256, .f32⟩
  | .local _ .vmem, ⟨16, _⟩ => ⟨S4x1x1, .f32⟩
  | _, _ => ⟨S2x8192x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8192x6152 : Shape := ⟨3, ![2, 8192, 6152]⟩
abbrev S8 : Shape := ⟨1, ![8]⟩
abbrev S2048 : Shape := ⟨1, ![2048]⟩
abbrev S2x8192x1024 : Shape := ⟨3, ![2, 8192, 1024]⟩
abbrev S2x8192x2048 : Shape := ⟨3, ![2, 8192, 2048]⟩
abbrev S2x8192x4 : Shape := ⟨3, ![2, 8192, 4]⟩
abbrev S4 : Shape := ⟨1, ![4]⟩
abbrev S1x1x4 : Shape := ⟨3, ![1, 1, 4]⟩
abbrev S_ : Shape := ⟨0, ![]⟩
abbrev S2x128x64x4x256 : Shape := ⟨5, ![2, 128, 64, 4, 256]⟩
abbrev S128x2x4x64x256 : Shape := ⟨5, ![128, 2, 4, 64, 256]⟩
abbrev S2x128x64x4x512 : Shape := ⟨5, ![2, 128, 64, 4, 512]⟩
abbrev S128x2x4x64x512 : Shape := ⟨5, ![128, 2, 4, 64, 512]⟩
abbrev S2x128x64x4 : Shape := ⟨4, ![2, 128, 64, 4]⟩
abbrev S128x2x4x64 : Shape := ⟨4, ![128, 2, 4, 64]⟩
abbrev S64x64 : Shape := ⟨2, ![64, 64]⟩
abbrev S2x4x256x512 : Shape := ⟨4, ![2, 4, 256, 512]⟩
abbrev S2x4x256 : Shape := ⟨3, ![2, 4, 256]⟩
abbrev S2x4 : Shape := ⟨2, ![2, 4]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S1x2x4x64 : Shape := ⟨4, ![1, 2, 4, 64]⟩
abbrev S2x4x64 : Shape := ⟨3, ![2, 4, 64]⟩
abbrev S2x4x1 : Shape := ⟨3, ![2, 4, 1]⟩
abbrev S2x4x64x1 : Shape := ⟨4, ![2, 4, 64, 1]⟩
abbrev S2x4x1x64 : Shape := ⟨4, ![2, 4, 1, 64]⟩
abbrev S2x4x64x64 : Shape := ⟨4, ![2, 4, 64, 64]⟩
abbrev S2x4x1x1 : Shape := ⟨4, ![2, 4, 1, 1]⟩
abbrev S2x8192x4x512 : Shape := ⟨4, ![2, 8192, 4, 512]⟩
abbrev S2x8192x4x1 : Shape := ⟨4, ![2, 8192, 4, 1]⟩
abbrev S4x512 : Shape := ⟨2, ![4, 512]⟩
abbrev S1x1x4x512 : Shape := ⟨4, ![1, 1, 4, 512]⟩
abbrev S16384x2048 : Shape := ⟨2, ![16384, 2048]⟩

abbrev nBuf : Space → Nat
  | .hbm => 213
  | .vmem => 0
  | .smem => 0
  | _ => 0

abbrev hbmTy0_0 (i : Nat) : BufTy := match i % 128 with
  | 0 => ⟨S2x8192x6152, .f32⟩
  | 1 => ⟨S8, .f32⟩
  | 2 => ⟨S2048, .f32⟩
  | 3 => ⟨S2x8192x1024, .f32⟩
  | 4 => ⟨S2x8192x1024, .f32⟩
  | 5 => ⟨S2x8192x2048, .f32⟩
  | 6 => ⟨S2x8192x2048, .f32⟩
  | 7 => ⟨S2x8192x4, .f32⟩
  | 8 => ⟨S2x8192x4, .f32⟩
  | 9 => ⟨S4, .f32⟩
  | 10 => ⟨S1x1x4, .f32⟩
  | 11 => ⟨S2x8192x4, .f32⟩
  | 12 => ⟨S2x8192x4, .f32⟩
  | 13 => ⟨S4, .f32⟩
  | 14 => ⟨S1x1x4, .f32⟩
  | 15 => ⟨S2x8192x4, .f32⟩
  | 16 => ⟨S2x8192x4, .f32⟩
  | 17 => ⟨S2x8192x4, .f32⟩
  | 18 => ⟨S2x8192x4, .f32⟩
  | 19 => ⟨S2x8192x4, .f32⟩
  | 20 => ⟨S2x8192x4, .f32⟩
  | 21 => ⟨S_, .f32⟩
  | 22 => ⟨S2x8192x1024, .f32⟩
  | 23 => ⟨S2x8192x1024, .f32⟩
  | 24 => ⟨S2x128x64x4x256, .f32⟩
  | 25 => ⟨S128x2x4x64x256, .f32⟩
  | 26 => ⟨S2x128x64x4x256, .f32⟩
  | 27 => ⟨S128x2x4x64x256, .f32⟩
  | 28 => ⟨S2x128x64x4x512, .f32⟩
  | 29 => ⟨S128x2x4x64x512, .f32⟩
  | 30 => ⟨S2x128x64x4, .f32⟩
  | 31 => ⟨S128x2x4x64, .f32⟩
  | 32 => ⟨S2x128x64x4, .f32⟩
  | 33 => ⟨S128x2x4x64, .f32⟩
  | 34 => ⟨S_, .i1⟩
  | 35 => ⟨S64x64, .i1⟩
  | 36 => ⟨S64x64, .i32⟩
  | 37 => ⟨S_, .i32⟩
  | 38 => ⟨S64x64, .i32⟩
  | 39 => ⟨S64x64, .i32⟩
  | 40 => ⟨S64x64, .i32⟩
  | 41 => ⟨S64x64, .i1⟩
  | 42 => ⟨S_, .i1⟩
  | 43 => ⟨S64x64, .i1⟩
  | 44 => ⟨S64x64, .i1⟩
  | 45 => ⟨S_, .f32⟩
  | 46 => ⟨S2x4x256x512, .f32⟩
  | 47 => ⟨S_, .f32⟩
  | 48 => ⟨S2x4x256, .f32⟩
  | 49 => ⟨S_, .f32⟩
  | 50 => ⟨S2x4, .f32⟩
  | 51 => ⟨S_, .f32⟩
  | 52 => ⟨S128x2x4x64x512, .f32⟩
  | 53 => ⟨S_, .i32⟩
  | 54 => ⟨S128x2x4x64x256, .f32⟩
  | 55 => ⟨S128x2x4x64x256, .f32⟩
  | 56 => ⟨S128x2x4x64x512, .f32⟩
  | 57 => ⟨S128x2x4x64, .f32⟩
  | 58 => ⟨S128x2x4x64, .f32⟩
  | 59 => ⟨S64x64, .i1⟩
  | 60 => ⟨S_, .i32⟩
  | 61 => ⟨S2x4x256x512, .f32⟩
  | 62 => ⟨S2x4x256, .f32⟩
  | 63 => ⟨S2x4, .f32⟩
  | 64 => ⟨S128x2x4x64x512, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S1x2x4x64x256, .f32⟩
  | 72 => ⟨S2x4x64x256, .f32⟩
  | 73 => ⟨S_, .i32⟩
  | 74 => ⟨S_, .i32⟩
  | 75 => ⟨S_, .i32⟩
  | 76 => ⟨S_, .i32⟩
  | 77 => ⟨S1x2x4x64x256, .f32⟩
  | 78 => ⟨S2x4x64x256, .f32⟩
  | 79 => ⟨S_, .i32⟩
  | 80 => ⟨S_, .i32⟩
  | 81 => ⟨S_, .i32⟩
  | 82 => ⟨S_, .i32⟩
  | 83 => ⟨S1x2x4x64x512, .f32⟩
  | 84 => ⟨S2x4x64x512, .f32⟩
  | 85 => ⟨S_, .i32⟩
  | 86 => ⟨S_, .i32⟩
  | 87 => ⟨S_, .i32⟩
  | 88 => ⟨S1x2x4x64, .f32⟩
  | 89 => ⟨S2x4x64, .f32⟩
  | 90 => ⟨S_, .i32⟩
  | 91 => ⟨S_, .i32⟩
  | 92 => ⟨S_, .i32⟩
  | 93 => ⟨S1x2x4x64, .f32⟩
  | 94 => ⟨S2x4x64, .f32⟩
  | 95 => ⟨S_, .f32⟩
  | 96 => ⟨S_, .f32⟩
  | 97 => ⟨S2x4x64, .f32⟩
  | 98 => ⟨S2x4x1, .f32⟩
  | 99 => ⟨S2x4x64, .f32⟩
  | 100 => ⟨S2x4x64, .f32⟩
  | 101 => ⟨S2x4x64x1, .f32⟩
  | 102 => ⟨S2x4x1x64, .f32⟩
  | 103 => ⟨S2x4x64x64, .f32⟩
  | 104 => ⟨S2x4x64x64, .f32⟩
  | 105 => ⟨S2x4x64x64, .f32⟩
  | 106 => ⟨S2x4x1x64, .f32⟩
  | 107 => ⟨S2x4x64x64, .f32⟩
  | 108 => ⟨S2x4x64x64, .f32⟩
  | 109 => ⟨S_, .f32⟩
  | 110 => ⟨S_, .f32⟩
  | 111 => ⟨S2x4x64x64, .i1⟩
  | 112 => ⟨S2x4x64x64, .f32⟩
  | 113 => ⟨S2x4x64x64, .f32⟩
  | 114 => ⟨S_, .f32⟩
  | 115 => ⟨S2x4x64, .f32⟩
  | 116 => ⟨S2x4x64, .f32⟩
  | 117 => ⟨S2x4x64, .f32⟩
  | 118 => ⟨S2x4x64, .f32⟩
  | 119 => ⟨S2x4x64x64, .f32⟩
  | 120 => ⟨S2x4x64x1, .f32⟩
  | 121 => ⟨S2x4x64x64, .f32⟩
  | 122 => ⟨S2x4x64x64, .f32⟩
  | 123 => ⟨S2x4x64x64, .f32⟩
  | 124 => ⟨S2x4x64x64, .f32⟩
  | 125 => ⟨S2x4x64x1, .f32⟩
  | 126 => ⟨S2x4x64x512, .f32⟩
  | 127 => ⟨S2x4x64x512, .f32⟩
  | _ => ⟨S2x8192x6152, .f32⟩

abbrev hbmTy0_1 (i : Nat) : BufTy := match i % 128 with
  | 0 => ⟨S2x4x64x512, .f32⟩
  | 1 => ⟨S2x4x64x512, .f32⟩
  | 2 => ⟨S2x4x64x512, .f32⟩
  | 3 => ⟨S2x4x64, .f32⟩
  | 4 => ⟨S2x4x64, .f32⟩
  | 5 => ⟨S_, .f32⟩
  | 6 => ⟨S2x4x64, .f32⟩
  | 7 => ⟨S2x4x64, .f32⟩
  | 8 => ⟨S2x4x64, .f32⟩
  | 9 => ⟨S2x4x64, .f32⟩
  | 10 => ⟨S2x4x64, .f32⟩
  | 11 => ⟨S2x4x64, .f32⟩
  | 12 => ⟨S2x4x64x1, .f32⟩
  | 13 => ⟨S2x4x64x512, .f32⟩
  | 14 => ⟨S2x4x64x512, .f32⟩
  | 15 => ⟨S2x4x1, .f32⟩
  | 16 => ⟨S2x4, .f32⟩
  | 17 => ⟨S2x4x1, .f32⟩
  | 18 => ⟨S2x4x64, .f32⟩
  | 19 => ⟨S2x4x64, .f32⟩
  | 20 => ⟨S2x4x64, .f32⟩
  | 21 => ⟨S2x4, .f32⟩
  | 22 => ⟨S_, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4x1, .f32⟩
  | 29 => ⟨S2x4x64, .f32⟩
  | 30 => ⟨S2x4x64, .f32⟩
  | 31 => ⟨S2x4x64, .f32⟩
  | 32 => ⟨S2x4x1x1, .f32⟩
  | 33 => ⟨S2x4x256x512, .f32⟩
  | 34 => ⟨S2x4x256x512, .f32⟩
  | 35 => ⟨S2x4x64x1, .f32⟩
  | 36 => ⟨S2x4x64x256, .f32⟩
  | 37 => ⟨S2x4x64x256, .f32⟩
  | 38 => ⟨S2x4x256x512, .f32⟩
  | 39 => ⟨S2x4x256x512, .f32⟩
  | 40 => ⟨S2x4x1, .f32⟩
  | 41 => ⟨S2x4x256, .f32⟩
  | 42 => ⟨S2x4x256, .f32⟩
  | 43 => ⟨S2x4x256, .f32⟩
  | 44 => ⟨S2x4x256, .f32⟩
  | 45 => ⟨S1x2x4x64x512, .f32⟩
  | 46 => ⟨S_, .i32⟩
  | 47 => ⟨S_, .i32⟩
  | 48 => ⟨S_, .i32⟩
  | 49 => ⟨S_, .i32⟩
  | 50 => ⟨S128x2x4x64x512, .f32⟩
  | 51 => ⟨S_, .i32⟩
  | 52 => ⟨S_, .i32⟩
  | 53 => ⟨S2x128x64x4x512, .f32⟩
  | 54 => ⟨S2x8192x4x512, .f32⟩
  | 55 => ⟨S2x8192x4x512, .f32⟩
  | 56 => ⟨S_, .f32⟩
  | 57 => ⟨S2x8192x4, .f32⟩
  | 58 => ⟨S2x8192x4x1, .f32⟩
  | 59 => ⟨S_, .f32⟩
  | 60 => ⟨S2x8192x4x1, .f32⟩
  | 61 => ⟨S2x8192x4x1, .f32⟩
  | 62 => ⟨S_, .f32⟩
  | 63 => ⟨S2x8192x4x1, .f32⟩
  | 64 => ⟨S2x8192x4x1, .f32⟩
  | 65 => ⟨S2x8192x4x1, .f32⟩
  | 66 => ⟨S2x8192x4x512, .f32⟩
  | 67 => ⟨S2x8192x4x512, .f32⟩
  | 68 => ⟨S4x512, .f32⟩
  | 69 => ⟨S1x1x4x512, .f32⟩
  | 70 => ⟨S2x8192x4x512, .f32⟩
  | 71 => ⟨S2x8192x4x512, .f32⟩
  | 72 => ⟨S2x8192x2048, .f32⟩
  | 73 => ⟨S2x8192x2048, .f32⟩
  | 74 => ⟨S2x8192x2048, .f32⟩
  | 75 => ⟨S2x8192x2048, .f32⟩
  | 76 => ⟨S_, .f32⟩
  | 77 => ⟨S2x8192x2048, .f32⟩
  | 78 => ⟨S2x8192x2048, .f32⟩
  | 79 => ⟨S_, .f32⟩
  | 80 => ⟨S2x8192x2048, .f32⟩
  | 81 => ⟨S2x8192x2048, .f32⟩
  | 82 => ⟨S2x8192x2048, .f32⟩
  | 83 => ⟨S16384x2048, .f32⟩
  | 84 => ⟨S16384x2048, .bf16⟩
  | _ => ⟨S2x8192x6152, .f32⟩

abbrev hbmTy (i : Nat) : BufTy := match i / 128 with
  | 0 => hbmTy0_0 i
  | 1 => hbmTy0_1 i
  | _ => ⟨S2x8192x6152, .f32⟩

abbrev bufTy : (tb : Table) → Fin (tcTables nBuf tb) → BufTy
  | .hbm, ⟨i, _⟩ => hbmTy i
  | _, _ => ⟨S2x8192x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c : Ref sig .tc := ⟨.hbm, 34, rfl⟩
abbrev main_v30 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v31 : Ref sig .tc := ⟨.hbm, 44, rfl⟩
abbrev main_cst_0 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_c_4 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev main_v36_5 : Ref sig .tc := ⟨.hbm, 59, rfl⟩
abbrev main_v36_6 : Ref sig .tc := ⟨.hbm, 60, rfl⟩
abbrev main_v36_7 : Ref sig .tc := ⟨.hbm, 61, rfl⟩
abbrev main_v36_8 : Ref sig .tc := ⟨.hbm, 62, rfl⟩
abbrev main_v36_9 : Ref sig .tc := ⟨.hbm, 63, rfl⟩
abbrev main_v36_10 : Ref sig .tc := ⟨.hbm, 64, rfl⟩
abbrev main_while0c_c_20 : Ref sig .tc := ⟨.hbm, 65, rfl⟩
abbrev main_while0c_v64 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_c_2 : Ref sig .tc := ⟨.hbm, 70, rfl⟩
abbrev main_while0b_call1_v0 : Ref sig .tc := ⟨.hbm, 71, rfl⟩
abbrev main_while0b_v64 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v65 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v66 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_v0 : Ref sig .tc := ⟨.hbm, 88, rfl⟩
abbrev main_while0b_v67 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_v0 : Ref sig .tc := ⟨.hbm, 93, rfl⟩
abbrev main_while0b_v68 : Ref sig .tc := ⟨.hbm, 94, rfl⟩
abbrev main_while0b_call6_call0_cst : Ref sig .tc := ⟨.hbm, 95, rfl⟩
abbrev main_while0b_call6_call0_v0 : Ref sig .tc := ⟨.hbm, 96, rfl⟩
abbrev main_while0b_v69 : Ref sig .tc := ⟨.hbm, 97, rfl⟩
abbrev main_while0b_v70 : Ref sig .tc := ⟨.hbm, 98, rfl⟩
abbrev main_while0b_v71 : Ref sig .tc := ⟨.hbm, 99, rfl⟩
abbrev main_while0b_v72 : Ref sig .tc := ⟨.hbm, 100, rfl⟩
abbrev main_while0b_v73 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_v80 : Ref sig .tc := ⟨.hbm, 108, rfl⟩
abbrev main_while0b_cst_20 : Ref sig .tc := ⟨.hbm, 109, rfl⟩
abbrev main_while0b_call7_v0 : Ref sig .tc := ⟨.hbm, 110, rfl⟩
abbrev main_while0b_call7_v1 : Ref sig .tc := ⟨.hbm, 111, rfl⟩
abbrev main_while0b_call7_v2 : Ref sig .tc := ⟨.hbm, 112, rfl⟩
abbrev main_while0b_v81 : Ref sig .tc := ⟨.hbm, 113, rfl⟩
abbrev main_while0b_cst_21 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_v99 : Ref sig .tc := ⟨.hbm, 132, rfl⟩
abbrev main_while0b_cst_22 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_v114 : Ref sig .tc := ⟨.hbm, 148, rfl⟩
abbrev main_while0b_v115 : Ref sig .tc := ⟨.hbm, 149, rfl⟩
abbrev main_while0b_cst_23 : Ref sig .tc := ⟨.hbm, 150, rfl⟩
abbrev main_while0b_v116 : Ref sig .tc := ⟨.hbm, 151, rfl⟩
abbrev main_while0b_v117 : Ref sig .tc := ⟨.hbm, 152, rfl⟩
abbrev main_while0b_v118 : Ref sig .tc := ⟨.hbm, 153, rfl⟩
abbrev main_while0b_v119 : Ref sig .tc := ⟨.hbm, 154, rfl⟩
abbrev main_while0b_v120 : Ref sig .tc := ⟨.hbm, 155, rfl⟩
abbrev main_while0b_v121 : Ref sig .tc := ⟨.hbm, 156, rfl⟩
abbrev main_while0b_v122 : Ref sig .tc := ⟨.hbm, 157, rfl⟩
abbrev main_while0b_v123 : Ref sig .tc := ⟨.hbm, 158, rfl⟩
abbrev main_while0b_v124 : Ref sig .tc := ⟨.hbm, 159, rfl⟩
abbrev main_while0b_v125 : Ref sig .tc := ⟨.hbm, 160, rfl⟩
abbrev main_while0b_v126 : Ref sig .tc := ⟨.hbm, 161, rfl⟩
abbrev main_while0b_v127 : Ref sig .tc := ⟨.hbm, 162, rfl⟩
abbrev main_while0b_v128 : Ref sig .tc := ⟨.hbm, 163, rfl⟩
abbrev main_while0b_v129 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_call8_v0 : Ref sig .tc := ⟨.hbm, 173, rfl⟩
abbrev main_while0b_call8_c : Ref sig .tc := ⟨.hbm, 174, rfl⟩
abbrev main_while0b_call8_c_0 : Ref sig .tc := ⟨.hbm, 175, rfl⟩
abbrev main_while0b_call8_c_1 : Ref sig .tc := ⟨.hbm, 176, rfl⟩
abbrev main_while0b_call8_c_2 : Ref sig .tc := ⟨.hbm, 177, rfl⟩
abbrev main_while0b_v138 : Ref sig .tc := ⟨.hbm, 178, rfl⟩
abbrev main_while0b_c_24 : Ref sig .tc := ⟨.hbm, 179, rfl⟩
abbrev main_while0b_v139 : Ref sig .tc := ⟨.hbm, 180, rfl⟩
abbrev main_v37 : Ref sig .tc := ⟨.hbm, 181, rfl⟩
abbrev main_v38 : Ref sig .tc := ⟨.hbm, 182, rfl⟩
abbrev main_v39 : Ref sig .tc := ⟨.hbm, 183, rfl⟩
abbrev main_cst_5 : Ref sig .tc := ⟨.hbm, 184, rfl⟩
abbrev main_v40 : Ref sig .tc := ⟨.hbm, 185, rfl⟩
abbrev main_v41 : Ref sig .tc := ⟨.hbm, 186, rfl⟩
abbrev main_cst_6 : Ref sig .tc := ⟨.hbm, 187, rfl⟩
abbrev main_v42 : Ref sig .tc := ⟨.hbm, 188, rfl⟩
abbrev main_v43 : Ref sig .tc := ⟨.hbm, 189, rfl⟩
abbrev main_cst_7 : Ref sig .tc := ⟨.hbm, 190, rfl⟩
abbrev main_v44 : Ref sig .tc := ⟨.hbm, 191, rfl⟩
abbrev main_v45 : Ref sig .tc := ⟨.hbm, 192, rfl⟩
abbrev main_v46 : Ref sig .tc := ⟨.hbm, 193, rfl⟩
abbrev main_v47 : Ref sig .tc := ⟨.hbm, 194, rfl⟩
abbrev main_v48 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_cst_8 : Ref sig .tc := ⟨.hbm, 204, rfl⟩
abbrev main_v57 : Ref sig .tc := ⟨.hbm, 205, rfl⟩
abbrev main_v58 : Ref sig .tc := ⟨.hbm, 206, rfl⟩
abbrev main_cst_9 : Ref sig .tc := ⟨.hbm, 207, rfl⟩
abbrev main_v59 : Ref sig .tc := ⟨.hbm, 208, rfl⟩
abbrev main_v60 : Ref sig .tc := ⟨.hbm, 209, rfl⟩
abbrev main_v61 : Ref sig .tc := ⟨.hbm, 210, rfl⟩
abbrev main_v62 : Ref sig .tc := ⟨.hbm, 211, rfl⟩
abbrev main_v63 : Ref sig .tc := ⟨.hbm, 212, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S1x1x2048x5504 : Shape := ⟨4, ![1, 1, 2048, 5504]⟩
abbrev S1x1x5504x2048 : Shape := ⟨4, ![1, 1, 5504, 2048]⟩
abbrev S1x2048 : Shape := ⟨2, ![1, 2048]⟩
abbrev S1024x2048 : Shape := ⟨2, ![1024, 2048]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S1x1x512x512 : Shape := ⟨4, ![1, 1, 512, 512]⟩
abbrev S512x512 : Shape := ⟨2, ![512, 512]⟩
abbrev S1x1x2048x384 : Shape := ⟨4, ![1, 1, 2048, 384]⟩
abbrev S2048x384 : Shape := ⟨2, ![2048, 384]⟩
abbrev S1024x384 : Shape := ⟨2, ![1024, 384]⟩
abbrev S1x1x384x512 : Shape := ⟨4, ![1, 1, 384, 512]⟩
abbrev S384x512 : Shape := ⟨2, ![384, 512]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048x5504, .bf16⟩
  | .hbm, ⟨6, _⟩ => ⟨S1x1x2048x5504, .bf16⟩
  | .hbm, ⟨7, _⟩ => ⟨S2048x5504, .bf16⟩
  | .hbm, ⟨8, _⟩ => ⟨S1x1x2048x5504, .bf16⟩
  | .hbm, ⟨9, _⟩ => ⟨S5504x2048, .bf16⟩
  | .hbm, ⟨10, _⟩ => ⟨S1x1x5504x2048, .bf16⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c4_i32 : BitVec 32 := 4#32
  let v11 : BitVec 32 := Scalar.addi c0_i32_5 c4_i32
  let c1_i32 : BitVec 32 := 1#32
  ⟨c0_i32_5, v11, c1_i32⟩
def k0_mult1 (k0_t1 : Fin k0_t1_loop.trips) : BitVec 32 :=
  let c0_i32_5 : BitVec 32 := 0#32
  let c1_i32 : BitVec 32 := 1#32
  let arg9 : BitVec 32 := Scf.iv c0_i32_5 c1_i32 k0_t1
  let c256_i32 : BitVec 32 := 256#32
  let v55 : BitVec 32 := Scalar.muli arg9 c256_i32
  v55
def k0_off1 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c256_i32 : BitVec 32 := 256#32
  let v55 : BitVec 32 := Scalar.muli arg9 c256_i32
  let v56 : BitVec 32 := v55
  let v57 : Index := Scalar.indexCast v56
  let c0_54 : Index := 0#32
  ![v57.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5504, .f32⟩
  | .hbm, ⟨22, _⟩ => ⟨S16384x5504, .f32⟩
  | .hbm, ⟨23, _⟩ => ⟨S16384x5504, .f32⟩
  | .hbm, ⟨24, _⟩ => ⟨S_, .f32⟩
  | .hbm, ⟨25, _⟩ => ⟨S16384x5504, .f32⟩
  | .hbm, ⟨26, _⟩ => ⟨S16384x5504, .f32⟩
  | .hbm, ⟨27, _⟩ => ⟨S_, .f32⟩
  | .hbm, ⟨28, _⟩ => ⟨S16384x5504, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel3.lean ====
abbrev S16384x2048 : Shape := ⟨2, ![16384, 2048]⟩
abbrev S2x8192x256 : Shape := ⟨3, ![2, 8192, 256]⟩
abbrev S2048 : Shape := ⟨1, ![2048]⟩
abbrev S256x2048 : Shape := ⟨2, ![256, 2048]⟩
abbrev S2048x2048 : Shape := ⟨2, ![2048, 2048]⟩
abbrev S1x16384x256 : Shape := ⟨3, ![1, 16384, 256]⟩
abbrev S1x256x2048 : Shape := ⟨3, ![1, 256, 2048]⟩
abbrev S1x2048x2048 : Shape := ⟨3, ![1, 2048, 2048]⟩
abbrev S1x2048 : Shape := ⟨2, ![1, 2048]⟩
abbrev S512x2048 : Shape := ⟨2, ![512, 2048]⟩
abbrev S1x512x256 : Shape := ⟨3, ![1, 512, 256]⟩
abbrev S256 : Shape := ⟨1, ![256]⟩
abbrev S256x1 : Shape := ⟨2, ![256, 1]⟩
abbrev S512x256 : Shape := ⟨2, ![512, 256]⟩
abbrev S1x2048x512 : Shape := ⟨3, ![1, 2048, 512]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 12
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x8192x256, .f32⟩
  | .hbm, ⟨2, _⟩ => ⟨S2048, .f32⟩
  | .hbm, ⟨3, _⟩ => ⟨S256x2048, .f32⟩
  | .hbm, ⟨4, _⟩ => ⟨S2048x2048, .f32⟩
  | .hbm, ⟨5, _⟩ => ⟨S1x16384x256, .f32⟩
  | .hbm, ⟨6, _⟩ => ⟨S256x2048, .bf16⟩
  | .hbm, ⟨7, _⟩ => ⟨S1x256x2048, .bf16⟩
  | .hbm, ⟨8, _⟩ => ⟨S2048x2048, .bf16⟩
  | .hbm, ⟨9, _⟩ => ⟨S1x2048x2048, .bf16⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v73 : BitVec 32 := Scalar.muli arg8 c256_i32
  v73
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v73 : BitVec 32 := Scalar.muli arg8 c256_i32
  let v74 : BitVec 32 := v73
  let v75 : Index := Scalar.indexCast v74
  let c0_61 : Index := 0#32
  ![v75.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S2x8192x256 : Shape := ⟨3, ![2, 8192, 256]⟩
abbrev S2048 : Shape := ⟨1, ![2048]⟩
abbrev S256x2048 : Shape := ⟨2, ![256, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x256 : Shape := ⟨2, ![16384, 256]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x8192x256, .f32⟩
  | .hbm, ⟨2, _⟩ => ⟨S2048, .f32⟩
  | .hbm, ⟨3, _⟩ => ⟨S256x2048, .f32⟩
  | .hbm, ⟨4, _⟩ => ⟨S2048x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x256, .f32⟩
  | .hbm, ⟨31, _⟩ => ⟨S16384x2048, .f32⟩
  | .hbm, ⟨32, _⟩ => ⟨S16384x2048, .f32⟩
  | .hbm, ⟨33, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.FfnRuns.lean ====
/-
  The kernel's body, run once per case of its conditionals, on any whole staging buffers and over any
  float values.

  The grid's second coordinate `j` walks the eleven column blocks of the hidden layer.  At `j = 0` the
  body normalises its rows into the scratch and starts the output block; at `0 < j < 10` it adds a
  block's contribution; at `j = 10`, whose block overhangs the arrays, it adds the contribution of the
  first 384 columns only.  The pieces each run leaves in the buffers it stores into are the run's own
  finds.
-/
module

public import proofs.«01_k».proof.Proof.Gen.Kernel2Ideal.Frame
public import proofs.«01_k».proof.Proof.Gen.Kernel2Ideal.Loops

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1200000 in
/-- At the first column block: the output block and the scratch are written afresh.  The output's pieces are
    computed from the scratch, which the normalisation has just written over what it held (`g`). -/
def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : k0_cond1 i = 1#1) (h2 : ¬k0_cond2 i = 1#1) (h3 : ¬k0_cond3 i = 1#1)
    (x0 : Vec F S1024x2048 .f32) (x1 : Vec F S1x2048 .f32) (x2 : Vec F S1x1x2048x512 .bf16) (x3 : Vec F S1x1x2048x512 .bf16) (x4 : Vec F S1x1x512x2048 .bf16) :
    Σ' (L : BufTy.Contents (Elt F) arg8.view.ty → List (View.Piece (Elt F) S1024x2048 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f g, (arg7.view.loc (c : Thread nD τ) ↦[arg7.view.set]{fullShare} arg7.view.writes (Elt F) f (L g)) ∗ arg8.view.loc (c : Thread nD τ) ↦[arg8.view.set]{fullShare} arg8.view.writes (Elt F) g LS)) -∗ K ⟨⟩))
          ⊢ wp frame (wpE (defs₀ (F := F)) Variants.none c none) E (cc0_ffn i arg2 harg2 arg3 harg3 arg4 harg4 arg5 harg5 arg6 harg6 arg7 harg7 arg8 harg8) K } := by
  refine ⟨?_, ?_, fun E K => ?run⟩
  case run =>
    simp only [cc0_ffn_eq_skeleton]; unfold cc0_ffn_skel
    simp only [k0_part1_eq_skeleton, k0_part2_eq_skeleton, k0_part3_eq_skeleton]
    rw [dif_pos h1, dif_neg h2, dif_neg h3]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists f7; iexists f8
    isplitl [H7]; · iexact H7
    iexact H8

set_option maxHeartbeats 1200000 in
/-- At an inner column block: the output block is added to, the scratch is read. -/
def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : ¬k0_cond1 i = 1#1) (h2 : k0_cond2 i = 1#1) (h3 : ¬k0_cond3 i = 1#1)
    (x0 : Vec F S1024x2048 .f32) (x1 : Vec F S1x2048 .f32) (x2 : Vec F S1x1x2048x512 .bf16) (x3 : Vec F S1x1x2048x512 .bf16) (x4 : Vec F S1x1x512x2048 .bf16) (acc : Vec F S1024x2048 .f32) (xn : Vec F S1024x2048 .bf16) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare acc ∗ owns (c : Thread nD τ) arg8 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ owns (c : Thread nD τ) arg8 fullShare xn) -∗ K ⟨⟩))
          ⊢ wp frame (wpE (defs₀ (F := F)) Variants.none c none) E (cc0_ffn i arg2 harg2 arg3 harg3 arg4 harg4 arg5 harg5 arg6 harg6 arg7 harg7 arg8 harg8) K } := by
  refine ⟨?_, fun E K => ?run⟩
  case run =>
    simp only [cc0_ffn_eq_skeleton]; unfold cc0_ffn_skel
    simp only [k0_part1_eq_skeleton, k0_part2_eq_skeleton, k0_part3_eq_skeleton]
    rw [dif_neg h1, dif_pos h2, dif_neg h3]; unfold k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; isplitr; · ipureintro; exact harg8.read_unread _
    iexact H8

set_option maxHeartbeats 1200000 in
/-- At the last column block: as at an inner one, on the columns inside the arrays. -/
def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : ¬k0_cond1 i = 1#1) (h2 : ¬k0_cond2 i = 1#1) (h3 : k0_cond3 i = 1#1)
    (x0 : Vec F S1024x2048 .f32) (x1 : Vec F S1x2048 .f32) (x2 : Vec F S1x1x2048x512 .bf16) (x3 : Vec F S1x1x2048x512 .bf16) (x4 : Vec F S1x1x512x2048 .bf16) (acc : Vec F S1024x2048 .f32) (xn : Vec F S1024x2048 .bf16) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare acc ∗ owns (c : Thread nD τ) arg8 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ owns (c : Thread nD τ) arg8 fullShare xn) -∗ K ⟨⟩))
          ⊢ wp frame (wpE (defs₀ (F := F)) Variants.none c none) E (cc0_ffn i arg2 harg2 arg3 harg3 arg4 harg4 arg5 harg5 arg6 harg6 arg7 harg7 arg8 harg8) K } := by
  refine ⟨?_, fun E K => ?run⟩
  case run =>
    simp only [cc0_ffn_eq_skeleton]; unfold cc0_ffn_skel
    simp only [k0_part1_eq_skeleton, k0_part2_eq_skeleton, k0_part3_eq_skeleton]
    rw [dif_neg h1, dif_neg h2, dif_pos h3]; unfold k0_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; isplitr; · ipureintro; exact harg8.read_unread _
    iexact H8

end Cert.Ffn

end
-- ==== Proof.FfnStores.lean ====
/-
  What each run of the body leaves in the buffers it stores into, as explicit lists of stores: the four
  groups of 256 normalised rows in the scratch, and the four groups of 512 columns of the output block.
-/
module

public import proofs.«01_k».proof.Proof.FfnRuns
public import Idealize.ShloMosaic.Lib.Pipeline.ReadBack

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.Sem

variable {F : FTy → Type} [FloatOps F]

/-- A group of 256 rows lies inside the block. -/
theorem rows_inb (n : ℕ) (h : n < 4) : ∀ a, (![256 * n, 0] : Fin 2 → ℕ) a + S256x2048.size a ≤ S1024x2048.size a := by
  intro a; fin_cases a
  · show 256 * n + 256 ≤ 1024; omega
  · show 0 + 2048 ≤ 2048; omega

/-- The rows of group `n`, normalised. -/
def rowPiece (x0 : Vec F S1024x2048 .f32) (x1 : Vec F S1x2048 .f32) (n : ℕ) (h : n < 4) : View.Piece (Elt F) S1024x2048 .bf16 :=
  ⟨Rect.unit (s := S1024x2048) ![256 * n, 0] S256x2048.size (rows_inb n h),
    k0_pay10 (View.ld x0 (Rect.unit (s := S1024x2048) ![256 * n, 0] S256x2048.size (rows_inb n h))) (View.ld x1 (Rect.unit (s := S1x2048) ![0, 0] S1x2048.size inb_S1x2048_S1x2048_0_0))⟩

/-- The stores of the normalisation, last first. -/
def rowPieces (x0 : Vec F S1024x2048 .f32) (x1 : Vec F S1x2048 .f32) : List (View.Piece (Elt F) S1024x2048 .bf16) :=
  [rowPiece x0 x1 3 (by decide), rowPiece x0 x1 2 (by decide), rowPiece x0 x1 1 (by decide), rowPiece x0 x1 0 (by decide)]

/-- The normalised block. -/
def normed (x0 : Vec F S1024x2048 .f32) (x1 : Vec F S1x2048 .f32) : Vec F S1024x2048 .bf16 := View.canon (rowPieces x0 x1)

/-- The output block's stores at the first column block, last first. -/
def firstPieces (x0 : Vec F S1024x2048 .f32) (xn : Vec F S1024x2048 .bf16) (x2 x3 : Vec F S1x1x2048x512 .bf16) (x4 : Vec F S1x1x512x2048 .bf16) :
    List (View.Piece (Elt F) S1024x2048 .f32) :=
  [⟨(Rect.unit (s := S1024x2048) ![0, 1536] S1024x512.size inb_S1024x2048_S1024x512_0_1536), k0_pay3 (k0_pay11 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0))) (View.ld x0 (Rect.unit (s := S1024x2048) ![0, 1536] S1024x512.size inb_S1024x2048_S1024x512_0_1536)) (View.ld x4 (Rect.unit (s := S1x1x512x2048) ![0, 0, 0, 1536] S1x1x512x512.size inb_S1x1x512x2048_S1x1x512x512_0_0_0_1536))⟩,
   ⟨(Rect.unit (s := S1024x2048) ![0, 1024] S1024x512.size inb_S1024x2048_S1024x512_0_1024), k0_pay2 (k0_pay11 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0))) (View.ld x0 (Rect.unit (s := S1024x2048) ![0, 1024] S1024x512.size inb_S1024x2048_S1024x512_0_1024)) (View.ld x4 (Rect.unit (s := S1x1x512x2048) ![0, 0, 0, 1024] S1x1x512x512.size inb_S1x1x512x2048_S1x1x512x512_0_0_0_1024))⟩,
   ⟨(Rect.unit (s := S1024x2048) ![0, 512] S1024x512.size inb_S1024x2048_S1024x512_0_512), k0_pay1 (k0_pay11 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0))) (View.ld x0 (Rect.unit (s := S1024x2048) ![0, 512] S1024x512.size inb_S1024x2048_S1024x512_0_512)) (View.ld x4 (Rect.unit (s := S1x1x512x2048) ![0, 0, 0, 512] S1x1x512x512.size inb_S1x1x512x2048_S1x1x512x512_0_0_0_512))⟩,
   ⟨(Rect.unit (s := S1024x2048) ![0, 0] S1024x512.size inb_S1024x2048_S1024x512_0_0), k0_pay12 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0)) (View.ld x0 (Rect.unit (s := S1024x2048) ![0, 0] S1024x512.size inb_S1024x2048_S1024x512_0_0)) (View.ld x4 (Rect.unit (s := S1x1x512x2048) ![0, 0, 0, 0] S1x1x512x512.size inb_S1x1x512x2048_S1x1x512x512_0_0_0_0))⟩]

/-- The output block's stores at an inner column block, last first. -/
def innerPieces (acc : Vec F S1024x2048 .f32) (xn : Vec F S1024x2048 .bf16) (x2 x3 : Vec F S1x1x2048x512 .bf16) (x4 : Vec F S1x1x512x2048 .bf16) :
    List (View.Piece (Elt F) S1024x2048 .f32) :=
  [⟨(Rect.unit (s := S1024x2048) ![0, 1536] S1024x512.size inb_S1024x2048_S1024x512_0_1536), k0_pay6 (k0_pay13 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0))) (View.ld acc (Rect.unit (s := S1024x2048) ![0, 1536] S1024x512.size inb_S1024x2048_S1024x512_0_1536)) (View.ld x4 (Rect.unit (s := S1x1x512x2048) ![0, 0, 0, 1536] S1x1x512x512.size inb_S1x1x512x2048_S1x1x512x512_0_0_0_1536))⟩,
   ⟨(Rect.unit (s := S1024x2048) ![0, 1024] S1024x512.size inb_S1024x2048_S1024x512_0_1024), k0_pay5 (k0_pay13 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0))) (View.ld acc (Rect.unit (s := S1024x2048) ![0, 1024] S1024x512.size inb_S1024x2048_S1024x512_0_1024)) (View.ld x4 (Rect.unit (s := S1x1x512x2048) ![0, 0, 0, 1024] S1x1x512x512.size inb_S1x1x512x2048_S1x1x512x512_0_0_0_1024))⟩,
   ⟨(Rect.unit (s := S1024x2048) ![0, 512] S1024x512.size inb_S1024x2048_S1024x512_0_512), k0_pay4 (k0_pay13 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0))) (k0_pay15 (View.ld acc (Rect.unit (s := S1024x2048) ![0, 512] S1024x512.size inb_S1024x2048_S1024x512_0_512))) (View.ld x4 (Rect.unit (s := S1x1x512x2048) ![0, 0, 0, 512] S1x1x512x512.size inb_S1x1x512x2048_S1x1x512x512_0_0_0_512))⟩,
   ⟨(Rect.unit (s := S1024x2048) ![0, 0] S1024x512.size inb_S1024x2048_S1024x512_0_0), k0_pay14 (View.ld xn (Rect.unit (s := S1024x2048) ![0, 0] S1024x2048.size inb_S1024x2048_S1024x2048_0_0)) (View.ld x2 (Rect.unit (s := S1x1x2048x512) ![0, 0, 0, 0] S1x1x2048x512.size inb_S1x1x2048x512_S1x1x2048x512_0_0_0_0)) (View.ld x3 (Rect.unit (s := S1x1x2048x512) ![0, 0, 0, 0] S1x1x2048x512.size inb_S1x1x2048x512_S1x1x2048x512_0_0_0_0)) (View.ld acc (Rect.unit (s := S1024x2048) ![0, 0] S1024x512.size inb_S1024x2048_S1024x512_0_0)) (View.ld x4 (Rect.unit (s := S1x1x512x2048) ![0, 0, 0, 0] S1x1x512x512.size inb_S1x1x512x2048_S1x1x512x512_0_0_0_0))⟩]

/-- The output block's stores at the last column block, last first. -/
def lastPieces (acc : Vec F S1024x2048 .f32) (xn : Vec F S1024x2048 .bf16) (x2 x3 : Vec F S1x1x2048x512 .bf16) (x4 : Vec F S1x1x512x2048 .bf16) :
    List (View.Piece (Elt F) S1024x2048 .f32) :=
  [⟨(Rect.unit (s := S1024x2048) ![0, 1536] S1024x512.size inb_S1024x2048_S1024x512_0_1536), k0_pay9 (k0_pay16 (View.ld xn (Rect.unit (s := S1024x2048) ![0, 0] S1024x2048.size inb_S1024x2048_S1024x2048_0_0)) (View.ld x2 (Rect.unit (s := S1x1x2048x512) ![0, 0, 0, 0] S1x1x2048x384.size inb_S1x1x2048x512_S1x1x2048x384_0_0_0_0)) (View.ld x3 (Rect.unit (s := S1x1x2048x512) ![0, 0, 0, 0] S1x1x2048x384.size inb_S1x1x2048x512_S1x1x2048x384_0_0_0_0))) (View.ld acc (Rect.unit (s := S1024x2048) ![0, 1536] S1024x512.size inb_S1024x2048_S1024x512_0_1536)) (View.ld x4 (Rect.unit (s := S1x1x512x2048) ![0, 0, 0, 1536] S1x1x384x512.size inb_S1x1x512x2048_S1x1x384x512_0_0_0_1536))⟩,
   ⟨(Rect.unit (s := S1024x2048) ![0, 1024] S1024x512.size inb_S1024x2048_S1024x512_0_1024), k0_pay8 (k0_pay16 (View.ld xn (Rect.unit (s := S1024x2048) ![0, 0] S1024x2048.size inb_S1024x2048_S1024x2048_0_0)) (View.ld x2 (Rect.unit (s := S1x1x2048x512) ![0, 0, 0, 0] S1x1x2048x384.size inb_S1x1x2048x512_S1x1x2048x384_0_0_0_0)) (View.ld x3 (Rect.unit (s := S1x1x2048x512) ![0, 0, 0, 0] S1x1x2048x384.size inb_S1x1x2048x512_S1x1x2048x384_0_0_0_0))) (View.ld acc (Rect.unit (s := S1024x2048) ![0, 1024] S1024x512.size inb_S1024x2048_S1024x512_0_1024)) (View.ld x4 (Rect.unit (s := S1x1x512x2048) ![0, 0, 0, 1024] S1x1x384x512.size inb_S1x1x512x2048_S1x1x384x512_0_0_0_1024))⟩,
   ⟨(Rect.unit (s := S1024x2048) ![0, 512] S1024x512.size inb_S1024x2048_S1024x512_0_512), k0_pay7 (k0_pay16 (View.ld xn (Rect.unit (s := S1024x2048) ![0, 0] S1024x2048.size inb_S1024x2048_S1024x2048_0_0)) (View.ld x2 (Rect.unit (s := S1x1x2048x512) ![0, 0, 0, 0] S1x1x2048x384.size inb_S1x1x2048x512_S1x1x2048x384_0_0_0_0)) (View.ld x3 (Rect.unit (s := S1x1x2048x512) ![0, 0, 0, 0] S1x1x2048x384.size inb_S1x1x2048x512_S1x1x2048x384_0_0_0_0))) (k0_pay18 (View.ld acc (Rect.unit (s := S1024x2048) ![0, 512] S1024x512.size inb_S1024x2048_S1024x512_0_512))) (View.ld x4 (Rect.unit (s := S1x1x512x2048) ![0, 0, 0, 512] S1x1x384x512.size inb_S1x1x512x2048_S1x1x384x512_0_0_0_512))⟩,
   ⟨(Rect.unit (s := S1024x2048) ![0, 0] S1024x512.size inb_S1024x2048_S1024x512_0_0), k0_pay17 (View.ld xn (Rect.unit (s := S1024x2048) ![0, 0] S1024x2048.size inb_S1024x2048_S1024x2048_0_0)) (View.ld x2 (Rect.unit (s := S1x1x2048x512) ![0, 0, 0, 0] S1x1x2048x384.size inb_S1x1x2048x512_S1x1x2048x384_0_0_0_0)) (View.ld x3 (Rect.unit (s := S1x1x2048x512) ![0, 0, 0, 0] S1x1x2048x384.size inb_S1x1x2048x512_S1x1x2048x384_0_0_0_0)) (View.ld acc (Rect.unit (s := S1024x2048) ![0, 0] S1024x512.size inb_S1024x2048_S1024x512_0_0)) (View.ld x4 (Rect.unit (s := S1x1x512x2048) ![0, 0, 0, 0] S1x1x384x512.size inb_S1x1x512x2048_S1x1x384x512_0_0_0_0))⟩]

set_option maxHeartbeats 2000000 in
/-- The stores of an inner column block cover the block. -/
theorem innerPieces_cover (acc : Vec F S1024x2048 .f32) (xn : Vec F S1024x2048 .bf16) (x2 x3 : Vec F S1x1x2048x512 .bf16) (x4 : Vec F S1x1x512x2048 .bf16) (y : S1024x2048.Idx) :
    ∃ pc ∈ innerPieces acc xn x2 x3 x4, y ∈ pc.1.set :=
  View.cover_of_tiledL (innerPieces acc xn x2 x3 x4) S1024x512.size (by sl_kernel_rfl) y

set_option maxHeartbeats 2000000 in
/-- The stores of the last column block cover the block. -/
theorem lastPieces_cover (acc : Vec F S1024x2048 .f32) (xn : Vec F S1024x2048 .bf16) (x2 x3 : Vec F S1x1x2048x512 .bf16) (x4 : Vec F S1x1x512x2048 .bf16) (y : S1024x2048.Idx) :
    ∃ pc ∈ lastPieces acc xn x2 x3 x4, y ∈ pc.1.set :=
  View.cover_of_tiledL (lastPieces acc xn x2 x3 x4) S1024x512.size (by sl_kernel_rfl) y

set_option maxHeartbeats 2000000 in
/-- The stores of the first column block cover the block. -/
theorem firstPieces_cover (x0 : Vec F S1024x2048 .f32) (xn : Vec F S1024x2048 .bf16) (x2 x3 : Vec F S1x1x2048x512 .bf16) (x4 : Vec F S1x1x512x2048 .bf16) (y : S1024x2048.Idx) :
    ∃ pc ∈ firstPieces x0 xn x2 x3 x4, y ∈ pc.1.set :=
  View.cover_of_tiledL (firstPieces x0 xn x2 x3 x4) S1024x512.size (by sl_kernel_rfl) y

set_option maxHeartbeats 2000000 in
/-- The stores of the normalisation cover the block. -/
theorem rowPieces_cover (x0 : Vec F S1024x2048 .f32) (x1 : Vec F S1x2048 .f32) (y : S1024x2048.Idx) :
    ∃ pc ∈ rowPieces x0 x1, y ∈ pc.1.set :=
  View.cover_of_tiledL (rowPieces x0 x1) S256x2048.size (by sl_kernel_rfl) y

set_option maxHeartbeats 4000000 in
/-- The pieces found at an inner column block. -/
theorem runB_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : ¬k0_cond1 i = 1#1) (h2 : k0_cond2 i = 1#1) (h3 : ¬k0_cond3 i = 1#1)
    (x0 : Vec F S1024x2048 .f32) (x1 : Vec F S1x2048 .f32) (x2 x3 : Vec F S1x1x2048x512 .bf16) (x4 : Vec F S1x1x512x2048 .bf16) (acc : Vec F S1024x2048 .f32) (xn : Vec F S1024x2048 .bf16) :
    (runB c i arg2 harg2 arg3 harg3 arg4 harg4 arg5 harg5 arg6 harg6 arg7 harg7 arg8 harg8 h1 h2 h3 x0 x1 x2 x3 x4 acc xn).1 = innerPieces acc xn x2 x3 x4 := by
  unfold runB innerPieces
  dsimp only
  sl_unfold_words
  simp only [View.readAt_eq_ld, harg2.read_unread, harg3.read_unread, harg4.read_unread, harg5.read_unread, harg6.read_unread, harg7.read_unread, harg8.read_unread]

set_option maxHeartbeats 4000000 in
/-- The pieces found at the last column block. -/
theorem runC_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : ¬k0_cond1 i = 1#1) (h2 : ¬k0_cond2 i = 1#1) (h3 : k0_cond3 i = 1#1)
    (x0 : Vec F S1024x2048 .f32) (x1 : Vec F S1x2048 .f32) (x2 x3 : Vec F S1x1x2048x512 .bf16) (x4 : Vec F S1x1x512x2048 .bf16) (acc : Vec F S1024x2048 .f32) (xn : Vec F S1024x2048 .bf16) :
    (runC c i arg2 harg2 arg3 harg3 arg4 harg4 arg5 harg5 arg6 harg6 arg7 harg7 arg8 harg8 h1 h2 h3 x0 x1 x2 x3 x4 acc xn).1 = lastPieces acc xn x2 x3 x4 := by
  unfold runC lastPieces
  dsimp only
  sl_unfold_words
  simp only [View.readAt_eq_ld, harg2.read_unread, harg3.read_unread, harg4.read_unread, harg5.read_unread, harg6.read_unread, harg7.read_unread, harg8.read_unread]

/-- The pieces one trip of the normalisation finds: its group's rows. -/
theorem trip_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : k0_cond1 i = 1#1)
    (x0 : Vec F S1024x2048 .f32) (x1 : Vec F S1x2048 .f32) (k : Fin k0_t1_loop.trips) (hk : k.val < 4) :
    tripL_k0_t1 (F := F) Variants.none c none i arg2 harg2 arg3 harg3 arg4 harg4 arg5 harg5 arg6 harg6 arg7 harg7 arg8 harg8 h1 (harg2.unread x0) (harg3.unread x1) k = [rowPiece x0 x1 k.val hk] := by
  unfold tripL_k0_t1 trip_k0_t1
  dsimp only
  sl_unfold_words
  simp only [View.readAt_eq_ld, harg2.read_unread, harg3.read_unread, harg4.read_unread, harg5.read_unread, harg6.read_unread, harg7.read_unread, harg8.read_unread]
  have key : ∀ (o : Fin 2 → ℕ) (ho : ∀ a, o a + S256x2048.size a ≤ S1024x2048.size a), o = ![256 * k.val, 0] →
      ([⟨Rect.unit (s := S1024x2048) o S256x2048.size ho,
        k0_pay10 (View.ld x0 (Rect.unit (s := S1024x2048) o S256x2048.size ho)) (View.ld x1 (Rect.unit (s := S1x2048) ![0, 0] S1x2048.size inb_S1x2048_S1x2048_0_0))⟩] : List (View.Piece (Elt F) S1024x2048 .bf16)) = [rowPiece x0 x1 k.val hk] := by
    rintro _ _ rfl
    rfl
  exact key _ _ (k0_off1_eq k)

/-- The pieces of the whole normalisation. -/
theorem loop_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : k0_cond1 i = 1#1)
    (x0 : Vec F S1024x2048 .f32) (x1 : Vec F S1x2048 .f32) :
    pb_k0_t1 (F := F) Variants.none c none i arg2 harg2 arg3 harg3 arg4 harg4 arg5 harg5 arg6 harg6 arg7 harg7 arg8 harg8 h1 (harg2.unread x0) (harg3.unread x1) k0_t1_loop.trips = rowPieces x0 x1 := by
  have ht : k0_t1_loop.trips = 4 := by decide
  have step := fun (k : Fin k0_t1_loop.trips) => pb_k0_t1_succ (F := F) Variants.none c none i arg2 harg2 arg3 harg3 arg4 harg4 arg5 harg5 arg6 harg6 arg7 harg7 arg8 harg8 h1 (harg2.unread x0) (harg3.unread x1) k
  have piece := fun (k : Fin k0_t1_loop.trips) => trip_pieces c i arg2 harg2 arg3 harg3 arg4 harg4 arg5 harg5 arg6 harg6 arg7 harg7 arg8 harg8 h1 x0 x1 k (ht ▸ k.isLt)
  have s0 := step ⟨0, by rw [ht]; decide⟩
  have s1 := step ⟨1, by rw [ht]; decide⟩
  have s2 := step ⟨2, by rw [ht]; decide⟩
  have s3 := step ⟨3, by rw [ht]; decide⟩
  rw [piece] at s0 s1 s2 s3
  rw [ht]
  refine s3.trans ?_
  rw [s2, s1, s0]
  rfl

set_option maxHeartbeats 4000000 in
/-- The pieces found at the first column block. -/
theorem runA_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : k0_cond1 i = 1#1) (h2 : ¬k0_cond2 i = 1#1) (h3 : ¬k0_cond3 i = 1#1)
    (x0 : Vec F S1024x2048 .f32) (x1 : Vec F S1x2048 .f32) (x2 x3 : Vec F S1x1x2048x512 .bf16) (x4 : Vec F S1x1x512x2048 .bf16) :
    (runA c i arg2 harg2 arg3 harg3 arg4 harg4 arg5 harg5 arg6 harg6 arg7 harg7 arg8 harg8 h1 h2 h3 x0 x1 x2 x3 x4).2.1 = rowPieces x0 x1 := by
  unfold runA
  dsimp only
  sl_unfold_words
  exact loop_pieces c i arg2 harg2 arg3 harg3 arg4 harg4 arg5 harg5 arg6 harg6 arg7 harg7 arg8 harg8 h1 x0 x1

set_option maxHeartbeats 4000000 in
/-- The output's pieces found at the first column block. -/
theorem runA_out (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole) (h1 : k0_cond1 i = 1#1) (h2 : ¬k0_cond2 i = 1#1) (h3 : ¬k0_cond3 i = 1#1)
    (x0 : Vec F S1024x2048 .f32) (x1 : Vec F S1x2048 .f32) (x2 x3 : Vec F S1x1x2048x512 .bf16) (x4 : Vec F S1x1x512x2048 .bf16) (g : BufTy.Contents (Elt F) arg8.view.ty) :
    (runA c i arg2 harg2 arg3 harg3 arg4 harg4 arg5 harg5 arg6 harg6 arg7 harg7 arg8 harg8 h1 h2 h3 x0 x1 x2 x3 x4).1 g = firstPieces x0 (normed x0 x1) x2 x3 x4 := by
  unfold runA
  dsimp only
  sl_unfold_words
  simp only [View.readAt_eq_ld, harg2.read_unread, harg3.read_unread, harg4.read_unread, harg5.read_unread, harg6.read_unread, harg7.read_unread, harg8.read_unread]
  have hs : arg8.view.read (Elt F) (arg8.view.writes (Elt F) g (pb_k0_t1 Variants.none c none i arg2 harg2 arg3 harg3 arg4 harg4 arg5 harg5 arg6 harg6 arg7 harg7 arg8 harg8 h1 (harg2.unread x0) (harg3.unread x1) (Scf.trips (0#32) (Scalar.addi 0#32 4#32) 1#32))) = normed x0 x1 := by
    refine Eq.trans ?_ (View.read_writes_eq_canon arg8.view g (rowPieces x0 x1) (rowPieces_cover x0 x1))
    exact congrArg (fun L => arg8.view.read (Elt F) (arg8.view.writes (Elt F) g L)) (loop_pieces c i arg2 harg2 arg3 harg3 arg4 harg4 arg5 harg5 arg6 harg6 arg7 harg7 arg8 harg8 h1 x0 x1)
  rw [hs]
  rfl

end Cert.Ffn

end
-- ==== Proof.FfnPoints.lean ====
/-
  The grid points of the feed-forward kernel: which case each is in, what its transfers of the weights move,
  what the scratch and the output block hold after it, and the proof data. The last column block overhangs
  the weights; what lies past their end is never read, so nothing named here depends on it.
-/
module

public import proofs.«01_k».proof.Proof.FfnStores
public import proofs.«01_k».proof.Proof.Gen.Kernel2Ideal.Frame
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The first column block. -/
theorem cond_first (t : Fin cfg0.N) : k0_cond1 (grid0.coords t) = 1#1 ↔ t.val % 11 = 0 := by
  have ht : t.val < 176 := Nat.lt_of_lt_of_eq t.isLt N_0
  have e1 : (grid0.coords t 1).val = t.val / 1 % 11 := Pipeline.Grid.coords_val t 1 (by decide) rfl
  simp only [k0_cond1, e1]
  word_cmp

/-- An inner column block. -/
theorem cond_inner (t : Fin cfg0.N) : k0_cond2 (grid0.coords t) = 1#1 ↔ (0 < t.val % 11 ∧ t.val % 11 < 10) := by
  have ht : t.val < 176 := Nat.lt_of_lt_of_eq t.isLt N_0
  have e1 : (grid0.coords t 1).val = t.val / 1 % 11 := Pipeline.Grid.coords_val t 1 (by decide) rfl
  simp only [k0_cond2, e1]
  word_cmp

/-- The last column block. -/
theorem cond_last (t : Fin cfg0.N) : k0_cond3 (grid0.coords t) = 1#1 ↔ t.val % 11 = 10 := by
  have ht : t.val < 176 := Nat.lt_of_lt_of_eq t.isLt N_0
  have e1 : (grid0.coords t 1).val = t.val / 1 % 11 := Pipeline.Grid.coords_val t 1 (by decide) rfl
  simp only [k0_cond3, e1]
  word_cmp

/-- Every point stores into the output block. -/
theorem live5 (i : grid0.Coords) : cfg0.idle 5 i = false := by
  have hi : (i 1).val < 11 := (i 1).isLt
  show (!(k0_cond1 i == 1#1) && !(k0_cond2 i == 1#1) && !(k0_cond3 i == 1#1)) = false
  unfold k0_cond1 k0_cond2 k0_cond3
  revert hi
  generalize (i 1).val = n
  revert n
  decide

/-! ## What the transfers of the weights move -/

theorem xsize2 : ∀ (t : Fin cfg0.N) (a : Fin 4), win0_2.xsize (grid0.coords t) a = (![1, 1, 2048, if t.val % 11 = 10 then 384 else 512] : Fin 4 → ℕ) a :=
  (by decide +kernel : ∀ (t : Fin grid0.N) (a : Fin 4), win0_2.xsize (grid0.coords t) a = (![1, 1, 2048, if t.val % 11 = 10 then 384 else 512] : Fin 4 → ℕ) a)
theorem xsize3 : ∀ (t : Fin cfg0.N) (a : Fin 4), win0_3.xsize (grid0.coords t) a = (![1, 1, 2048, if t.val % 11 = 10 then 384 else 512] : Fin 4 → ℕ) a :=
  (by decide +kernel : ∀ (t : Fin grid0.N) (a : Fin 4), win0_3.xsize (grid0.coords t) a = (![1, 1, 2048, if t.val % 11 = 10 then 384 else 512] : Fin 4 → ℕ) a)
theorem xsize4 : ∀ (t : Fin cfg0.N) (a : Fin 4), win0_4.xsize (grid0.coords t) a = (![1, 1, if t.val % 11 = 10 then 384 else 512, 2048] : Fin 4 → ℕ) a :=
  (by decide +kernel : ∀ (t : Fin grid0.N) (a : Fin 4), win0_4.xsize (grid0.coords t) a = (![1, 1, if t.val % 11 = 10 then 384 else 512, 2048] : Fin 4 → ℕ) a)

/-- A moved position's contents do not depend on what the buffer held. -/
theorem fill_moved {G : Pipeline.Grid} (w : Pipeline.Window sig G) (i : G.Coords) {α : Type} (d d' : w.block.Idx → α)
    (g : (w.xblock i).Idx → α) (y : w.block.Idx) (h : ∀ a, (y a).val < w.xsize i a) : w.fill i d g y = w.fill i d' g y := by
  have hm : w.moved i y = true := (w.moved_iff i y).mpr h
  unfold Window.fill
  rw [dif_pos hm, dif_pos hm]

/-- Away from the last column block the whole buffer is filled. -/
theorem fill2_whole (t : Fin cfg0.N) (h : ¬t.val % 11 = 10) (d d' : Vec F S1x1x2048x512 .bf16) (g : (win0_2.xblock (grid0.coords t)).Idx → Elt F .bf16) :
    win0_2.fill (grid0.coords t) d g = win0_2.fill (grid0.coords t) d' g :=
  funext fun y => fill_moved win0_2 _ d d' g y fun a => by
    rw [xsize2 t a, if_neg h]; exact lt_of_lt_of_eq (y a).isLt (by fin_cases a <;> rfl)
theorem fill3_whole (t : Fin cfg0.N) (h : ¬t.val % 11 = 10) (d d' : Vec F S1x1x2048x512 .bf16) (g : (win0_3.xblock (grid0.coords t)).Idx → Elt F .bf16) :
    win0_3.fill (grid0.coords t) d g = win0_3.fill (grid0.coords t) d' g :=
  funext fun y => fill_moved win0_3 _ d d' g y fun a => by
    rw [xsize3 t a, if_neg h]; exact lt_of_lt_of_eq (y a).isLt (by fin_cases a <;> rfl)
theorem fill4_whole (t : Fin cfg0.N) (h : ¬t.val % 11 = 10) (d d' : Vec F S1x1x512x2048 .bf16) (g : (win0_4.xblock (grid0.coords t)).Idx → Elt F .bf16) :
    win0_4.fill (grid0.coords t) d g = win0_4.fill (grid0.coords t) d' g :=
  funext fun y => fill_moved win0_4 _ d d' g y fun a => by
    rw [xsize4 t a, if_neg h]; exact lt_of_lt_of_eq (y a).isLt (by fin_cases a <;> rfl)

/-- At the last column block the first 384 columns are filled. -/
theorem fill2_part (t : Fin cfg0.N) (h : t.val % 11 = 10) (d d' : Vec F S1x1x2048x512 .bf16) (g : (win0_2.xblock (grid0.coords t)).Idx → Elt F .bf16)
    (y : S1x1x2048x512.Idx) (hy : (y 3).val < 384) : win0_2.fill (grid0.coords t) d g y = win0_2.fill (grid0.coords t) d' g y :=
  fill_moved win0_2 _ d d' g y fun a => by
    rw [xsize2 t a, if_pos h]
    fin_cases a
    · exact (y 0).isLt
    · exact (y 1).isLt
    · exact (y 2).isLt
    · exact hy
theorem fill3_part (t : Fin cfg0.N) (h : t.val % 11 = 10) (d d' : Vec F S1x1x2048x512 .bf16) (g : (win0_3.xblock (grid0.coords t)).Idx → Elt F .bf16)
    (y : S1x1x2048x512.Idx) (hy : (y 3).val < 384) : win0_3.fill (grid0.coords t) d g y = win0_3.fill (grid0.coords t) d' g y :=
  fill_moved win0_3 _ d d' g y fun a => by
    rw [xsize3 t a, if_pos h]
    fin_cases a
    · exact (y 0).isLt
    · exact (y 1).isLt
    · exact (y 2).isLt
    · exact hy
theorem fill4_part (t : Fin cfg0.N) (h : t.val % 11 = 10) (d d' : Vec F S1x1x512x2048 .bf16) (g : (win0_4.xblock (grid0.coords t)).Idx → Elt F .bf16)
    (y : S1x1x512x2048.Idx) (hy : (y 2).val < 384) : win0_4.fill (grid0.coords t) d g y = win0_4.fill (grid0.coords t) d' g y :=
  fill_moved win0_4 _ d d' g y fun a => by
    rw [xsize4 t a, if_pos h]
    fin_cases a
    · exact (y 0).isLt
    · exact (y 1).isLt
    · exact hy
    · exact (y 3).isLt

/-- Loads from the part on which two contents agree are equal. -/
theorem ld_congr {S : Shape} {e : EltTy} (X Y : S.Idx → Elt F e) (R : Rect S) (h : ∀ y, X (R.emb y) = Y (R.emb y)) : View.ld X R = View.ld Y R :=
  funext h

/-- What the last column block's stores are does not depend on the weights past the first 384 columns. -/
theorem lastPieces_congr (acc : Vec F S1024x2048 .f32) (xn : Vec F S1024x2048 .bf16) (x2 x3 y2 y3 : Vec F S1x1x2048x512 .bf16) (x4 y4 : Vec F S1x1x512x2048 .bf16)
    (h2 : ∀ y, (y 3).val < 384 → x2 y = y2 y) (h3 : ∀ y, (y 3).val < 384 → x3 y = y3 y) (h4 : ∀ y, (y 2).val < 384 → x4 y = y4 y) :
    lastPieces acc xn x2 x3 x4 = lastPieces acc xn y2 y3 y4 := by
  have k2 : ∀ (off : Fin 4 → ℕ) inb, off 3 = 0 → View.ld x2 (Rect.unit (s := S1x1x2048x512) off S1x1x2048x384.size inb) = View.ld y2 (Rect.unit (s := S1x1x2048x512) off S1x1x2048x384.size inb) :=
    fun off inb ho => ld_congr _ _ _ fun y => h2 _ (by rw [Rect.emb_apply]; show off 3 + 1 * (y 3).val < 384; have := (y 3).isLt; have : (y 3).val < 384 := this; omega)
  have k3 : ∀ (off : Fin 4 → ℕ) inb, off 3 = 0 → View.ld x3 (Rect.unit (s := S1x1x2048x512) off S1x1x2048x384.size inb) = View.ld y3 (Rect.unit (s := S1x1x2048x512) off S1x1x2048x384.size inb) :=
    fun off inb ho => ld_congr _ _ _ fun y => h3 _ (by rw [Rect.emb_apply]; show off 3 + 1 * (y 3).val < 384; have := (y 3).isLt; have : (y 3).val < 384 := this; omega)
  have k4 : ∀ (off : Fin 4 → ℕ) inb, off 2 = 0 → View.ld x4 (Rect.unit (s := S1x1x512x2048) off S1x1x384x512.size inb) = View.ld y4 (Rect.unit (s := S1x1x512x2048) off S1x1x384x512.size inb) :=
    fun off inb ho => ld_congr _ _ _ fun y => h4 _ (by rw [Rect.emb_apply]; show off 2 + 1 * (y 2).val < 384; have := (y 2).isLt; have : (y 2).val < 384 := this; omega)
  unfold lastPieces
  rw [k2 ![0, 0, 0, 0] _ rfl, k3 ![0, 0, 0, 0] _ rfl, k4 ![0, 0, 0, 0] _ rfl, k4 ![0, 0, 0, 512] _ rfl, k4 ![0, 0, 0, 1024] _ rfl, k4 ![0, 0, 0, 1536] _ rfl]

/-! ## What the buffers hold, point by point -/

/-- The gate weights' buffer at point `t`, zero past the array's end. -/
def gateBlk (c : Dev nD) (t : Fin cfg0.N) : Vec F S1x1x2048x512 .bf16 := win0_2.fill (grid0.coords t) (fun _ => Scalar.ofBits .bf16 0#16) (iblk m c 2 t)
/-- The up weights' buffer. -/
def upBlk (c : Dev nD) (t : Fin cfg0.N) : Vec F S1x1x2048x512 .bf16 := win0_3.fill (grid0.coords t) (fun _ => Scalar.ofBits .bf16 0#16) (iblk m c 3 t)
/-- The down weights' buffer. -/
def downBlk (c : Dev nD) (t : Fin cfg0.N) : Vec F S1x1x512x2048 .bf16 := win0_4.fill (grid0.coords t) (fun _ => Scalar.ofBits .bf16 0#16) (iblk m c 4 t)
/-- The input rows at point `t`. -/
abbrev rowBlk (c : Dev nD) (t : Fin cfg0.N) : Vec F S1024x2048 .f32 := iblk m c 0 t
/-- The gains. -/
abbrev gainBlk (c : Dev nD) (t : Fin cfg0.N) : Vec F S1x2048 .f32 := iblk m c 1 t

/-- What a point leaves in the output block and in the scratch, given what it found there. -/
def step (c : Dev nD) (t : Fin cfg0.N) (prev : Vec F S1024x2048 .f32 × Vec F S1024x2048 .bf16) : Vec F S1024x2048 .f32 × Vec F S1024x2048 .bf16 :=
  if t.val % 11 = 0 then
    (View.canon (firstPieces (rowBlk m c t) (normed (rowBlk m c t) (gainBlk m c t)) (gateBlk m c t) (upBlk m c t) (downBlk m c t)), normed (rowBlk m c t) (gainBlk m c t))
  else if t.val % 11 = 10 then (View.canon (lastPieces prev.1 prev.2 (gateBlk m c t) (upBlk m c t) (downBlk m c t)), prev.2)
  else (View.canon (innerPieces prev.1 prev.2 (gateBlk m c t) (upBlk m c t) (downBlk m c t)), prev.2)

/-- The output block and the scratch after point `n`. -/
def held (c : Dev nD) : (n : ℕ) → n < cfg0.N → Vec F S1024x2048 .f32 × Vec F S1024x2048 .bf16
  | 0, h => step m c ⟨0, h⟩ (fun _ => Scalar.ofBits .f32 0#32, fun _ => Scalar.ofBits .bf16 0#16)
  | n + 1, h => step m c ⟨n + 1, h⟩ (held c n (Nat.lt_of_succ_lt h))

theorem held_first (c : Dev nD) (t : Fin cfg0.N) (h : t.val % 11 = 0) : held m c t.val t.isLt =
    (View.canon (firstPieces (rowBlk m c t) (normed (rowBlk m c t) (gainBlk m c t)) (gateBlk m c t) (upBlk m c t) (downBlk m c t)), normed (rowBlk m c t) (gainBlk m c t)) := by
  obtain ⟨n, hn⟩ := t
  cases n with
  | zero => unfold held step; exact if_pos h
  | succ n => unfold held step; exact if_pos h

theorem held_last (c : Dev nD) (t : Fin cfg0.N) (h : t.val % 11 = 10) : held m c t.val t.isLt =
    (View.canon (lastPieces (held m c (t.val - 1) (by omega)).1 (held m c (t.val - 1) (by omega)).2 (gateBlk m c t) (upBlk m c t) (downBlk m c t)), (held m c (t.val - 1) (by omega)).2) := by
  obtain ⟨n, hn⟩ := t
  cases n with
  | zero => exact absurd h (show ¬0 % 11 = 10 by decide)
  | succ n => exact (if_neg (by dsimp only at h ⊢; omega)).trans (if_pos h)

theorem held_inner (c : Dev nD) (t : Fin cfg0.N) (h : ¬t.val % 11 = 0) (h' : ¬t.val % 11 = 10) : held m c t.val t.isLt =
    (View.canon (innerPieces (held m c (t.val - 1) (by omega)).1 (held m c (t.val - 1) (by omega)).2 (gateBlk m c t) (upBlk m c t) (downBlk m c t)), (held m c (t.val - 1) (by omega)).2) := by
  obtain ⟨n, hn⟩ := t
  cases n with
  | zero => exact absurd rfl h
  | succ n => exact (if_neg h).trans (if_neg h')

/-! ## The proof data -/

/-- The scratch. -/
abbrev scr : Memref sig .tc .vmem S1024x2048 .bf16 := Memref.whole cc0_scratch0

/-- What the launch hands the region, the scratch as a memref. -/
theorem entry_eq (c : Dev nD) : (Pipeline.ΦA spec0 c : sProp 𝕄) = iprop((∃ d, owns (c : Thread nD τ) scr fullShare d) ∗ (∃ r, prngReg c r)) := by
  unfold Pipeline.ΦA
  rw [scopedRest0_eq]
  simp only [scr, owns_whole]
  try rfl

/-- The invariant before point `n`: after the first, the scratch holds the normalised rows. -/
def inv (c : Dev nD) : (n : ℕ) → n ≤ cfg0.N → sProp 𝕄
  | 0, _ => Pipeline.ΦA spec0 c
  | n + 1, h => iprop(owns (c : Thread nD τ) scr fullShare (held m c n h).2 ∗ (∃ r, prngReg c r))

theorem inv_zero (c : Dev nD) (n : ℕ) (h : n ≤ cfg0.N) (hz : n = 0) : inv m c n h = Pipeline.ΦA spec0 c := by
  subst hz; rfl
theorem inv_pos (c : Dev nD) (n : ℕ) (h : n ≤ cfg0.N) (hz : n ≠ 0) :
    inv m c n h = iprop(owns (c : Thread nD τ) scr fullShare (held m c (n - 1) (by omega)).2 ∗ (∃ r, prngReg c r)) := by
  cases n with
  | zero => exact absurd rfl hz
  | succ n => rfl

/-- The proof data: the inputs' buffers keep their blocks, the output block holds `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => gateBlk m c t
    | ⟨3, _⟩ => upBlk m c t
    | ⟨4, _⟩ => downBlk m c t
    | ⟨5, _⟩ => (held m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_start (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = gateBlk m c t := by dsimp only [dats]
theorem after3 (c : Dev nD) (t : Fin cfg0.N) : (dats m 0 c).after 3 t = upBlk m c t := by dsimp only [dats]
theorem after4 (c : Dev nD) (t : Fin cfg0.N) : (dats m 0 c).after 4 t = downBlk m c t := by dsimp only [dats]
theorem after5 (c : Dev nD) (t : Fin cfg0.N) : (dats m 0 c).after 5 t = (held m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]; try rfl
theorem before3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]; try rfl
theorem before4 (c : Dev nD) (t : Fin cfg0.N) (d) : (dats m 0 c).before 4 t d = win0_4.fill (grid0.coords t) d (iblk m c 4 t) := by
  unfold Dat.before; rw [if_pos (fetch0_4 t)]; unfold Dat.fetched Dat.blockOf iblk; rw [A_eq]; try rfl

/-- Within a row of blocks the output block holds what the point before left. -/
theorem before5 (c : Dev nD) (t : Fin cfg0.N) (h : ¬t.val % 11 = 0) (d) :
    (dats m 0 c).before 5 t d = (held m c (t.val - 1) (by omega)).1 := by
  rw [(dats m 0 c).before_out_kept 5 rfl t (fun h0 => h (by rw [h0])) (Bool.eq_false_iff.mpr fun hf => h (by have := (flush0_5 _).mp hf; dsimp only at this; omega))
    live5 (fun _ _ => rfl) d, after5]

end Cert.Ffn

end
-- ==== Proof.FfnBlocks.lean ====
module
public import proofs.«01_k».proof.Proof.FfnPoints
public import Idealize.ShloMosaic.Lib.Pointwise
public import Idealize.ShloMosaic.Lib.StableHlo.ReadAt

/-!
# What each window of the feed-forward kernel holds at a grid point

Point `t` works on rows `1024 (t / 11) …` and on the hidden units `512 (t % 11) …`.  Each lemma gives an element of a window's
block as an element of the layer's own arguments.
-/

@[expose] public section
set_option maxRecDepth 16384
noncomputable section
namespace Cert.Ffn
open Cert.Kernel2Ideal Cert.Kernel2Ideal.Gen Idealize.ShloMosaic Idealize.ShloMosaic.TcCoe Idealize.SL.Sem
open Idealize.ShloMosaic.Tactic
open Idealize.ShloMosaic.Pipeline (Dat Cfg Window)

variable (m : (ℓ : Loc nD τ sig) → Buf (Elt Ideal) ℓ) (c : Dev nD)

/-- The rows a core is given. -/
def rows : FVec Ideal S16384x2048 .f32 := m ((c : Thread nD τ).loc main_arg0)
/-- The gains of the norm. -/
def gains : FVec Ideal S2048 .f32 := m ((c : Thread nD τ).loc main_arg1)
/-- The gate's weights. -/
def gateW : FVec Ideal S2048x5504 .f32 := m ((c : Thread nD τ).loc main_arg2)
/-- The up projection's weights. -/
def upW : FVec Ideal S2048x5504 .f32 := m ((c : Thread nD τ).loc main_arg3)
/-- The down projection's weights. -/
def downW : FVec Ideal S5504x2048 .f32 := m ((c : Thread nD τ).loc main_arg4)

theorem host_gate (i : Fin 2048) (k : Fin 5504) :
    (V m c main_v1 : FVec Ideal S1x1x2048x5504 .bf16) (ix4 0 0 i k) = gateW m c (ix2 i k) := by
  unfold V gateW
  after_reads_at
theorem host_up (i : Fin 2048) (k : Fin 5504) :
    (V m c main_v3 : FVec Ideal S1x1x2048x5504 .bf16) (ix4 0 0 i k) = upW m c (ix2 i k) := by
  unfold V upW
  after_reads_at
theorem host_down (k : Fin 5504) (n : Fin 2048) :
    (V m c main_v5 : FVec Ideal S1x1x5504x2048 .bf16) (ix4 0 0 k n) = downW m c (ix2 k n) := by
  unfold V downW
  after_reads_at
theorem host_gain (i : Fin 2048) : (V m c main_v6 : FVec Ideal S1x2048 .f32) (ix2 0 i) = gains m c (ix1 i) := by
  unfold V gains
  after_reads_at

theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 4) = 0 ∧ win0_2.index t (1 : Fin 4) = 0 ∧ win0_2.index t (2 : Fin 4) = 0 ∧ win0_2.index t (3 : Fin 4) = t.val % 11 :=
  (by decide +kernel : ∀ t : Fin grid0.N, _)
theorem index3 : ∀ t : Fin cfg0.N, win0_3.index t (0 : Fin 4) = 0 ∧ win0_3.index t (1 : Fin 4) = 0 ∧ win0_3.index t (2 : Fin 4) = 0 ∧ win0_3.index t (3 : Fin 4) = t.val % 11 :=
  (by decide +kernel : ∀ t : Fin grid0.N, _)
theorem index4 : ∀ t : Fin cfg0.N, win0_4.index t (0 : Fin 4) = 0 ∧ win0_4.index t (1 : Fin 4) = 0 ∧ win0_4.index t (2 : Fin 4) = t.val % 11 ∧ win0_4.index t (3 : Fin 4) = 0 :=
  (by decide +kernel : ∀ t : Fin grid0.N, _)
theorem index5 : ∀ t : Fin cfg0.N, win0_5.index t (0 : Fin 2) = t.val / 11 ∧ win0_5.index t (1 : Fin 2) = 0 :=
  (by decide +kernel : ∀ t : Fin grid0.N, _)

/-- Row `p` of point `t`'s block. -/
def rowAt (t : ℕ) (ht : t < cfg0.N) (p : Fin 1024) : Fin 16384 := ⟨t / 11 * 1024 + p.val, by have : cfg0.N = 176 := N_0; omega⟩

theorem row_block (t : Fin cfg0.N) (p : Fin 1024) (i : Fin 2048) :
    (rowBlk m c t (ix2 p i) : EReal) = rows m c (ix2 (rowAt t.val t.isLt p) i) := by
  obtain ⟨e0, e1⟩ := index0 t
  have e : ((cfg0.win 0).blk t).view.emb (ix2 p i) = (ix2 (rowAt t.val t.isLt p) i : S16384x2048.Idx) := by
    funext a; apply Fin.ext
    match a with
    | ⟨0, _⟩ => show win0_0.index t (0 : Fin 2) * 1024 + 1 * p.val = t.val / 11 * 1024 + p.val; rw [e0]; omega
    | ⟨1, _⟩ => show win0_0.index t (1 : Fin 2) * 2048 + 1 * i.val = i.val; rw [e1]; omega
  show (V m c main_arg0 : FVec Ideal S16384x2048 .f32) (((cfg0.win 0).blk t).view.emb (ix2 p i)) = _
  rw [e, V_main_arg0]; rfl

theorem gain_block (t : Fin cfg0.N) (i : Fin 2048) : (gainBlk m c t (ix2 0 i) : EReal) = gains m c (ix1 i) := by
  obtain ⟨e0, e1⟩ := index1 t
  have e : ((cfg0.win 1).blk t).view.emb (ix2 (0 : Fin 1) i) = (ix2 0 i : S1x2048.Idx) := by
    funext a; apply Fin.ext
    match a with
    | ⟨0, _⟩ => show win0_1.index t (0 : Fin 2) * 1 + 1 * 0 = 0; rw [e0]
    | ⟨1, _⟩ => show win0_1.index t (1 : Fin 2) * 2048 + 1 * i.val = i.val; rw [e1]; omega
  show (V m c main_v6 : FVec Ideal S1x2048 .f32) (((cfg0.win 1).blk t).view.emb (ix2 (0 : Fin 1) i)) = _
  rw [e, host_gain]

/-- The columns a transfer of the weights moves. -/
theorem moved_lt (j : ℕ) (k : ℕ) (hj : j < 11) (hk : k < 512) (h : j * 512 + k < 5504) : k < if j = 10 then 384 else 512 := by
  split <;> omega

theorem gate_block (t : Fin cfg0.N) (i : Fin 2048) (k : Fin 512) (h : t.val % 11 * 512 + k.val < 5504) :
    (gateBlk m c t (ix4 0 0 i k) : EReal) = gateW m c (ix2 i ⟨t.val % 11 * 512 + k.val, h⟩) := by
  obtain ⟨e0, e1, e2, e3⟩ := index2 t
  have hm : win0_2.moved (grid0.coords t) (ix4 0 0 i k : S1x1x2048x512.Idx) = true := (win0_2.moved_iff _ _).mpr fun a => by
    rw [xsize2 t a]
    match a with
    | ⟨0, _⟩ => exact Nat.zero_lt_one
    | ⟨1, _⟩ => exact Nat.zero_lt_one
    | ⟨2, _⟩ => exact i.isLt
    | ⟨3, _⟩ => exact moved_lt _ _ (Nat.mod_lt _ (by decide)) k.isLt h
  unfold gateBlk Window.fill
  rw [dif_pos hm]
  have e : ((cfg0.win 2).blk t).view.emb (fun a => ⟨((ix4 0 0 i k : S1x1x2048x512.Idx) a).val, (win0_2.moved_iff _ _).mp hm a⟩)
      = (ix4 0 0 i ⟨t.val % 11 * 512 + k.val, h⟩ : S1x1x2048x5504.Idx) := by
    funext a; apply Fin.ext
    match a with
    | ⟨0, _⟩ => show win0_2.index t (0 : Fin 4) * 1 + 1 * 0 = 0; rw [e0]
    | ⟨1, _⟩ => show win0_2.index t (1 : Fin 4) * 1 + 1 * 0 = 0; rw [e1]
    | ⟨2, _⟩ => show win0_2.index t (2 : Fin 4) * 2048 + 1 * i.val = i.val; rw [e2]; omega
    | ⟨3, _⟩ => show win0_2.index t (3 : Fin 4) * 512 + 1 * k.val = t.val % 11 * 512 + k.val; rw [e3]; omega
  show (V m c main_v1 : FVec Ideal S1x1x2048x5504 .bf16) (((cfg0.win 2).blk t).view.emb _) = _
  rw [e, host_gate]

theorem up_block (t : Fin cfg0.N) (i : Fin 2048) (k : Fin 512) (h : t.val % 11 * 512 + k.val < 5504) :
    (upBlk m c t (ix4 0 0 i k) : EReal) = upW m c (ix2 i ⟨t.val % 11 * 512 + k.val, h⟩) := by
  obtain ⟨e0, e1, e2, e3⟩ := index3 t
  have hm : win0_3.moved (grid0.coords t) (ix4 0 0 i k : S1x1x2048x512.Idx) = true := (win0_3.moved_iff _ _).mpr fun a => by
    rw [xsize3 t a]
    match a with
    | ⟨0, _⟩ => exact Nat.zero_lt_one
    | ⟨1, _⟩ => exact Nat.zero_lt_one
    | ⟨2, _⟩ => exact i.isLt
    | ⟨3, _⟩ => exact moved_lt _ _ (Nat.mod_lt _ (by decide)) k.isLt h
  unfold upBlk Window.fill
  rw [dif_pos hm]
  have e : ((cfg0.win 3).blk t).view.emb (fun a => ⟨((ix4 0 0 i k : S1x1x2048x512.Idx) a).val, (win0_3.moved_iff _ _).mp hm a⟩)
      = (ix4 0 0 i ⟨t.val % 11 * 512 + k.val, h⟩ : S1x1x2048x5504.Idx) := by
    funext a; apply Fin.ext
    match a with
    | ⟨0, _⟩ => show win0_3.index t (0 : Fin 4) * 1 + 1 * 0 = 0; rw [e0]
    | ⟨1, _⟩ => show win0_3.index t (1 : Fin 4) * 1 + 1 * 0 = 0; rw [e1]
    | ⟨2, _⟩ => show win0_3.index t (2 : Fin 4) * 2048 + 1 * i.val = i.val; rw [e2]; omega
    | ⟨3, _⟩ => show win0_3.index t (3 : Fin 4) * 512 + 1 * k.val = t.val % 11 * 512 + k.val; rw [e3]; omega
  show (V m c main_v3 : FVec Ideal S1x1x2048x5504 .bf16) (((cfg0.win 3).blk t).view.emb _) = _
  rw [e, host_up]

theorem down_block (t : Fin cfg0.N) (k : Fin 512) (n : Fin 2048) (h : t.val % 11 * 512 + k.val < 5504) :
    (downBlk m c t (ix4 0 0 k n) : EReal) = downW m c (ix2 ⟨t.val % 11 * 512 + k.val, h⟩ n) := by
  obtain ⟨e0, e1, e2, e3⟩ := index4 t
  have hm : win0_4.moved (grid0.coords t) (ix4 0 0 k n : S1x1x512x2048.Idx) = true := (win0_4.moved_iff _ _).mpr fun a => by
    rw [xsize4 t a]
    match a with
    | ⟨0, _⟩ => exact Nat.zero_lt_one
    | ⟨1, _⟩ => exact Nat.zero_lt_one
    | ⟨2, _⟩ => exact moved_lt _ _ (Nat.mod_lt _ (by decide)) k.isLt h
    | ⟨3, _⟩ => exact n.isLt
  unfold downBlk Window.fill
  rw [dif_pos hm]
  have e : ((cfg0.win 4).blk t).view.emb (fun a => ⟨((ix4 0 0 k n : S1x1x512x2048.Idx) a).val, (win0_4.moved_iff _ _).mp hm a⟩)
      = (ix4 0 0 ⟨t.val % 11 * 512 + k.val, h⟩ n : S1x1x5504x2048.Idx) := by
    funext a; apply Fin.ext
    match a with
    | ⟨0, _⟩ => show win0_4.index t (0 : Fin 4) * 1 + 1 * 0 = 0; rw [e0]
    | ⟨1, _⟩ => show win0_4.index t (1 : Fin 4) * 1 + 1 * 0 = 0; rw [e1]
    | ⟨2, _⟩ => show win0_4.index t (2 : Fin 4) * 512 + 1 * k.val = t.val % 11 * 512 + k.val; rw [e2]; omega
    | ⟨3, _⟩ => show win0_4.index t (3 : Fin 4) * 2048 + 1 * n.val = n.val; rw [e3]; omega
  show (V m c main_v5 : FVec Ideal S1x1x5504x2048 .bf16) (((cfg0.win 4).blk t).view.emb _) = _
  rw [e, host_down]

end Cert.Ffn
end
-- ==== Proof.FfnReal.lean ====
module
public import proofs.«01_k».proof.Proof.FfnStores
public import Idealize.ShloMosaic.Lib.Pointwise
public import Idealize.ShloMosaic.Lib.Pipeline.ValueKit.Tiles

/-!
# What the stores of the feed-forward kernel hold, entry by entry

Over the extended reals a row's normalised entries, a hidden unit, and one column block's share of the output.
-/

@[expose] public section
set_option maxRecDepth 16384
noncomputable section
namespace Cert.Ffn
open Cert.Kernel2Ideal Cert.Kernel2Ideal.Gen Idealize.ShloMosaic

/-- One half, as the kernel writes it. -/
abbrev half : EReal := Ideal.ofBits .f32 0x3F000000#32

/-- A row divided by its root mean square and scaled by the gains. -/
def normRow (x g : Fin 2048 → EReal) (i : Fin 2048) : EReal :=
  x i * Ideal.rsqrt (Ideal.div (∑ j, x j * x j) (Ideal.ofBits .f32 0x45000000#32) + Ideal.ofBits .f32 0x358637BD#32) * g i

/-- A hidden unit: the gate, times its sigmoid, times the up projection. -/
def unitOf (x g u : Fin 2048 → EReal) : EReal :=
  (∑ i, x i * g i) * Ideal.div 1 (1 + Ideal.exp (0 - ∑ i, x i * g i)) * ∑ i, x i * u i

theorem unitOf_congr {x x' g g' u u' : Fin 2048 → EReal} (hx : ∀ i, x i = x' i) (hg : ∀ i, g i = g' i) (hu : ∀ i, u i = u' i) :
    unitOf x g u = unitOf x' g' u' := by
  obtain rfl : x = x' := funext hx
  obtain rfl : g = g' := funext hg
  obtain rfl : u = u' := funext hu
  rfl
theorem normRow_congr {x x' g g' : Fin 2048 → EReal} (hx : ∀ i, x i = x' i) (hg : ∀ i, g i = g' i) (i : Fin 2048) :
    normRow x g i = normRow x' g' i := by
  obtain rfl : x = x' := funext hx
  obtain rfl : g = g' := funext hg
  rfl

theorem norm_at (x : Vec Ideal S256x2048 .f32) (g : Vec Ideal S1x2048 .f32) (p : Fin 256) (i : Fin 2048) :
    (k0_pay10 (F := Ideal) x g (ix2 p i) : EReal) = normRow (fun j => x (ix2 p j)) (fun j => g (ix2 0 j)) i := by
  unfold k0_pay10 normRow
  pointwise

theorem unit_first (xn : Vec Ideal S1024x2048 .bf16) (g u : Vec Ideal S1x1x2048x512 .bf16) (p : Fin 1024) (k : Fin 512) :
    (k0_pay11 (F := Ideal) xn g u (ix2 p k) : EReal)
      = unitOf (fun i => xn (ix2 p i)) (fun i => g (ix4 0 0 i k)) (fun i => u (ix4 0 0 i k)) * half := by
  unfold k0_pay11 unitOf
  pointwise

theorem unit_inner (xn : Vec Ideal S1024x2048 .bf16) (g u : Vec Ideal S1x1x2048x512 .bf16) (p : Fin 1024) (k : Fin 512) :
    (k0_pay13 (F := Ideal) xn g u (ix2 p k) : EReal)
      = unitOf (fun i => xn (ix2 p i)) (fun i => g (ix4 0 0 i k)) (fun i => u (ix4 0 0 i k)) * half := by
  unfold k0_pay13 unitOf
  pointwise

theorem unit_last (xn : Vec Ideal S1024x2048 .bf16) (g u : Vec Ideal S1x1x2048x384 .bf16) (p : Fin 1024) (k : Fin 384) :
    (k0_pay16 (F := Ideal) xn g u (ix2 p k) : EReal)
      = unitOf (fun i => xn (ix2 p i)) (fun i => g (ix4 0 0 i k)) (fun i => u (ix4 0 0 i k)) * half := by
  unfold k0_pay16 unitOf
  pointwise

theorem chunk_1 (h : FVec Ideal S1024x512 .bf16) (x : Vec Ideal S1024x512 .f32) (d : Vec Ideal S1x1x512x512 .bf16) (p : Fin 1024) (n : Fin 512) :
    (k0_pay1 (F := Ideal) h x d (ix2 p n) : EReal) = x (ix2 p n) + ∑ k, h (ix2 p k) * d (ix4 0 0 k n) := by
  unfold k0_pay1
  pointwise
theorem chunk_2 (h : FVec Ideal S1024x512 .bf16) (x : Vec Ideal S1024x512 .f32) (d : Vec Ideal S1x1x512x512 .bf16) (p : Fin 1024) (n : Fin 512) :
    (k0_pay2 (F := Ideal) h x d (ix2 p n) : EReal) = x (ix2 p n) + ∑ k, h (ix2 p k) * d (ix4 0 0 k n) := by
  unfold k0_pay2
  pointwise
theorem chunk_3 (h : FVec Ideal S1024x512 .bf16) (x : Vec Ideal S1024x512 .f32) (d : Vec Ideal S1x1x512x512 .bf16) (p : Fin 1024) (n : Fin 512) :
    (k0_pay3 (F := Ideal) h x d (ix2 p n) : EReal) = x (ix2 p n) + ∑ k, h (ix2 p k) * d (ix4 0 0 k n) := by
  unfold k0_pay3
  pointwise
theorem chunk_4 (h : FVec Ideal S1024x512 .bf16) (x : Vec Ideal S1024x512 .f32) (d : Vec Ideal S1x1x512x512 .bf16) (p : Fin 1024) (n : Fin 512) :
    (k0_pay4 (F := Ideal) h x d (ix2 p n) : EReal) = x (ix2 p n) + ∑ k, h (ix2 p k) * d (ix4 0 0 k n) := by
  unfold k0_pay4
  pointwise
theorem chunk_5 (h : FVec Ideal S1024x512 .bf16) (x : Vec Ideal S1024x512 .f32) (d : Vec Ideal S1x1x512x512 .bf16) (p : Fin 1024) (n : Fin 512) :
    (k0_pay5 (F := Ideal) h x d (ix2 p n) : EReal) = x (ix2 p n) + ∑ k, h (ix2 p k) * d (ix4 0 0 k n) := by
  unfold k0_pay5
  pointwise
theorem chunk_6 (h : FVec Ideal S1024x512 .bf16) (x : Vec Ideal S1024x512 .f32) (d : Vec Ideal S1x1x512x512 .bf16) (p : Fin 1024) (n : Fin 512) :
    (k0_pay6 (F := Ideal) h x d (ix2 p n) : EReal) = x (ix2 p n) + ∑ k, h (ix2 p k) * d (ix4 0 0 k n) := by
  unfold k0_pay6
  pointwise
theorem chunk_7 (h : FVec Ideal S1024x384 .bf16) (x : Vec Ideal S1024x512 .f32) (d : Vec Ideal S1x1x384x512 .bf16) (p : Fin 1024) (n : Fin 512) :
    (k0_pay7 (F := Ideal) h x d (ix2 p n) : EReal) = x (ix2 p n) + ∑ k, h (ix2 p k) * d (ix4 0 0 k n) := by
  unfold k0_pay7
  pointwise
theorem chunk_8 (h : FVec Ideal S1024x384 .bf16) (x : Vec Ideal S1024x512 .f32) (d : Vec Ideal S1x1x384x512 .bf16) (p : Fin 1024) (n : Fin 512) :
    (k0_pay8 (F := Ideal) h x d (ix2 p n) : EReal) = x (ix2 p n) + ∑ k, h (ix2 p k) * d (ix4 0 0 k n) := by
  unfold k0_pay8
  pointwise
theorem chunk_9 (h : FVec Ideal S1024x384 .bf16) (x : Vec Ideal S1024x512 .f32) (d : Vec Ideal S1x1x384x512 .bf16) (p : Fin 1024) (n : Fin 512) :
    (k0_pay9 (F := Ideal) h x d (ix2 p n) : EReal) = x (ix2 p n) + ∑ k, h (ix2 p k) * d (ix4 0 0 k n) := by
  unfold k0_pay9
  pointwise
theorem chunk_12 (xn : Vec Ideal S1024x2048 .bf16) (g u : Vec Ideal S1x1x2048x512 .bf16) (x : Vec Ideal S1024x512 .f32) (d : Vec Ideal S1x1x512x512 .bf16) (p : Fin 1024) (n : Fin 512) :
    (k0_pay12 (F := Ideal) xn g u x d (ix2 p n) : EReal) = x (ix2 p n) + ∑ k, k0_pay11 (F := Ideal) xn g u (ix2 p k) * d (ix4 0 0 k n) := by
  unfold k0_pay12
  generalize k0_pay11 (F := Ideal) xn g u = h
  pointwise
theorem chunk_14 (xn : Vec Ideal S1024x2048 .bf16) (g u : Vec Ideal S1x1x2048x512 .bf16) (x : Vec Ideal S1024x512 .f32) (d : Vec Ideal S1x1x512x512 .bf16) (p : Fin 1024) (n : Fin 512) :
    (k0_pay14 (F := Ideal) xn g u x d (ix2 p n) : EReal) = x (ix2 p n) + ∑ k, k0_pay13 (F := Ideal) xn g u (ix2 p k) * d (ix4 0 0 k n) := by
  unfold k0_pay14
  generalize k0_pay13 (F := Ideal) xn g u = h
  pointwise
theorem chunk_17 (xn : Vec Ideal S1024x2048 .bf16) (g u : Vec Ideal S1x1x2048x384 .bf16) (x : Vec Ideal S1024x512 .f32) (d : Vec Ideal S1x1x384x512 .bf16) (p : Fin 1024) (n : Fin 512) :
    (k0_pay17 (F := Ideal) xn g u x d (ix2 p n) : EReal) = x (ix2 p n) + ∑ k, k0_pay16 (F := Ideal) xn g u (ix2 p k) * d (ix4 0 0 k n) := by
  unfold k0_pay17
  generalize k0_pay16 (F := Ideal) xn g u = h
  pointwise
theorem same_15 (x : Vec Ideal S1024x512 .f32) (p : Fin 1024) (n : Fin 512) : (k0_pay15 (F := Ideal) x (ix2 p n) : EReal) = x (ix2 p n) := by
  unfold k0_pay15
  pointwise
theorem same_18 (x : Vec Ideal S1024x512 .f32) (p : Fin 1024) (n : Fin 512) : (k0_pay18 (F := Ideal) x (ix2 p n) : EReal) = x (ix2 p n) := by
  unfold k0_pay18
  pointwise

/-! ## Loads and stores of part of a block -/

theorem whole_rows (x : Vec Ideal S1024x2048 .bf16) (inb) : View.ld x (Rect.unit (s := S1024x2048) ![0, 0] S1024x2048.size inb) = x :=
  View.ld_unit_zero (by funext a; fin_cases a <;> rfl) _ _
theorem whole_gain (x : Vec Ideal S1x2048 .f32) (inb) : View.ld x (Rect.unit (s := S1x2048) ![0, 0] S1x2048.size inb) = x :=
  View.ld_unit_zero (by funext a; fin_cases a <;> rfl) _ _
theorem whole_weights (x : Vec Ideal S1x1x2048x512 .bf16) (inb) : View.ld x (Rect.unit (s := S1x1x2048x512) ![0, 0, 0, 0] S1x1x2048x512.size inb) = x :=
  View.ld_unit_zero (by funext a; fin_cases a <;> rfl) _ _

/-- The first 384 columns of a weights' block. -/
theorem part_weights (x : Vec Ideal S1x1x2048x512 .bf16) (inb) (i : Fin 2048) (k : Fin 384) :
    View.ld x (Rect.unit (s := S1x1x2048x512) ![0, 0, 0, 0] S1x1x2048x384.size inb) (ix4 0 0 i k) = x (ix4 0 0 i ⟨k.val, by omega⟩) :=
  View.ld_unit_apply_of _ _ _ _ _ _ (fun a => by
    match a with
    | ⟨0, _⟩ => rfl
    | ⟨1, _⟩ => rfl
    | ⟨2, _⟩ => show i.val = 0 + i.val; omega
    | ⟨3, _⟩ => show k.val = 0 + k.val; omega)

/-- 512 columns of a block. -/
theorem ld_cols (x : Vec Ideal S1024x2048 .f32) (o : ℕ) (ho : o + 512 ≤ 2048) (inb) (p : Fin 1024) (n : Fin 512) :
    View.ld x (Rect.unit (s := S1024x2048) ![0, o] S1024x512.size inb) (ix2 p n) = x (ix2 p ⟨o + n.val, by omega⟩) :=
  View.ld_unit_apply_of _ _ _ _ _ _ (fun a => by
    match a with
    | ⟨0, _⟩ => show p.val = 0 + p.val; omega
    | ⟨1, _⟩ => rfl)
theorem ld_down (x : Vec Ideal S1x1x512x2048 .bf16) (o : ℕ) (ho : o + 512 ≤ 2048) (inb) (k n : Fin 512) :
    View.ld x (Rect.unit (s := S1x1x512x2048) ![0, 0, 0, o] S1x1x512x512.size inb) (ix4 0 0 k n) = x (ix4 0 0 k ⟨o + n.val, by omega⟩) :=
  View.ld_unit_apply_of _ _ _ _ _ _ (fun a => by
    match a with
    | ⟨0, _⟩ => rfl
    | ⟨1, _⟩ => rfl
    | ⟨2, _⟩ => show k.val = 0 + k.val; omega
    | ⟨3, _⟩ => rfl)
theorem ld_down_part (x : Vec Ideal S1x1x512x2048 .bf16) (o : ℕ) (ho : o + 512 ≤ 2048) (inb) (k : Fin 384) (n : Fin 512) :
    View.ld x (Rect.unit (s := S1x1x512x2048) ![0, 0, 0, o] S1x1x384x512.size inb) (ix4 0 0 k n) = x (ix4 0 0 ⟨k.val, by omega⟩ ⟨o + n.val, by omega⟩) :=
  View.ld_unit_apply_of _ _ _ _ _ _ (fun a => by
    match a with
    | ⟨0, _⟩ => rfl
    | ⟨1, _⟩ => rfl
    | ⟨2, _⟩ => show k.val = 0 + k.val; omega
    | ⟨3, _⟩ => rfl)
/-- Where a store of 512 columns puts its entries. -/
theorem emb_cols (o : ℕ) (ho : o + 512 ≤ 2048) (inb) (p : Fin 1024) (n : Fin 512) :
    (Rect.unit (s := S1024x2048) ![0, o] S1024x512.size inb).emb (ix2 p n : Shape.Idx ⟨2, ![1024, 512]⟩) = (ix2 p ⟨o + n.val, by omega⟩ : S1024x2048.Idx) :=
  funext fun x => Fin.ext ((Rect.idx_unit_val _ _ _ _ x).trans (by
    match x with
    | ⟨0, _⟩ => show 0 + p.val = p.val; omega
    | ⟨1, _⟩ => rfl))
/-- Where a store of 256 rows puts its entries. -/
theorem emb_rows (o : ℕ) (ho : o + 256 ≤ 1024) (inb) (p : Fin 256) (i : Fin 2048) :
    (Rect.unit (s := S1024x2048) ![o, 0] S256x2048.size inb).emb (ix2 p i : Shape.Idx ⟨2, ![256, 2048]⟩) = (ix2 ⟨o + p.val, by omega⟩ i : S1024x2048.Idx) :=
  funext fun x => Fin.ext ((Rect.idx_unit_val _ _ _ _ x).trans (by
    match x with
    | ⟨0, _⟩ => rfl
    | ⟨1, _⟩ => show 0 + i.val = i.val; omega))
theorem ld_rows (x : Vec Ideal S1024x2048 .f32) (o : ℕ) (ho : o + 256 ≤ 1024) (inb) (p : Fin 256) (i : Fin 2048) :
    View.ld x (Rect.unit (s := S1024x2048) ![o, 0] S256x2048.size inb) (ix2 p i) = x (ix2 ⟨o + p.val, by omega⟩ i) :=
  View.ld_unit_apply_of _ _ _ _ _ _ (fun a => by
    match a with
    | ⟨0, _⟩ => rfl
    | ⟨1, _⟩ => show i.val = 0 + i.val; omega)

/-! ## The blocks the stores leave -/

theorem rowPiece_at (x0 : Vec Ideal S1024x2048 .f32) (x1 : Vec Ideal S1x2048 .f32) (n : ℕ) (h : n < 4) (x : (rowPiece x0 x1 n h).1.shape.Idx) :
    ((rowPiece x0 x1 n h).2 x : EReal) = (fun y : S1024x2048.Idx => normRow (fun j => x0 (ix2 (y 0) j)) (fun j => x1 (ix2 0 j)) (y 1)) ((rowPiece x0 x1 n h).1.emb x) := by
  unfold rowPiece at x ⊢
  dsimp only at x ⊢
  obtain ⟨p, i, rfl⟩ : ∃ a b, x = ix2 a b := ⟨_, _, eq_ix2 x⟩
  rw [emb_rows (256 * n) (by omega) _ p i]
  exact (norm_at _ _ p i).trans (normRow_congr (fun j => ld_rows x0 (256 * n) (by omega) _ p j) (fun j => congrFun (whole_gain x1 _) (ix2 0 j)) i)

/-- The scratch after the first column block: the normalised rows. -/
theorem normed_at (x0 : Vec Ideal S1024x2048 .f32) (x1 : Vec Ideal S1x2048 .f32) (p : Fin 1024) (i : Fin 2048) :
    (normed x0 x1 (ix2 p i) : EReal) = normRow (fun j => x0 (ix2 p j)) (fun j => x1 (ix2 0 j)) i := by
  unfold normed
  have P : View.PiecesOf (Val := Elt Ideal) (fun y : S1024x2048.Idx => (normRow (fun j => x0 (ix2 (y 0) j)) (fun j => x1 (ix2 0 j)) (y 1) : EReal)) (rowPieces x0 x1) :=
    ⟨rowPiece_at x0 x1 3 (by decide), rowPiece_at x0 x1 2 (by decide), rowPiece_at x0 x1 1 (by decide), rowPiece_at x0 x1 0 (by decide), trivial⟩
  exact View.canon_apply_of_pieces (Val := Elt Ideal) (fun y : S1024x2048.Idx => (normRow (fun j => x0 (ix2 (y 0) j)) (fun j => x1 (ix2 0 j)) (y 1) : EReal)) _ P.mem (ix2 p i) (rowPieces_cover x0 x1 _)

/-- The output block after the first column block. -/
theorem first_at (x0 : Vec Ideal S1024x2048 .f32) (xn : Vec Ideal S1024x2048 .bf16) (x2 x3 : Vec Ideal S1x1x2048x512 .bf16) (x4 : Vec Ideal S1x1x512x2048 .bf16) (p : Fin 1024) (n : Fin 2048) :
    (View.canon (firstPieces x0 xn x2 x3 x4) (ix2 p n) : EReal) = x0 (ix2 p n) + ∑ k : Fin 512,
      unitOf (fun i => xn (ix2 p i)) (fun i => x2 (ix4 0 0 i k)) (fun i => x3 (ix4 0 0 i k)) * half * x4 (ix4 0 0 k n) := by
  have P : View.PiecesOf (Val := Elt Ideal) (fun y : S1024x2048.Idx => (x0 (ix2 (y 0) (y 1)) + ∑ k : Fin 512,
      unitOf (fun i => xn (ix2 (y 0) i)) (fun i => x2 (ix4 0 0 i k)) (fun i => x3 (ix4 0 0 i k)) * half * x4 (ix4 0 0 k (y 1)) : EReal)) (firstPieces x0 xn x2 x3 x4) := by
    refine ⟨?_, ?_, ?_, ?_, trivial⟩
    · intro x
      dsimp only at x ⊢
      obtain ⟨a, b, rfl⟩ : ∃ a b, x = ix2 a b := ⟨_, _, eq_ix2 x⟩
      rw [emb_cols 1536 (by decide) _ a b]
      exact (chunk_3 _ _ _ a b).trans (congrArg₂ (fun y z : EReal => y + z) (ld_cols x0 1536 (by decide) _ a b)
        (Finset.sum_congr rfl fun k _ => congrArg₂ (fun y z : EReal => y * z) ((unit_first _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 1536 (by decide) _ k b)))
    · intro x
      dsimp only at x ⊢
      obtain ⟨a, b, rfl⟩ : ∃ a b, x = ix2 a b := ⟨_, _, eq_ix2 x⟩
      rw [emb_cols 1024 (by decide) _ a b]
      exact (chunk_2 _ _ _ a b).trans (congrArg₂ (fun y z : EReal => y + z) (ld_cols x0 1024 (by decide) _ a b)
        (Finset.sum_congr rfl fun k _ => congrArg₂ (fun y z : EReal => y * z) ((unit_first _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 1024 (by decide) _ k b)))
    · intro x
      dsimp only at x ⊢
      obtain ⟨a, b, rfl⟩ : ∃ a b, x = ix2 a b := ⟨_, _, eq_ix2 x⟩
      rw [emb_cols 512 (by decide) _ a b]
      exact (chunk_1 _ _ _ a b).trans (congrArg₂ (fun y z : EReal => y + z) (ld_cols x0 512 (by decide) _ a b)
        (Finset.sum_congr rfl fun k _ => congrArg₂ (fun y z : EReal => y * z) ((unit_first _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 512 (by decide) _ k b)))
    · intro x
      dsimp only at x ⊢
      obtain ⟨a, b, rfl⟩ : ∃ a b, x = ix2 a b := ⟨_, _, eq_ix2 x⟩
      rw [emb_cols 0 (by decide) _ a b]
      exact (chunk_12 _ _ _ _ _ a b).trans (congrArg₂ (fun y z : EReal => y + z) (ld_cols x0 0 (by decide) _ a b)
        (Finset.sum_congr rfl fun k _ => congrArg₂ (fun y z : EReal => y * z) ((unit_first _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 0 (by decide) _ k b)))
  exact View.canon_apply_of_pieces (Val := Elt Ideal) (fun y : S1024x2048.Idx => (x0 (ix2 (y 0) (y 1)) + ∑ k : Fin 512,
      unitOf (fun i => xn (ix2 (y 0) i)) (fun i => x2 (ix4 0 0 i k)) (fun i => x3 (ix4 0 0 i k)) * half * x4 (ix4 0 0 k (y 1)) : EReal)) _ P.mem (ix2 p n) (firstPieces_cover x0 xn x2 x3 x4 _)

/-- The output block after an inner column block. -/
theorem inner_at (acc : Vec Ideal S1024x2048 .f32) (xn : Vec Ideal S1024x2048 .bf16) (x2 x3 : Vec Ideal S1x1x2048x512 .bf16) (x4 : Vec Ideal S1x1x512x2048 .bf16) (p : Fin 1024) (n : Fin 2048) :
    (View.canon (innerPieces acc xn x2 x3 x4) (ix2 p n) : EReal) = acc (ix2 p n) + ∑ k : Fin 512,
      unitOf (fun i => xn (ix2 p i)) (fun i => x2 (ix4 0 0 i k)) (fun i => x3 (ix4 0 0 i k)) * half * x4 (ix4 0 0 k n) := by
  have P : View.PiecesOf (Val := Elt Ideal) (fun y : S1024x2048.Idx => (acc (ix2 (y 0) (y 1)) + ∑ k : Fin 512,
      unitOf (fun i => xn (ix2 (y 0) i)) (fun i => x2 (ix4 0 0 i k)) (fun i => x3 (ix4 0 0 i k)) * half * x4 (ix4 0 0 k (y 1)) : EReal)) (innerPieces acc xn x2 x3 x4) := by
    refine ⟨?_, ?_, ?_, ?_, trivial⟩
    · intro x
      dsimp only at x ⊢
      obtain ⟨a, b, rfl⟩ : ∃ a b, x = ix2 a b := ⟨_, _, eq_ix2 x⟩
      rw [emb_cols 1536 (by decide) _ a b]
      exact (chunk_6 _ _ _ a b).trans (congrArg₂ (fun y z : EReal => y + z) (ld_cols acc 1536 (by decide) _ a b)
        (Finset.sum_congr rfl fun k _ => congrArg₂ (fun y z : EReal => y * z) ((unit_inner _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 1536 (by decide) _ k b)))
    · intro x
      dsimp only at x ⊢
      obtain ⟨a, b, rfl⟩ : ∃ a b, x = ix2 a b := ⟨_, _, eq_ix2 x⟩
      rw [emb_cols 1024 (by decide) _ a b]
      exact (chunk_5 _ _ _ a b).trans (congrArg₂ (fun y z : EReal => y + z) (ld_cols acc 1024 (by decide) _ a b)
        (Finset.sum_congr rfl fun k _ => congrArg₂ (fun y z : EReal => y * z) ((unit_inner _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 1024 (by decide) _ k b)))
    · intro x
      dsimp only at x ⊢
      obtain ⟨a, b, rfl⟩ : ∃ a b, x = ix2 a b := ⟨_, _, eq_ix2 x⟩
      rw [emb_cols 512 (by decide) _ a b]
      exact (chunk_4 _ _ _ a b).trans (congrArg₂ (fun y z : EReal => y + z) ((same_15 _ a b).trans (ld_cols acc 512 (by decide) _ a b))
        (Finset.sum_congr rfl fun k _ => congrArg₂ (fun y z : EReal => y * z) ((unit_inner _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 512 (by decide) _ k b)))
    · intro x
      dsimp only at x ⊢
      obtain ⟨a, b, rfl⟩ : ∃ a b, x = ix2 a b := ⟨_, _, eq_ix2 x⟩
      rw [emb_cols 0 (by decide) _ a b]
      exact (chunk_14 _ _ _ _ _ a b).trans (congrArg₂ (fun y z : EReal => y + z) (ld_cols acc 0 (by decide) _ a b)
        (Finset.sum_congr rfl fun k _ => congrArg₂ (fun y z : EReal => y * z) ((unit_inner _ _ _ a k).trans (congrArg (fun y : EReal => y * half)
          (unitOf_congr (fun i => congrFun (whole_rows xn _) (ix2 a i)) (fun i => congrFun (whole_weights x2 _) (ix4 0 0 i k)) (fun i => congrFun (whole_weights x3 _) (ix4 0 0 i k))))) (ld_down x4 0 (by decide) _ k b)))
  exact View.canon_apply_of_pieces (Val := Elt Ideal) (fun y : S1024x2048.Idx => (acc (ix2 (y 0) (y 1)) + ∑ k : Fin 512,
      unitOf (fun i => xn (ix2 (y 0) i)) (fun i => x2 (ix4 0 0 i k)) (fun i => x3 (ix4 0 0 i k)) * half * x4 (ix4 0 0 k (y 1)) : EReal)) _ P.mem (ix2 p n) (innerPieces_cover acc xn x2 x3 x4 _)

/-- The output block after the last column block. -/
theorem last_at (acc : Vec Ideal S1024x2048 .f32) (xn : Vec Ideal S1024x2048 .bf16) (x2 x3 : Vec Ideal S1x1x2048x512 .bf16) (x4 : Vec Ideal S1x1x512x2048 .bf16) (p : Fin 1024) (n : Fin 2048) :
    (View.canon (lastPieces acc xn x2 x3 x4) (ix2 p n) : EReal) = acc (ix2 p n) + ∑ k : Fin 384,
      unitOf (fun i => xn (ix2 p i)) (fun i => x2 (ix4 0 0 i ⟨k.val, by omega⟩)) (fun i => x3 (ix4 0 0 i ⟨k.val, by omega⟩)) * half * x4 (ix4 0 0 ⟨k.val, by omega⟩ n) := by
  have P : View.PiecesOf (Val := Elt Ideal) (fun y : S1024x2048.Idx => (acc (ix2 (y 0) (y 1)) + ∑ k : Fin 384,
      unitOf (fun i => xn (ix2 (y 0) i)) (fun i => x2 (ix4 0 0 i ⟨k.val, by omega⟩)) (fun i => x3 (ix4 0 0 i ⟨k.val, by omega⟩)) * half * x4 (ix4 0 0 ⟨k.val, by omega⟩ (y 1)) : EReal)) (lastPieces acc xn x2 x3 x4) := by
    refine ⟨?_, ?_, ?_, ?_, trivial⟩
    · intro x
      dsimp only at x ⊢
      obtain ⟨a, b, rfl⟩ : ∃ a b, x = ix2 a b := ⟨_, _, eq_ix2 x⟩
      rw [emb_cols 1536 (by decide) _ a b]
      exact (chunk_9 _ _ _ a b).trans (congrArg₂ (fun y z : EReal => y + z) (ld_cols acc 1536 (by decide) _ a b)
        (Finset.sum_congr rfl fun k _ => congrArg₂ (fun y z : EReal => y * z) ((unit_last _ _ _ a k).trans (congrArg (fun y : EReal => y * half)
          (unitOf_congr (fun i => congrFun (whole_rows xn _) (ix2 a i)) (fun i => part_weights x2 _ i k) (fun i => part_weights x3 _ i k)))) (ld_down_part x4 1536 (by decide) _ k b)))
    · intro x
      dsimp only at x ⊢
      obtain ⟨a, b, rfl⟩ : ∃ a b, x = ix2 a b := ⟨_, _, eq_ix2 x⟩
      rw [emb_cols 1024 (by decide) _ a b]
      exact (chunk_8 _ _ _ a b).trans (congrArg₂ (fun y z : EReal => y + z) (ld_cols acc 1024 (by decide) _ a b)
        (Finset.sum_congr rfl fun k _ => congrArg₂ (fun y z : EReal => y * z) ((unit_last _ _ _ a k).trans (congrArg (fun y : EReal => y * half)
          (unitOf_congr (fun i => congrFun (whole_rows xn _) (ix2 a i)) (fun i => part_weights x2 _ i k) (fun i => part_weights x3 _ i k)))) (ld_down_part x4 1024 (by decide) _ k b)))
    · intro x
      dsimp only at x ⊢
      obtain ⟨a, b, rfl⟩ : ∃ a b, x = ix2 a b := ⟨_, _, eq_ix2 x⟩
      rw [emb_cols 512 (by decide) _ a b]
      exact (chunk_7 _ _ _ a b).trans (congrArg₂ (fun y z : EReal => y + z) ((same_18 _ a b).trans (ld_cols acc 512 (by decide) _ a b))
        (Finset.sum_congr rfl fun k _ => congrArg₂ (fun y z : EReal => y * z) ((unit_last _ _ _ a k).trans (congrArg (fun y : EReal => y * half)
          (unitOf_congr (fun i => congrFun (whole_rows xn _) (ix2 a i)) (fun i => part_weights x2 _ i k) (fun i => part_weights x3 _ i k)))) (ld_down_part x4 512 (by decide) _ k b)))
    · intro x
      dsimp only at x ⊢
      obtain ⟨a, b, rfl⟩ : ∃ a b, x = ix2 a b := ⟨_, _, eq_ix2 x⟩
      rw [emb_cols 0 (by decide) _ a b]
      exact (chunk_17 _ _ _ _ _ a b).trans (congrArg₂ (fun y z : EReal => y + z) (ld_cols acc 0 (by decide) _ a b)
        (Finset.sum_congr rfl fun k _ => congrArg₂ (fun y z : EReal => y * z) ((unit_last _ _ _ a k).trans (congrArg (fun y : EReal => y * half)
          (unitOf_congr (fun i => congrFun (whole_rows xn _) (ix2 a i)) (fun i => part_weights x2 _ i k) (fun i => part_weights x3 _ i k)))) (ld_down_part x4 0 (by decide) _ k b)))
  exact View.canon_apply_of_pieces (Val := Elt Ideal) (fun y : S1024x2048.Idx => (acc (ix2 (y 0) (y 1)) + ∑ k : Fin 384,
      unitOf (fun i => xn (ix2 (y 0) i)) (fun i => x2 (ix4 0 0 i ⟨k.val, by omega⟩)) (fun i => x3 (ix4 0 0 i ⟨k.val, by omega⟩)) * half * x4 (ix4 0 0 ⟨k.val, by omega⟩ (y 1)) : EReal)) _ P.mem (ix2 p n) (lastPieces_cover acc xn x2 x3 x4 _)

end Cert.Ffn
end
-- ==== Proof.FfnReference.lean ====
module
public import proofs.«01_k».proof.Proof.FfnReal
public import proofs.«01_k».proof.Proof.Gen.Reference2Ideal.Run

/-!
# The reference's feed-forward layer, entry by entry

An output entry is the input's entry plus a sum, over the hidden units, of the unit times its weight; the factor one half goes
inside the sum.
-/

@[expose] public section
set_option maxRecDepth 16384
noncomputable section
namespace Cert.Ffn
open Idealize.ShloMosaic
open Cert.Reference2Ideal Cert.Reference2Ideal.Gen Cert.Reference2Ideal.Value

/-- The reference's result, as the operations compose it. -/
def refTerm (x : FVec Ideal S16384x2048 .f32) (g : FVec Ideal S2048 .f32) (a b : FVec Ideal S2048x5504 .f32) (d : FVec Ideal S5504x2048 .f32) :
    FVec Ideal S16384x2048 .f32 :=
  addf x (mulf (broadcastInDim S16384x2048 ![] bcast_S_S16384x2048 (constant S_ .f32 0x3F000000#32)) (Host.dotGeneral dot_S16384x5504_S5504x2048_S16384x2048_1_0_0_1_n_n none (mulf (mulf (Host.dotGeneral dot_S16384x2048_S2048x5504_S16384x5504_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) a) (Host.divf (broadcastInDim S16384x5504 ![] bcast_S_S16384x5504 (constant S_ .f32 0x3F800000#32)) (addf (broadcastInDim S16384x5504 ![] bcast_S_S16384x5504 (constant S_ .f32 0x3F800000#32)) (Host.exp (Host.negf (Host.dotGeneral dot_S16384x2048_S2048x5504_S16384x5504_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) a)))))) (Host.dotGeneral dot_S16384x2048_S2048x5504_S16384x5504_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) b)) d))

theorem half_eq : half = ((1 / 2 : ℝ) : EReal) := by
  simp [half, Ideal.ofBits, Ideal.ieee, -EReal.coe_mul]; norm_num

/-- One half goes inside a sum. -/
theorem half_sum {ι : Type} (s : Finset ι) (f : ι → EReal) : half * ∑ k ∈ s, f k = ∑ k ∈ s, half * f k := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih =>
    rw [Finset.sum_insert ha, Finset.sum_insert ha, EReal.left_distrib_of_nonneg_of_ne_top h0 h1, ih]

/-- What hidden unit `q` adds to output `n` of row `r`. -/
def term (x : FVec Ideal S16384x2048 .f32) (g : FVec Ideal S2048 .f32) (a b : FVec Ideal S2048x5504 .f32) (d : FVec Ideal S5504x2048 .f32)
    (r : Fin 16384) (n : Fin 2048) (q : ℕ) : EReal :=
  if h : q < 5504 then unitOf (normRow (fun j => x (ix2 r j)) (fun j => g (ix1 j))) (fun i => a (ix2 i ⟨q, h⟩)) (fun i => b (ix2 i ⟨q, h⟩)) * half * d (ix2 ⟨q, h⟩ n)
  else 0

/-- The reference's result at an index. -/
theorem ref_at (x : FVec Ideal S16384x2048 .f32) (g : FVec Ideal S2048 .f32) (a b : FVec Ideal S2048x5504 .f32) (d : FVec Ideal S5504x2048 .f32)
    (r : Fin 16384) (n : Fin 2048) :
    (refTerm x g a b d (ix2 r n) : EReal) = x (ix2 r n) + ∑ q ∈ Finset.range 5504, term x g a b d r n q := by
  have e : (refTerm x g a b d (ix2 r n) : EReal) = x (ix2 r n) + half * ∑ k : Fin 5504,
      unitOf (normRow (fun j => x (ix2 r j)) (fun j => g (ix1 j))) (fun i => a (ix2 i k)) (fun i => b (ix2 i k)) * d (ix2 k n) := by
    unfold refTerm
    pointwise
    simp only [unitOf, normRow, zero_sub]
  rw [e, half_sum, Finset.sum_range]
  refine congrArg (fun y : EReal => x (ix2 r n) + y) (Finset.sum_congr rfl fun k _ => ?_)
  unfold term
  rw [dif_pos k.isLt, ← mul_assoc, mul_comm half]

end Cert.Ffn
end
-- ==== Proof.FfnFirst.lean ====
/-
  The body of the feed-forward kernel at the first column block.
-/
module

public import proofs.«01_k».proof.Proof.FfnPoints

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The run at the first column block: the scratch ends with the normalised rows, the output block with the
    sum of the input and the first product. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S1024x2048 .f32) (harg7 : arg7.IsWhole) (arg8 : Memref sig .tc .vmem S1024x2048 .bf16) (harg8 : arg8.IsWhole)
    (h1 : k0_cond1 i = 1#1) (h2 : ¬k0_cond2 i = 1#1) (h3 : ¬k0_cond3 i = 1#1)
    (x0 : Vec F S1024x2048 .f32) (x1 : Vec F S1x2048 .f32) (x2 x3 : Vec F S1x1x2048x512 .bf16) (x4 : Vec F S1x1x512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (firstPieces x0 (normed x0 x1) x2 x3 x4)) ∗ owns (c : Thread nD τ) arg8 fullShare (normed x0 x1)) -∗ K ⟨⟩))
      ⊢ wp frame (wpE (defs₀ (F := F)) Variants.none c none) Set.univ (cc0_ffn i arg2 harg2 arg3 harg3 arg4 harg4 arg5 harg5 arg6 harg6 arg7 harg7 arg8 harg8) K := by
  have e1 := runA_pieces c i arg2 harg2 arg3 harg3 arg4 harg4 arg5 harg5 arg6 harg6 arg7 harg7 arg8 harg8 h1 h2 h3 x0 x1 x2 x3 x4
  have e2 := fun g => runA_out c i arg2 harg2 arg3 harg3 arg4 harg4 arg5 harg5 arg6 harg6 arg7 harg7 arg8 harg8 h1 h2 h3 x0 x1 x2 x3 x4 g
  revert e1 e2
  generalize runA c i arg2 harg2 arg3 harg3 arg4 harg4 arg5 harg5 arg6 harg6 arg7 harg7 arg8 harg8 h1 h2 h3 x0 x1 x2 x3 x4 = R
  obtain ⟨L, LS, hR⟩ := R
  intro e1 e2
  dsimp only at e1 e2
  obtain rfl := e1
  obtain rfl : L = fun _ => firstPieces x0 (normed x0 x1) x2 x3 x4 := funext e2
  iintro ⟨H0, H1, H2, H3, H4, H5, HS, HK⟩
  iapply (hR Set.univ K)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%f, %g, H5, HS⟩⟩
  iapply HK
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact View.read_writes_eq_canon _ _ _ (firstPieces_cover _ _ _ _ _)
  unfold owns; iexists _; isplitr
  swap; · iexact HS
  ipureintro
  exact View.read_writes_eq_canon _ _ _ (rowPieces_cover _ _)

set_option maxHeartbeats 1600000 in
/-- At the first column block, whatever the scratch holds. -/
theorem body_first (c : Dev nD) (t : Fin cfg0.N) (h : t.val % 11 = 0) (d2 d3 : Vec F S1x1x2048x512 .bf16) (d4 : Vec F S1x1x512x2048 .bf16) (K : PUnit → sProp 𝕄) :
    iprop(owns (c : Thread nD τ) (st0_0 t) fullShare (rowBlk m c t) ∗ owns (c : Thread nD τ) (st0_1 t) fullShare (gainBlk m c t)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ (∃ d, owns (c : Thread nD τ) (st0_5 t) fullShare d) ∗ (∃ d, owns (c : Thread nD τ) scr fullShare d)
        ∗ (iprop(owns (c : Thread nD τ) (st0_0 t) fullShare (rowBlk m c t) ∗ owns (c : Thread nD τ) (st0_1 t) fullShare (gainBlk m c t)
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare (held m c t.val t.isLt).1 ∗ owns (c : Thread nD τ) scr fullShare (held m c t.val t.isLt).2) -∗ K ⟨⟩))
      ⊢ wp frame (wpE (defs₀ (F := F)) Variants.none c none) Set.univ (bodyAt0 t) K := by
  have n10 : ¬t.val % 11 = 10 := by omega
  have c1 := (cond_first t).mpr h
  have c2 : ¬k0_cond2 (grid0.coords t) = 1#1 := fun hh => by have := (cond_inner t).mp hh; omega
  have c3 : ¬k0_cond3 (grid0.coords t) = 1#1 := fun hh => n10 ((cond_last t).mp hh)
  have w2 : win0_2.fill (grid0.coords t) d2 (iblk m c 2 t) = gateBlk m c t := fill2_whole t n10 _ _ _
  have w3 : win0_3.fill (grid0.coords t) d3 (iblk m c 3 t) = upBlk m c t := fill3_whole t n10 _ _ _
  have w4 : win0_4.fill (grid0.coords t) d4 (iblk m c 4 t) = downBlk m c t := fill4_whole t n10 _ _ _
  rw [held_first m c t h, w2, w3, w4]
  unfold bodyAt0
  iintro ⟨H0, H1, H2, H3, H4, H5, HS, HK⟩
  iapply (run_first c (grid0.coords t) _ _ _ _ _ _ _ _ _ _ _ _ _ _ c1 c2 c3 (rowBlk m c t) (gainBlk m c t) (gateBlk m c t) (upBlk m c t) (downBlk m c t) K)
  isplitl [H0]; · iexact H0
  isplitl [H1]; · iexact H1
  isplitl [H2]; · iexact H2
  isplitl [H3]; · iexact H3
  isplitl [H4]; · iexact H4
  isplitl [H5]; · iexact H5
  isplitl [HS]; · iexact HS
  iexact HK

end Cert.Ffn

end
-- ==== Proof.FfnLater.lean ====
/-
  The body of the feed-forward kernel at an inner and at the last column block.
-/
module

public import proofs.«01_k».proof.Proof.FfnPoints

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the weights' buffers stated on what lies inside the arrays. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t))

theorem cut2 (c : Dev nD) (t : Fin cfg0.N) : win0_2.cut (grid0.coords t) (gateBlk m c t) = iblk m c 2 t := win0_2.cut_fill _ _ _
theorem cut3 (c : Dev nD) (t : Fin cfg0.N) : win0_3.cut (grid0.coords t) (upBlk m c t) = iblk m c 3 t := win0_3.cut_fill _ _ _
theorem cut4 (c : Dev nD) (t : Fin cfg0.N) : win0_4.cut (grid0.coords t) (downBlk m c t) = iblk m c 4 t := win0_4.cut_fill _ _ _

/-- What the scratch holds after point `t`, as the invariant states it. -/
theorem inv_next (c : Dev nD) (t : Fin cfg0.N) :
    (dats m 0 c).Φ t.succ = iprop(owns (c : Thread nD τ) scr fullShare (held m c t.val t.isLt).2 ∗ (∃ r, prngReg c r)) := rfl

set_option maxHeartbeats 1600000 in
/-- At an inner column block. -/
theorem body_inner (c : Dev nD) (t : Fin cfg0.N) (h : ¬t.val % 11 = 0) (h' : ¬t.val % 11 = 10) (d2 d3 : Vec F S1x1x2048x512 .bf16) (d4 : Vec F S1x1x512x2048 .bf16) (K : PUnit → sProp 𝕄) :
    iprop(owns (c : Thread nD τ) (st0_0 t) fullShare (rowBlk m c t) ∗ owns (c : Thread nD τ) (st0_1 t) fullShare (gainBlk m c t)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ owns (c : Thread nD τ) (st0_5 t) fullShare (held m c (t.val - 1) (by omega)).1 ∗ owns (c : Thread nD τ) scr fullShare (held m c (t.val - 1) (by omega)).2
        ∗ (iprop(owns (c : Thread nD τ) (st0_0 t) fullShare (rowBlk m c t) ∗ owns (c : Thread nD τ) (st0_1 t) fullShare (gainBlk m c t)
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare (held m c t.val t.isLt).1 ∗ owns (c : Thread nD τ) scr fullShare (held m c t.val t.isLt).2) -∗ K ⟨⟩))
      ⊢ wp frame (wpE (defs₀ (F := F)) Variants.none c none) Set.univ (bodyAt0 t) K := by
  have c1 : ¬k0_cond1 (grid0.coords t) = 1#1 := fun hh => h ((cond_first t).mp hh)
  have c2 := (cond_inner t).mpr ⟨by omega, by omega⟩
  have c3 : ¬k0_cond3 (grid0.coords t) = 1#1 := fun hh => h' ((cond_last t).mp hh)
  have w2 : win0_2.fill (grid0.coords t) d2 (iblk m c 2 t) = gateBlk m c t := fill2_whole t h' _ _ _
  have w3 : win0_3.fill (grid0.coords t) d3 (iblk m c 3 t) = upBlk m c t := fill3_whole t h' _ _ _
  have w4 : win0_4.fill (grid0.coords t) d4 (iblk m c 4 t) = downBlk m c t := fill4_whole t h' _ _ _
  rw [held_inner m c t h h', w2, w3, w4]
  unfold bodyAt0
  iintro ⟨H0, H1, H2, H3, H4, H5, HS, HK⟩
  iapply ((runB c (grid0.coords t) _ _ _ _ _ _ _ _ _ _ _ _ _ _ c1 c2 c3 (rowBlk m c t) (gainBlk m c t) (gateBlk m c t) (upBlk m c t) (downBlk m c t) (held m c (t.val - 1) (by omega)).1 (held m c (t.val - 1) (by omega)).2).2 Set.univ K)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%f, H5⟩, HS⟩
  iapply HK
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [runB_pieces]
    exact View.read_writes_eq_canon _ _ _ (innerPieces_cover _ _ _ _ _)
  iexact HS

set_option maxHeartbeats 1600000 in
/-- At the last column block, whatever the weights' buffers hold past the arrays' end. -/
theorem body_last (c : Dev nD) (t : Fin cfg0.N) (h : t.val % 11 = 10) (d2 d3 : Vec F S1x1x2048x512 .bf16) (d4 : Vec F S1x1x512x2048 .bf16) (K : PUnit → sProp 𝕄) :
    iprop(owns (c : Thread nD τ) (st0_0 t) fullShare (rowBlk m c t) ∗ owns (c : Thread nD τ) (st0_1 t) fullShare (gainBlk m c t)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ owns (c : Thread nD τ) (st0_5 t) fullShare (held m c (t.val - 1) (by omega)).1 ∗ owns (c : Thread nD τ) scr fullShare (held m c (t.val - 1) (by omega)).2
        ∗ (iprop(owns (c : Thread nD τ) (st0_0 t) fullShare (rowBlk m c t) ∗ owns (c : Thread nD τ) (st0_1 t) fullShare (gainBlk m c t)
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare (held m c t.val t.isLt).1 ∗ owns (c : Thread nD τ) scr fullShare (held m c t.val t.isLt).2) -∗ K ⟨⟩))
      ⊢ wp frame (wpE (defs₀ (F := F)) Variants.none c none) Set.univ (bodyAt0 t) K := by
  have c1 : ¬k0_cond1 (grid0.coords t) = 1#1 := fun hh => by have := (cond_first t).mp hh; omega
  have c2 : ¬k0_cond2 (grid0.coords t) = 1#1 := fun hh => by have := (cond_inner t).mp hh; omega
  have c3 := (cond_last t).mpr h
  have hw := lastPieces_congr (held m c (t.val - 1) (by omega)).1 (held m c (t.val - 1) (by omega)).2
    (gateBlk m c t) (upBlk m c t) (win0_2.fill (grid0.coords t) d2 (iblk m c 2 t)) (win0_3.fill (grid0.coords t) d3 (iblk m c 3 t))
    (downBlk m c t) (win0_4.fill (grid0.coords t) d4 (iblk m c 4 t))
    (fill2_part t h _ _ _) (fill3_part t h _ _ _) (fill4_part t h _ _ _)
  rw [held_last m c t h, hw]
  unfold bodyAt0
  iintro ⟨H0, H1, H2, H3, H4, H5, HS, HK⟩
  iapply ((runC c (grid0.coords t) _ _ _ _ _ _ _ _ _ _ _ _ _ _ c1 c2 c3 (rowBlk m c t) (gainBlk m c t) (win0_2.fill (grid0.coords t) d2 (iblk m c 2 t)) (win0_3.fill (grid0.coords t) d3 (iblk m c 3 t)) (win0_4.fill (grid0.coords t) d4 (iblk m c 4 t)) (held m c (t.val - 1) (by omega)).1 (held m c (t.val - 1) (by omega)).2).2 Set.univ K)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%f, H5⟩, HS⟩
  iapply HK
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [runC_pieces]
    exact View.read_writes_eq_canon _ _ _ (lastPieces_cover _ _ _ _ _)
  iexact HS

end Cert.Ffn

end
-- ==== Proof.FfnFrame.lean ====
/-
  The frame of the feed-forward kernel: the body at every point, and the launch.
-/
module

public import proofs.«01_k».proof.Proof.FfnFirst
public import proofs.«01_k».proof.Proof.FfnLater

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl, inv_next,
    after0, after1, after2, after3, after4, after5, cut2, cut3, cut4, inv_start]
  by_cases h0 : t.val % 11 = 0
  · by_cases hz : t.val = 0
    · rw [inv_zero m c _ _ hz, entry_eq]
      iintro ⟨⟨HS, Hg⟩, Ho, ⟨%d0, H0⟩, ⟨%d1, H1⟩, ⟨%d2, H2⟩, ⟨%d3, H3⟩, ⟨%d4, H4⟩, ⟨%d5, H5⟩⟩
      iapply (body_first m c t h0 d2 d3 d4 _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexact H5
    · rw [inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (body_first m c t h0 d2 d3 d4 _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexact H5
  · have hz : t.val ≠ 0 := fun hz => h0 (by rw [hz])
    simp only [before5 m c t h0]
    rw [inv_pos m c _ _ hz]
    by_cases h1 : t.val % 11 = 10
    · iintro ⟨⟨HS, Hg⟩, Ho, ⟨%d0, H0⟩, ⟨%d1, H1⟩, ⟨%d2, H2⟩, ⟨%d3, H3⟩, ⟨%d4, H4⟩, ⟨%d5, H5⟩⟩
      iapply (body_last m c t h1 d2 d3 d4 _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexact H5
    · iintro ⟨⟨HS, Hg⟩, Ho, ⟨%d0, H0⟩, ⟨%d1, H1⟩, ⟨%d2, H2⟩, ⟨%d3, H3⟩, ⟨%d4, H4⟩, ⟨%d5, H5⟩⟩
      iapply (body_inner m c t h0 h1 d2 d3 d4 _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexact H5

/-- The body obligation of the pipeline. -/
theorem body_obligation (c : Dev nD) : BodyObligationLoose (dats (F := F) m 0 c) (defs₀ (F := F)) Variants.none () Set.univ := fun t => by
  rw [bigSep_W0, bigSep_W0]
  have hrow : defs₀ (F := F) .tc cfg0.body (cfg0.bodyArgs t (cfg0.slots t)) = bodyAt0 t := by unfold defs₀; rw [Defs.onTc_tc]
  have hlive : idle0 5 (grid0.coords t) = false := live5 (cfg0.grid.coords t)
  rw [hrow]
  simp only
  rw [hlive]
  exact sound_body m c t

/-! ## The launch -/

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 176 := N_0; omega), entry_eq]
  iintro ⟨HS, Hg⟩
  isplitl [HS]; · iexists _; iexact HS
  iexact Hg

set_option backward.isDefEq.respectTransparency.types false in
/-- Every execution ends, with the arrays at what the proof data computes and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn

end
-- ==== Proof.FfnValue.lean ====
module
public import proofs.«01_k».proof.Proof.FfnBlocks
public import proofs.«01_k».proof.Proof.FfnReference
public import proofs.«01_k».proof.Proof.FfnFrame

/-!
# The feed-forward kernel's result, entry by entry

After the point of column block `j` the output block holds the input's rows plus the share of the first `512 (j + 1)` hidden
units; after the last column block, of all 5504.  That block is written back, and the blocks tile the result.
-/

@[expose] public section
set_option maxRecDepth 16384
noncomputable section
namespace Cert.Ffn
open Cert.Kernel2Ideal Cert.Kernel2Ideal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- What hidden unit `q` adds to output `n` of row `r`. -/
abbrev share (r : Fin 16384) (n : Fin 2048) (q : ℕ) : EReal := term (rows m c) (gains m c) (gateW m c) (upW m c) (downW m c) r n q
/-- Row `r`, normalised. -/
abbrev normAt (r : Fin 16384) (i : Fin 2048) : EReal := normRow (fun j => rows m c (ix2 r j)) (fun j => gains m c (ix1 j)) i

/-- One column block's unit, from the buffers. -/
theorem share_at (t : Fin cfg0.N) (p : Fin 1024) (n : Fin 2048) (k : Fin 512) (h : t.val % 11 * 512 + k.val < 5504) (xn : Vec Ideal S1024x2048 .bf16)
    (hx : ∀ i, (xn (ix2 p i) : EReal) = normAt m c (rowAt t.val t.isLt p) i) :
    unitOf (fun i => xn (ix2 p i)) (fun i => gateBlk m c t (ix4 0 0 i k)) (fun i => upBlk m c t (ix4 0 0 i k)) * half * downBlk m c t (ix4 0 0 k n)
      = share m c (rowAt t.val t.isLt p) n (t.val % 11 * 512 + k.val) := by
  unfold share term
  rw [dif_pos h, down_block m c t k n h]
  exact congrArg (fun y : EReal => y * half * _) (unitOf_congr hx (fun i => gate_block m c t i k h) (fun i => up_block m c t i k h))

/-- The column block's share of an output. -/
theorem shares_whole (t : Fin cfg0.N) (ht : ¬t.val % 11 = 10) (p : Fin 1024) (n : Fin 2048) (xn : Vec Ideal S1024x2048 .bf16)
    (hx : ∀ i, (xn (ix2 p i) : EReal) = normAt m c (rowAt t.val t.isLt p) i) :
    (∑ k : Fin 512, unitOf (fun i => xn (ix2 p i)) (fun i => gateBlk m c t (ix4 0 0 i k)) (fun i => upBlk m c t (ix4 0 0 i k)) * half * downBlk m c t (ix4 0 0 k n))
      = ∑ q ∈ Finset.range 512, share m c (rowAt t.val t.isLt p) n (t.val % 11 * 512 + q) := by
  rw [Finset.sum_range]
  exact Finset.sum_congr rfl fun k _ => share_at m c t p n k (by omega) xn hx
theorem shares_part (t : Fin cfg0.N) (ht : t.val % 11 = 10) (p : Fin 1024) (n : Fin 2048) (xn : Vec Ideal S1024x2048 .bf16)
    (hx : ∀ i, (xn (ix2 p i) : EReal) = normAt m c (rowAt t.val t.isLt p) i) :
    (∑ k : Fin 384, unitOf (fun i => xn (ix2 p i)) (fun i => gateBlk m c t (ix4 0 0 i ⟨k.val, by omega⟩)) (fun i => upBlk m c t (ix4 0 0 i ⟨k.val, by omega⟩)) * half
        * downBlk m c t (ix4 0 0 ⟨k.val, by omega⟩ n))
      = ∑ q ∈ Finset.range 384, share m c (rowAt t.val t.isLt p) n (t.val % 11 * 512 + q) := by
  rw [Finset.sum_range]
  exact Finset.sum_congr rfl fun k _ => share_at m c t p n ⟨k.val, by omega⟩ (by have := k.isLt; dsimp only; omega) xn hx

/-- What the output block and the scratch hold after point `t`. -/
structure Good (t : ℕ) (ht : t < cfg0.N) (X : Vec Ideal S1024x2048 .f32 × Vec Ideal S1024x2048 .bf16) : Prop where
  rows : ∀ p i, (X.2 (ix2 p i) : EReal) = normAt m c (rowAt t ht p) i
  out : ∀ p n, (X.1 (ix2 p n) : EReal)
    = Cert.Ffn.rows m c (ix2 (rowAt t ht p) n) + ∑ q ∈ Finset.range (t % 11 * 512 + if t % 11 = 10 then 384 else 512), share m c (rowAt t ht p) n q

theorem rowAt_pred (t : ℕ) (ht : t < cfg0.N) (h : ¬t % 11 = 0) (p : Fin 1024) : rowAt (t - 1) (by omega) p = rowAt t ht p := by
  apply Fin.ext; show (t - 1) / 11 * 1024 + p.val = t / 11 * 1024 + p.val
  have : (t - 1) / 11 = t / 11 := by omega
  rw [this]

theorem good_start (t : Fin cfg0.N) (h0 : t.val % 11 = 0) (xn : Vec Ideal S1024x2048 .bf16)
    (hn : ∀ p i, (xn (ix2 p i) : EReal) = normAt m c (rowAt t.val t.isLt p) i) :
    Good m c t.val t.isLt (View.canon (firstPieces (rowBlk m c t) xn (gateBlk m c t) (upBlk m c t) (downBlk m c t)), xn) := by
  refine ⟨hn, fun p n => ?_⟩
  have h1 : ¬t.val % 11 = 10 := by omega
  have e := shares_whole m c t h1 p n xn (hn p)
  simp only [h0, Nat.zero_mul, Nat.zero_add] at e
  dsimp only
  rw [if_neg h1, h0, Nat.zero_mul, Nat.zero_add, ← e, ← row_block m c t p n]
  exact first_at _ _ _ _ _ p n

theorem good_first (t : Fin cfg0.N) (h0 : t.val % 11 = 0) : Good m c t.val t.isLt
    (View.canon (firstPieces (rowBlk m c t) (normed (rowBlk m c t) (gainBlk m c t)) (gateBlk m c t) (upBlk m c t) (downBlk m c t)), normed (rowBlk m c t) (gainBlk m c t)) :=
  good_start m c t h0 _ fun p i =>
    (normed_at _ _ p i).trans (normRow_congr (fun j => row_block m c t p j) (fun j => gain_block m c t j) i)

theorem good_later (t : Fin cfg0.N) (h0 : ¬t.val % 11 = 0) (acc : Vec Ideal S1024x2048 .f32) (xn : Vec Ideal S1024x2048 .bf16)
    (G : Good m c (t.val - 1) (by omega) (acc, xn)) :
    (∀ p i, (xn (ix2 p i) : EReal) = normAt m c (rowAt t.val t.isLt p) i)
      ∧ ∀ p n, (acc (ix2 p n) : EReal) = Cert.Ffn.rows m c (ix2 (rowAt t.val t.isLt p) n) + ∑ q ∈ Finset.range (t.val % 11 * 512), share m c (rowAt t.val t.isLt p) n q := by
  refine ⟨fun p i => (G.rows p i).trans (by rw [rowAt_pred t.val t.isLt h0]), fun p n => (G.out p n).trans ?_⟩
  rw [rowAt_pred t.val t.isLt h0, if_neg (by omega), show (t.val - 1) % 11 * 512 + 512 = t.val % 11 * 512 by omega]

theorem good_last (t : Fin cfg0.N) (h1 : t.val % 11 = 10) (acc : Vec Ideal S1024x2048 .f32) (xn : Vec Ideal S1024x2048 .bf16)
    (G : Good m c (t.val - 1) (by omega) (acc, xn)) :
    Good m c t.val t.isLt (View.canon (lastPieces acc xn (gateBlk m c t) (upBlk m c t) (downBlk m c t)), xn) := by
  obtain ⟨hn, ho⟩ := good_later m c t (by omega) acc xn G
  refine ⟨hn, fun p n => ?_⟩
  dsimp only
  rw [if_pos h1, Finset.sum_range_add, ← add_assoc, ← ho p n, ← shares_part m c t h1 p n xn (hn p)]
  exact last_at acc xn (gateBlk m c t) (upBlk m c t) (downBlk m c t) p n

theorem good_inner (t : Fin cfg0.N) (h0 : ¬t.val % 11 = 0) (h1 : ¬t.val % 11 = 10) (acc : Vec Ideal S1024x2048 .f32) (xn : Vec Ideal S1024x2048 .bf16)
    (G : Good m c (t.val - 1) (by omega) (acc, xn)) :
    Good m c t.val t.isLt (View.canon (innerPieces acc xn (gateBlk m c t) (upBlk m c t) (downBlk m c t)), xn) := by
  obtain ⟨hn, ho⟩ := good_later m c t h0 acc xn G
  refine ⟨hn, fun p n => ?_⟩
  dsimp only
  rw [if_neg h1, Finset.sum_range_add, ← add_assoc, ← ho p n, ← shares_whole m c t h1 p n xn (hn p)]
  exact inner_at acc xn (gateBlk m c t) (upBlk m c t) (downBlk m c t) p n

theorem good (t : ℕ) : ∀ ht : t < cfg0.N, Good m c t ht (held m c t ht) := by
  induction t using Nat.strong_induction_on with
  | _ t ih =>
  intro ht
  by_cases h0 : t % 11 = 0
  · have e : held m c t ht = _ := held_first m c ⟨t, ht⟩ h0
    exact e ▸ good_first m c ⟨t, ht⟩ h0
  · have G := ih (t - 1) (by omega) (by omega)
    by_cases h1 : t % 11 = 10
    · have e : held m c t ht = _ := held_last m c ⟨t, ht⟩ h1
      exact e ▸ good_last m c ⟨t, ht⟩ h1 _ _ G
    · have e : held m c t ht = _ := held_inner m c ⟨t, ht⟩ h0 h1
      exact e ▸ good_inner m c ⟨t, ht⟩ h0 h1 _ _ G

/-! ## The result -/

/-- The layer's result. -/
def result : FVec Ideal S16384x2048 .f32 := refTerm (rows m c) (gains m c) (gateW m c) (upW m c) (downW m c)

/-- Row `p` of point `t`'s block of the result. -/
theorem emb5 (t : Fin cfg0.N) (p : Fin 1024) (n : Fin 2048) : ((cfg0.win 5).blk t).view.emb (ix2 p n) = (ix2 (rowAt t.val t.isLt p) n : S16384x2048.Idx) := by
  obtain ⟨e0, e1⟩ := index5 t
  funext a; apply Fin.ext
  match a with
  | ⟨0, _⟩ => show win0_5.index t (0 : Fin 2) * 1024 + 1 * p.val = t.val / 11 * 1024 + p.val; rw [e0]; omega
  | ⟨1, _⟩ => show win0_5.index t (1 : Fin 2) * 2048 + 1 * n.val = n.val; rw [e1]; omega

/-- What a row of blocks writes back is that part of the result. -/
theorem flushed5 (t : Fin cfg0.N) (hf : (cfg0.win 5).flush t = true) :
    (dats m 0 c).flushed 5 t = ((cfg0.win 5).blk t).view.read (Elt Ideal) (result m c) := by
  have h1 := (flush0_5 t).mp hf
  funext y
  obtain ⟨p, n, rfl⟩ : ∃ (p : Fin 1024) (n : Fin 2048), y = ix2 p n := ⟨_, _, eq_ix2 y⟩
  show (dats m 0 c).after 5 t (ix2 p n) = result m c (((cfg0.win 5).blk t).view.emb (ix2 p n))
  rw [after5, emb5]
  refine ((good m c t.val t.isLt).out p n).trans ?_
  rw [if_pos h1, h1]
  exact (ref_at _ _ _ _ _ _ _).symm

theorem mem5 (t : Fin cfg0.N) (p : Fin 1024) (n : Fin 2048) : (ix2 (rowAt t.val t.isLt p) n : S16384x2048.Idx) ∈ ((cfg0.win 5).blk t).view.set := by
  have h := View.emb_mem_set ((cfg0.win 5).blk t).view (ix2 p n)
  have e := emb5 t p n
  exact e ▸ h

/-- Every row of the result is in some block that is written back. -/
theorem cover5 (i : S16384x2048.Idx) : ∃ t : Fin cfg0.N, (cfg0.win 5).flush t = true ∧ i ∈ ((cfg0.win 5).blk t).view.set := by
  have h0 : (i 0).val < 16384 := (i 0).isLt
  have hN : cfg0.N = 176 := N_0
  obtain ⟨t, ht⟩ : ∃ t : Fin cfg0.N, t.val = (i 0).val / 1024 * 11 + 10 := ⟨⟨(i 0).val / 1024 * 11 + 10, by rw [hN]; omega⟩, rfl⟩
  obtain ⟨p, hp⟩ : ∃ p : Fin 1024, p.val = (i 0).val % 1024 := ⟨⟨(i 0).val % 1024, Nat.mod_lt _ (by decide)⟩, rfl⟩
  have e : i = (ix2 (rowAt t.val t.isLt p) (i 1) : S16384x2048.Idx) := by
    funext a; apply Fin.ext
    match a with
    | ⟨0, _⟩ => show (i 0).val = t.val / 11 * 1024 + p.val; omega
    | ⟨1, _⟩ => rfl
  exact ⟨t, (flush0_5 t).mpr (by omega), by rw [e]; exact mem5 t p (i 1)⟩

/-- The array the result is left in. -/
theorem final5 : (dats m 0 c).arrAt 5 cfg0.N = result m c :=
  (dats m 0 c).arrAt_eq_of_cover 5 (result m c) (flushed5 m c) cover5

/-- The kernel runs and leaves the layer's result. -/
theorem run_value : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 5).trans (final5 m c), h.2.1 c⟩) (θ_run_and (run_main m ρ) (frame m ρ))

end Cert.Ffn
end
-- ==== Proof.Blocks.lean ====
module
public import proofs.«01_k».proof.Proof.Gen.KernelIdeal.Value
public import Idealize.ShloMosaic.Lib.Pointwise
public import Idealize.ShloMosaic.Lib.StableHlo.ReadAt
@[expose] public section
set_option maxRecDepth 16384

/-!
# What each window of the kernel holds at a grid point

The host code flattens batch and time, splits the gate columns off and pads them, and the grid point `t` works on
rows `256 t … 256 t + 255`, that is on batch `t / 32` and chunk `t % 32`.  Each lemma gives an element of a
window's block as an element of the layer's own arguments.
-/

noncomputable section
namespace Cert.Cell
open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ) (c : Dev nD)

/-- The projections a core is given. -/
def proj : FVec Ideal S2x8192x6152 .f32 := m ((c : Thread nD τ).loc main_arg0)
/-- The gate biases a core is given. -/
def bias : FVec Ideal S8 .f32 := m ((c : Thread nD τ).loc main_arg1)
/-- The gains of the heads' norm that a core is given. -/
def gains : FVec Ideal S2048 .f32 := m ((c : Thread nD τ).loc main_arg2)

/-- The batch entry a grid point works on. -/
def batchOf (t : Fin cfg0.N) : Fin 2 := ⟨t.val / 32, by have := t.isLt; have : cfg0.N = 64 := N_0; omega⟩
/-- The time of row `r` of a grid point's chunk. -/
def timeOf (t : Fin cfg0.N) (r : Fin 256) : Fin 8192 := ⟨t.val % 32 * 256 + r.val, by omega⟩

theorem row_lt (t : Fin cfg0.N) (r : Fin 256) : t.val * 256 + r.val < 16384 := by
  have := t.isLt; have : cfg0.N = 64 := N_0; omega

theorem row_batch (t : Fin cfg0.N) (r : Fin 256) (h) :
    (⟨(t.val * 256 + r.val) / 8192, h⟩ : Fin 2) = batchOf t := by
  apply Fin.ext; show (t.val * 256 + r.val) / 8192 = t.val / 32; omega
theorem row_time (t : Fin cfg0.N) (r : Fin 256) (h) :
    (⟨(t.val * 256 + r.val) % 8192, h⟩ : Fin 8192) = timeOf t r := by
  apply Fin.ext; show (t.val * 256 + r.val) % 8192 = t.val % 32 * 256 + r.val; omega

/-- The host's bf16 projections hold the projections' first 6144 columns. -/
theorem host_qkvo (i : Fin 16384) (j : Fin 6144) :
    (V m c main_v6 : FVec Ideal S16384x6144 .bf16) (ix2 i j)
      = proj m c (ix3 ⟨i.val / 8192, by omega⟩ ⟨i.val % 8192, by omega⟩ ⟨j.val, by omega⟩) := by
  unfold V proj
  after_reads_at

/-- The host's padded gate columns hold the projections' last eight. -/
theorem host_gates (i : Fin 16384) (j : Fin 128) (hj : j.val < 8) :
    (V m c main_v2 : FVec Ideal S16384x128 .f32) (ix2 i j)
      = proj m c (ix3 ⟨i.val / 8192, by omega⟩ ⟨i.val % 8192, by omega⟩ ⟨6144 + j.val, by omega⟩) := by
  unfold V proj
  after_reads_at
  exact dif_pos hj

/-- The host's padded bias row holds the biases. -/
theorem host_bias (j : Fin 128) (hj : j.val < 8) :
    (V m c main_v4 : FVec Ideal S1x128 .f32) (ix2 0 j) = bias m c (ix1 ⟨j.val, hj⟩) := by
  unfold V bias
  after_reads_at
  exact dif_pos hj

/-- The host's gain row holds the gains. -/
theorem host_gains (j : Fin 2048) :
    (V m c main_v7 : FVec Ideal S1x2048 .f32) (ix2 0 j) = gains m c (ix1 j) := by
  unfold V gains
  after_reads_at

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = t.val ∧ win0_1.index t (1 : Fin 2) = 1 :=
  (by decide +kernel : ∀ t : Fin grid0.N, _)

theorem index2 : ∀ t : Fin cfg0.N, win0_2.index t (0 : Fin 2) = t.val ∧ win0_2.index t (1 : Fin 2) = 1 :=
  (by decide +kernel : ∀ t : Fin grid0.N, _)

theorem index3 : ∀ t : Fin cfg0.N, win0_3.index t (0 : Fin 2) = t.val ∧ win0_3.index t (1 : Fin 2) = 2 :=
  (by decide +kernel : ∀ t : Fin grid0.N, _)

theorem index4 : ∀ t : Fin cfg0.N, win0_4.index t (0 : Fin 2) = t.val ∧ win0_4.index t (1 : Fin 2) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 2) = 0 ∧ win0_6.index t (1 : Fin 2) = 0 :=
  (by decide +kernel : ∀ t : Fin grid0.N, _)

theorem index7 : ∀ t : Fin cfg0.N, win0_7.index t (0 : Fin 2) = t.val ∧ win0_7.index t (1 : Fin 2) = 0 :=
  (by decide +kernel : ∀ t : Fin grid0.N, _)

/-- The queries of a grid point. -/
theorem query_block (t : Fin cfg0.N) (r : Fin 256) (l : Fin 1024) :
    (iblk m c 0 t : FVec Ideal S256x1024 .bf16) (ix2 r l) = proj m c (ix3 (batchOf t) (timeOf t r) ⟨0 + l.val, by omega⟩) := by
  obtain ⟨e0, e1⟩ := index0 t
  have e : ((cfg0.win 0).blk t).view.emb (ix2 r l)
      = (ix2 ⟨t.val * 256 + r.val, row_lt t r⟩ ⟨0 + l.val, by omega⟩ : S16384x6144.Idx) := by
    funext a; apply Fin.ext
    match a with
    | ⟨0, _⟩ => show win0_0.index t (0 : Fin 2) * 256 + 1 * r.val = t.val * 256 + r.val; rw [e0]; omega
    | ⟨1, _⟩ => show win0_0.index t (1 : Fin 2) * 1024 + 1 * l.val = 0 + l.val; rw [e1]; omega
  show (V m c main_v6 : FVec Ideal S16384x6144 .bf16) (((cfg0.win 0).blk t).view.emb (ix2 r l)) = _
  rw [e, host_qkvo, row_batch, row_time]

/-- The keys of a grid point. -/
theorem key_block (t : Fin cfg0.N) (r : Fin 256) (l : Fin 1024) :
    (iblk m c 1 t : FVec Ideal S256x1024 .bf16) (ix2 r l) = proj m c (ix3 (batchOf t) (timeOf t r) ⟨1024 + l.val, by omega⟩) := by
  obtain ⟨e0, e1⟩ := index1 t
  have e : ((cfg0.win 1).blk t).view.emb (ix2 r l)
      = (ix2 ⟨t.val * 256 + r.val, row_lt t r⟩ ⟨1024 + l.val, by omega⟩ : S16384x6144.Idx) := by
    funext a; apply Fin.ext
    match a with
    | ⟨0, _⟩ => show win0_1.index t (0 : Fin 2) * 256 + 1 * r.val = t.val * 256 + r.val; rw [e0]; omega
    | ⟨1, _⟩ => show win0_1.index t (1 : Fin 2) * 1024 + 1 * l.val = 1024 + l.val; rw [e1]; omega
  show (V m c main_v6 : FVec Ideal S16384x6144 .bf16) (((cfg0.win 1).blk t).view.emb (ix2 r l)) = _
  rw [e, host_qkvo, row_batch, row_time]

/-- The values of a grid point. -/
theorem value_block (t : Fin cfg0.N) (r : Fin 256) (l : Fin 2048) :
    (iblk m c 2 t : FVec Ideal S256x2048 .bf16) (ix2 r l) = proj m c (ix3 (batchOf t) (timeOf t r) ⟨2048 + l.val, by omega⟩) := by
  obtain ⟨e0, e1⟩ := index2 t
  have e : ((cfg0.win 2).blk t).view.emb (ix2 r l)
      = (ix2 ⟨t.val * 256 + r.val, row_lt t r⟩ ⟨2048 + l.val, by omega⟩ : S16384x6144.Idx) := by
    funext a; apply Fin.ext
    match a with
    | ⟨0, _⟩ => show win0_2.index t (0 : Fin 2) * 256 + 1 * r.val = t.val * 256 + r.val; rw [e0]; omega
    | ⟨1, _⟩ => show win0_2.index t (1 : Fin 2) * 2048 + 1 * l.val = 2048 + l.val; rw [e1]; omega
  show (V m c main_v6 : FVec Ideal S16384x6144 .bf16) (((cfg0.win 2).blk t).view.emb (ix2 r l)) = _
  rw [e, host_qkvo, row_batch, row_time]

/-- The output gates of a grid point. -/
theorem gate_block (t : Fin cfg0.N) (r : Fin 256) (l : Fin 2048) :
    (iblk m c 3 t : FVec Ideal S256x2048 .bf16) (ix2 r l) = proj m c (ix3 (batchOf t) (timeOf t r) ⟨4096 + l.val, by omega⟩) := by
  obtain ⟨e0, e1⟩ := index3 t
  have e : ((cfg0.win 3).blk t).view.emb (ix2 r l)
      = (ix2 ⟨t.val * 256 + r.val, row_lt t r⟩ ⟨4096 + l.val, by omega⟩ : S16384x6144.Idx) := by
    funext a; apply Fin.ext
    match a with
    | ⟨0, _⟩ => show win0_3.index t (0 : Fin 2) * 256 + 1 * r.val = t.val * 256 + r.val; rw [e0]; omega
    | ⟨1, _⟩ => show win0_3.index t (1 : Fin 2) * 2048 + 1 * l.val = 4096 + l.val; rw [e1]; omega
  show (V m c main_v6 : FVec Ideal S16384x6144 .bf16) (((cfg0.win 3).blk t).view.emb (ix2 r l)) = _
  rw [e, host_qkvo, row_batch, row_time]

/-- The input and forget gates of a grid point. -/
theorem if_block (t : Fin cfg0.N) (r : Fin 256) (l : Fin 128) (hl : l.val < 8) :
    (iblk m c 4 t : FVec Ideal S256x128 .f32) (ix2 r l) = proj m c (ix3 (batchOf t) (timeOf t r) ⟨6144 + l.val, by omega⟩) := by
  obtain ⟨e0, e1⟩ := index4 t
  have e : ((cfg0.win 4).blk t).view.emb (ix2 r l)
      = (ix2 ⟨t.val * 256 + r.val, row_lt t r⟩ ⟨0 + l.val, by omega⟩ : S16384x128.Idx) := by
    funext a; apply Fin.ext
    match a with
    | ⟨0, _⟩ => show win0_4.index t (0 : Fin 2) * 256 + 1 * r.val = t.val * 256 + r.val; rw [e0]; omega
    | ⟨1, _⟩ => show win0_4.index t (1 : Fin 2) * 128 + 1 * l.val = 0 + l.val; rw [e1]; omega
  show (V m c main_v2 : FVec Ideal S16384x128 .f32) (((cfg0.win 4).blk t).view.emb (ix2 r l)) = _
  rw [e, host_gates _ _ _ _ (by show 0 + l.val < 8; omega), row_batch, row_time]
  congr 2; apply Fin.ext; show 6144 + (0 + l.val) = 6144 + l.val; omega

/-- The gate biases at every grid point. -/
theorem bias_block (t : Fin cfg0.N) (l : Fin 128) (hl : l.val < 8) :
    (iblk m c 5 t : FVec Ideal S1x128 .f32) (ix2 0 l) = bias m c (ix1 ⟨l.val, hl⟩) := by
  obtain ⟨e0, e1⟩ := index5 t
  have e : ((cfg0.win 5).blk t).view.emb (ix2 0 l) = (ix2 0 l : S1x128.Idx) := by
    funext a; apply Fin.ext
    match a with
    | ⟨0, _⟩ => show win0_5.index t (0 : Fin 2) * 1 + 1 * 0 = 0; rw [e0]
    | ⟨1, _⟩ => show win0_5.index t (1 : Fin 2) * 128 + 1 * l.val = l.val; rw [e1]; omega
  show (V m c main_v4 : FVec Ideal S1x128 .f32) (((cfg0.win 5).blk t).view.emb (ix2 0 l)) = _
  rw [e, host_bias _ _ _ hl]

/-- The gains at every grid point. -/
theorem gain_block (t : Fin cfg0.N) (l : Fin 2048) :
    (iblk m c 6 t : FVec Ideal S1x2048 .f32) (ix2 0 l) = gains m c (ix1 l) := by
  obtain ⟨e0, e1⟩ := index6 t
  have e : ((cfg0.win 6).blk t).view.emb (ix2 0 l) = (ix2 0 l : S1x2048.Idx) := by
    funext a; apply Fin.ext
    match a with
    | ⟨0, _⟩ => show win0_6.index t (0 : Fin 2) * 1 + 1 * 0 = 0; rw [e0]
    | ⟨1, _⟩ => show win0_6.index t (1 : Fin 2) * 2048 + 1 * l.val = l.val; rw [e1]; omega
  show (V m c main_v7 : FVec Ideal S1x2048 .f32) (((cfg0.win 6).blk t).view.emb (ix2 0 l)) = _
  rw [e, host_gains]

end Cert.Cell
end
-- ==== Proof.Head.lean ====
module
public import proofs.«01_k».proof.Proof.Gen.KernelIdeal.Value

/-!
# One head of the recurrence's kernel

The kernel's block computes four heads one after the other with the same operations.  Here those operations are written
once, as functions of one head's slices of the block, of the gates, and of the two lanes of the gates that belong to the
head.
-/

@[expose] public section
set_option maxRecDepth 16384
noncomputable section
namespace Cert.Cell
open Cert.KernelIdeal Cert.KernelIdeal.Gen Idealize.ShloMosaic Idealize.ShloMosaic.TcCoe Idealize.SL.Sem
open Idealize.ShloMosaic.Tactic
variable {F : FTy → Type} [FloatOps F]

/-- The gates of a block with their bias added. -/
def biased (gates : Vec F S256x128 .f32) (bias : Vec F S1x128 .f32) : FVec F S256x128 .f32 :=
  addf (shapeCast S256x128 gates shapeCasts_S256x128_S256x128)
    (broadcastTo S256x128 (shapeCast S1x128 bias shapeCasts_S1x128_S1x128) broadcasts_S1x128_S256x128)

/-- Row and column numbers of a square of 256. -/
def rowNo : IVec S256x256 32 := iota .tc S256x256 32 [0] iota_S256x256_d0_w32
def colNo : IVec S256x256 32 := iota .tc S256x256 32 [1] iota_S256x256_d1_w32

/-- One lane of the gates as a column: the sum over the lanes of the gates masked to that lane. -/
def lane (l : BitVec 32) (g : FVec F S256x128 .f32) : FVec F S256x1 .f32 :=
  shapeCast S256x1 (multiReduction .add [1] S256
    (select (cmpi .eq (iota .tc S256x128 32 [1] iota_S256x128_d1_w32) (broadcast S256x128 l)) g
      (broadcast S256x128 (Scalar.ofBits .f32 0x00000000#32)))
    0x00000000#32 reduces_S256x128_S256 (.inl rfl) rfl) shapeCasts_S256_S256x1

/-- The logarithm of the sigmoid of a column. -/
def logSig (x : FVec F S256x1 .f32) : FVec F S256x1 .f32 :=
  subf (minimumf x (broadcast S256x1 (Scalar.ofBits .f32 0x00000000#32)))
    (log1p (exp (subf (broadcast S256x1 (Scalar.ofBits .f32 0x00000000#32)) (absf x))))

/-- A column spread over the square, masked and summed down each column of the square. -/
def rowOf (msk : IVec S256x256 1) (x : FVec F S256x1 .f32) : FVec F S1x256 .f32 :=
  shapeCast S1x256 (multiReduction .add [0] S256
    (select msk (broadcastTo S256x256 (shapeCast S256x1 x shapeCasts_S256x1_S256x1) broadcasts_S256x1_S256x256)
      (broadcast S256x256 (Scalar.ofBits .f32 0x00000000#32)))
    0x00000000#32 reduces_S256x256_S256 (.inl rfl) rfl) shapeCasts_S256_S1x256

/-- A row spread over the square, masked and summed along each row of the square. -/
def colOf (msk : IVec S256x256 1) (x : FVec F S1x256 .f32) : FVec F S256x1 .f32 :=
  shapeCast S256x1 (multiReduction .add [1] S256
    (select msk (broadcastTo S256x256 (shapeCast S1x256 x shapeCasts_S1x256_S1x256) broadcasts_S1x256_S256x256)
      (broadcast S256x256 (Scalar.ofBits .f32 0x00000000#32)))
    0x00000000#32 reduces_S256x256_S256_2 (.inl rfl) rfl) shapeCasts_S256_S256x1

/-- The running sum of the logarithms of the forget gate, as a column. -/
def sumCol (lf : FVec F S256x1 .f32) : FVec F S256x1 .f32 :=
  colOf (cmpi .sle colNo rowNo) (rowOf (cmpi .eq rowNo colNo) lf)

/-- The same running sum as a row. -/
def sumRow (lf : FVec F S256x1 .f32) : FVec F S1x256 .f32 := rowOf (cmpi .sle rowNo colNo) lf

/-- The input gate as a row. -/
def gateRow (g : FVec F S256x1 .f32) : FVec F S1x256 .f32 := rowOf (cmpi .eq rowNo colNo) g

/-- The whole sum of the block's forget gates. -/
def lastOf (b : FVec F S256x1 .f32) : FVec F S1x1 .f32 := extractStridedSlice S1x1 ![255, 0] b slices_S256x1_o255_0_S1x1

/-- The exponents with which the block's positions enter the state at its end. -/
def endExp (g b : FVec F S256x1 .f32) : FVec F S256x1 .f32 :=
  addf (subf (broadcastTo S256x1 (lastOf b) broadcasts_S1x1_S256x1) b) g

/-- The state's new stabiliser. -/
def endStab (m : FVec F S1x1 .f32) (g b : FVec F S256x1 .f32) : FVec F S1x1 .f32 :=
  maximumf (addf (lastOf b) m)
    (shapeCast S1x1 (multiReduction .maximumf [0] S1 (endExp g b) 0xFF800000#32 reduces_S256x1_S1 (.inl rfl) rfl) shapeCasts_S1_S1x1)

/-- The factor of the old state in the new one. -/
def carry (m : FVec F S1x1 .f32) (g b : FVec F S256x1 .f32) : FVec F S1x1 .f32 :=
  exp (subf (addf (lastOf b) m) (endStab m g b))

/-- The keys, weighted for the state at the block's end. -/
def endKeys (k : FVec F S256x256 .bf16) (m : FVec F S1x1 .f32) (g b : FVec F S256x1 .f32) : FVec F S256x256 .f32 :=
  mulf (extf .f32 k bitsLt_bf16_f32)
    (broadcastTo S256x256 (exp (subf (endExp g b) (broadcastTo S256x1 (endStab m g b) broadcasts_S1x1_S256x1))) broadcasts_S256x1_S256x256)

/-- The new memory. -/
def newMem (k : FVec F S256x256 .bf16) (v : FVec F S256x512 .bf16) (C : FVec F S256x512 .f32) (m : FVec F S1x1 .f32)
    (g b : FVec F S256x1 .f32) : FVec F S256x512 .f32 :=
  addf (mulf (broadcastTo S256x512 (carry m g b) broadcasts_S1x1_S256x512) C)
    (matmul dot_S256x256_S256x512_S256x512_0_0_1_1_n_n none (truncf .bf16 (endKeys k m g b) bitsLt_bf16_f32) v (constant S256x512 .f32 0x00000000#32))

/-- The new normaliser. -/
def newNrm (k : FVec F S256x256 .bf16) (n : FVec F S1x256 .f32) (m : FVec F S1x1 .f32) (g b : FVec F S256x1 .f32) : FVec F S1x256 .f32 :=
  addf (mulf (broadcastTo S1x256 (carry m g b) broadcasts_S1x1_S1x256) n)
    (shapeCast S1x256 (multiReduction .add [0] S256 (endKeys k m g b) 0x00000000#32 reduces_S256x256_S256 (.inl rfl) rfl) shapeCasts_S256_S1x256)

/-- The exponents inside the block, `-∞` above the diagonal. -/
def inExp (b : FVec F S256x1 .f32) (br gr : FVec F S1x256 .f32) : FVec F S256x256 .f32 :=
  select (cmpi .sle colNo rowNo)
    (addf (subf (broadcastTo S256x256 b broadcasts_S256x1_S256x256) (broadcastTo S256x256 br broadcasts_S1x256_S256x256))
      (broadcastTo S256x256 gr broadcasts_S1x256_S256x256))
    (broadcast S256x256 (Scalar.ofBits .f32 0xFF800000#32))

/-- The exponent of the state at the block's beginning, at each position. -/
def stateExp (m : FVec F S1x1 .f32) (b : FVec F S256x1 .f32) : FVec F S256x1 .f32 :=
  addf b (broadcastTo S256x1 m broadcasts_S1x1_S256x1)

/-- The stabiliser of each position. -/
def stab (m : FVec F S1x1 .f32) (b : FVec F S256x1 .f32) (br gr : FVec F S1x256 .f32) : FVec F S256x1 .f32 :=
  maximumf (stateExp m b)
    (shapeCast S256x1 (multiReduction .maximumf [1] S256 (inExp b br gr) 0xFF800000#32 reduces_S256x256_S256_2 (.inl rfl) rfl) shapeCasts_S256_S256x1)

/-- The weight of the state at each position. -/
def stateW (m : FVec F S1x1 .f32) (b : FVec F S256x1 .f32) (br gr : FVec F S1x256 .f32) : FVec F S256x1 .f32 :=
  exp (subf (stateExp m b) (stab m b br gr))

/-- The weighted scores inside the block. -/
def scores (q k : FVec F S256x256 .bf16) (m : FVec F S1x1 .f32) (b : FVec F S256x1 .f32) (br gr : FVec F S1x256 .f32) : FVec F S256x256 .f32 :=
  mulf (matmul dot_S256x256_S256x256_S256x256_1_1_0_0_n_n none q k (constant S256x256 .f32 0x00000000#32))
    (exp (subf (inExp b br gr) (broadcastTo S256x256 (stab m b br gr) broadcasts_S256x1_S256x256)))

/-- The numerator of the hidden state. -/
def top (q k : FVec F S256x256 .bf16) (v : FVec F S256x512 .bf16) (C : FVec F S256x512 .f32) (m : FVec F S1x1 .f32)
    (b : FVec F S256x1 .f32) (br gr : FVec F S1x256 .f32) : FVec F S256x512 .f32 :=
  addf (mulf (broadcastTo S256x512 (stateW m b br gr) broadcasts_S256x1_S256x512)
      (matmul dot_S256x256_S256x512_S256x512_1_0_0_1_n_n none q (truncf .bf16 C bitsLt_bf16_f32) (constant S256x512 .f32 0x00000000#32)))
    (matmul dot_S256x256_S256x512_S256x512_1_0_0_1_n_n none (truncf .bf16 (scores q k m b br gr) bitsLt_bf16_f32) v (constant S256x512 .f32 0x00000000#32))

/-- The denominator of the hidden state, before its absolute value and its floor. -/
def bottom (q k : FVec F S256x256 .bf16) (n : FVec F S1x256 .f32) (m : FVec F S1x1 .f32)
    (b : FVec F S256x1 .f32) (br gr : FVec F S1x256 .f32) : FVec F S256x1 .f32 :=
  addf (mulf (stateW m b br gr)
      (shapeCast S256x1 (multiReduction .add [1] S256 (mulf (extf .f32 q bitsLt_bf16_f32) (broadcastTo S256x256 n broadcasts_S1x256_S256x256))
        0x00000000#32 reduces_S256x256_S256_2 (.inl rfl) rfl) shapeCasts_S256_S256x1))
    (shapeCast S256x1 (multiReduction .add [1] S256 (scores q k m b br gr) 0x00000000#32 reduces_S256x256_S256_2 (.inl rfl) rfl) shapeCasts_S256_S256x1)

/-- The hidden state. -/
def hid (q k : FVec F S256x256 .bf16) (v : FVec F S256x512 .bf16) (C : FVec F S256x512 .f32) (n : FVec F S1x256 .f32) (m : FVec F S1x1 .f32)
    (b : FVec F S256x1 .f32) (br gr : FVec F S1x256 .f32) : FVec F S256x512 .f32 :=
  divf (top q k v C m b br gr)
    (broadcastTo S256x512 (maximumf (absf (bottom q k n m b br gr))
      (exp (subf (broadcast S256x1 (Scalar.ofBits .f32 0x00000000#32)) (stab m b br gr)))) broadcasts_S256x1_S256x512)

/-- The head's norm over its features, times its gain, times the sigmoid of its output gate. -/
def gated (x : FVec F S256x512 .f32) (gain : Vec F S1x512 .f32) (og : Vec F S256x512 .bf16) : FVec F S256x512 .bf16 :=
  truncf .bf16 (mulf
    (mulf
      (mulf x (broadcastTo S256x512 (rsqrt (addf
        (divf (shapeCast S256x1 (multiReduction .add [1] S256 (mulf x x) 0x00000000#32 reduces_S256x512_S256 (.inl rfl) rfl) shapeCasts_S256_S256x1)
          (broadcast S256x1 (Scalar.ofBits .f32 0x44000000#32)))
        (broadcast S256x1 (Scalar.ofBits .f32 0x358637BD#32)))) broadcasts_S256x1_S256x512))
      (broadcastTo S256x512 (shapeCast S1x512 gain shapeCasts_S1x512_S1x512) broadcasts_S1x512_S256x512))
    (divf (broadcast S256x512 (Scalar.ofBits .f32 0x3F800000#32))
      (addf (broadcast S256x512 (Scalar.ofBits .f32 0x3F800000#32))
        (exp (subf (broadcast S256x512 (Scalar.ofBits .f32 0x00000000#32))
          (extf .f32 (shapeCast S256x512 og shapeCasts_S256x512_S256x512) bitsLt_bf16_f32)))))) bitsLt_bf16_f32

/-- The query of a head, scaled. -/
def scaled (q : Vec F S256x256 .bf16) : FVec F S256x256 .bf16 :=
  mulf (shapeCast S256x256 q shapeCasts_S256x256_S256x256) (broadcast S256x256 (Scalar.ofBits .bf16 0x3D80#16))

/-- The two columns and the two rows of the gates which a head works with. -/
def gCol (a : BitVec 32) (x4 : Vec F S256x128 .f32) (x5 : Vec F S1x128 .f32) : FVec F S256x1 .f32 := lane a (biased x4 x5)
def bCol (a : BitVec 32) (x4 : Vec F S256x128 .f32) (x5 : Vec F S1x128 .f32) : FVec F S256x1 .f32 := sumCol (logSig (lane a (biased x4 x5)))
def gRow (a : BitVec 32) (x4 : Vec F S256x128 .f32) (x5 : Vec F S1x128 .f32) : FVec F S1x256 .f32 := gateRow (lane a (biased x4 x5))
def bRow (a : BitVec 32) (x4 : Vec F S256x128 .f32) (x5 : Vec F S1x128 .f32) : FVec F S1x256 .f32 := sumRow (logSig (lane a (biased x4 x5)))

/-- What one head stores of the result. -/
def headOut (a a' : BitVec 32) (x4 : Vec F S256x128 .f32) (x5 : Vec F S1x128 .f32) (q k : Vec F S256x256 .bf16) (v og : Vec F S256x512 .bf16)
    (gain : Vec F S1x512 .f32) (C : Vec F S1x256x512 .f32) (n : Vec F S1x1x256 .f32) (m : Vec F S1x1x1 .f32) : FVec F S256x512 .bf16 :=
  gated (hid (scaled q) (shapeCast S256x256 k shapeCasts_S256x256_S256x256) (shapeCast S256x512 v shapeCasts_S256x512_S256x512)
    (shapeCast S256x512 C shapeCasts_S1x256x512_S256x512) (shapeCast S1x256 n shapeCasts_S1x1x256_S1x256) (shapeCast S1x1 m shapeCasts_S1x1x1_S1x1)
    (bCol a' x4 x5) (bRow a' x4 x5) (gRow a x4 x5)) gain og

/-- What one head stores of the memory. -/
def headMem (a a' : BitVec 32) (x4 : Vec F S256x128 .f32) (x5 : Vec F S1x128 .f32) (k : Vec F S256x256 .bf16) (v : Vec F S256x512 .bf16)
    (C : Vec F S1x256x512 .f32) (m : Vec F S1x1x1 .f32) : FVec F S1x256x512 .f32 :=
  shapeCast S1x256x512 (newMem (shapeCast S256x256 k shapeCasts_S256x256_S256x256) (shapeCast S256x512 v shapeCasts_S256x512_S256x512)
    (shapeCast S256x512 C shapeCasts_S1x256x512_S256x512) (shapeCast S1x1 m shapeCasts_S1x1x1_S1x1) (gCol a x4 x5) (bCol a' x4 x5)) shapeCasts_S256x512_S1x256x512

/-- What one head stores of the normaliser. -/
def headNrm (a a' : BitVec 32) (x4 : Vec F S256x128 .f32) (x5 : Vec F S1x128 .f32) (k : Vec F S256x256 .bf16)
    (n : Vec F S1x1x256 .f32) (m : Vec F S1x1x1 .f32) : FVec F S1x1x256 .f32 :=
  shapeCast S1x1x256 (newNrm (shapeCast S256x256 k shapeCasts_S256x256_S256x256) (shapeCast S1x256 n shapeCasts_S1x1x256_S1x256)
    (shapeCast S1x1 m shapeCasts_S1x1x1_S1x1) (gCol a x4 x5) (bCol a' x4 x5)) shapeCasts_S1x256_S1x1x256

/-- What one head stores of the stabiliser. -/
def headStab (a a' : BitVec 32) (x4 : Vec F S256x128 .f32) (x5 : Vec F S1x128 .f32) (m : Vec F S1x1x1 .f32) : FVec F S1x1x1 .f32 :=
  shapeCast S1x1x1 (endStab (shapeCast S1x1 m shapeCasts_S1x1x1_S1x1) (gCol a x4 x5) (bCol a' x4 x5)) shapeCasts_S1x1_S1x1x1

/-- The four stores of the result, the last one first. -/
def outPieces (x0 x1 : Vec F S256x1024 .bf16) (x2 x3 : Vec F S256x2048 .bf16) (x4 : Vec F S256x128 .f32) (x5 : Vec F S1x128 .f32) (x6 : Vec F S1x2048 .f32)
    (xs0 : Vec F S4x256x512 .f32) (xs1 : Vec F S4x1x256 .f32) (xs2 : Vec F S4x1x1 .f32) :
    List (View.Piece (Elt F) S256x2048 .bf16) :=
  [⟨Rect.unit ![0, 1536] ![256, 512] inb_S256x2048_S256x512_0_1536,
      headOut 3#32 7#32 (View.ld x4 (Rect.unit ![0, 0] ![256, 128] inb_S256x128_S256x128_0_0)) (View.ld x5 (Rect.unit ![0, 0] ![1, 128] inb_S1x128_S1x128_0_0)) (View.ld x0 (Rect.unit ![0, 768] ![256, 256] inb_S256x1024_S256x256_0_768)) (View.ld x1 (Rect.unit ![0, 768] ![256, 256] inb_S256x1024_S256x256_0_768)) (View.ld x2 (Rect.unit ![0, 1536] ![256, 512] inb_S256x2048_S256x512_0_1536)) (View.ld x3 (Rect.unit ![0, 1536] ![256, 512] inb_S256x2048_S256x512_0_1536))
        (View.ld x6 (Rect.unit ![0, 1536] ![1, 512] inb_S1x2048_S1x512_0_1536)) (View.ld xs0 (Rect.unit ![3, 0, 0] ![1, 256, 512] inb_S4x256x512_S1x256x512_3_0_0)) (View.ld xs1 (Rect.unit ![3, 0, 0] ![1, 1, 256] inb_S4x1x256_S1x1x256_3_0_0)) (View.ld xs2 (Rect.unit ![3, 0, 0] ![1, 1, 1] inb_S4x1x1_S1x1x1_3_0_0))⟩,
    ⟨Rect.unit ![0, 1024] ![256, 512] inb_S256x2048_S256x512_0_1024,
      headOut 2#32 6#32 (View.ld x4 (Rect.unit ![0, 0] ![256, 128] inb_S256x128_S256x128_0_0)) (View.ld x5 (Rect.unit ![0, 0] ![1, 128] inb_S1x128_S1x128_0_0)) (View.ld x0 (Rect.unit ![0, 512] ![256, 256] inb_S256x1024_S256x256_0_512)) (View.ld x1 (Rect.unit ![0, 512] ![256, 256] inb_S256x1024_S256x256_0_512)) (View.ld x2 (Rect.unit ![0, 1024] ![256, 512] inb_S256x2048_S256x512_0_1024)) (View.ld x3 (Rect.unit ![0, 1024] ![256, 512] inb_S256x2048_S256x512_0_1024))
        (View.ld x6 (Rect.unit ![0, 1024] ![1, 512] inb_S1x2048_S1x512_0_1024)) (View.ld xs0 (Rect.unit ![2, 0, 0] ![1, 256, 512] inb_S4x256x512_S1x256x512_2_0_0)) (View.ld xs1 (Rect.unit ![2, 0, 0] ![1, 1, 256] inb_S4x1x256_S1x1x256_2_0_0)) (View.ld xs2 (Rect.unit ![2, 0, 0] ![1, 1, 1] inb_S4x1x1_S1x1x1_2_0_0))⟩,
    ⟨Rect.unit ![0, 512] ![256, 512] inb_S256x2048_S256x512_0_512,
      headOut 1#32 5#32 (View.ld x4 (Rect.unit ![0, 0] ![256, 128] inb_S256x128_S256x128_0_0)) (View.ld x5 (Rect.unit ![0, 0] ![1, 128] inb_S1x128_S1x128_0_0)) (View.ld x0 (Rect.unit ![0, 256] ![256, 256] inb_S256x1024_S256x256_0_256)) (View.ld x1 (Rect.unit ![0, 256] ![256, 256] inb_S256x1024_S256x256_0_256)) (View.ld x2 (Rect.unit ![0, 512] ![256, 512] inb_S256x2048_S256x512_0_512)) (View.ld x3 (Rect.unit ![0, 512] ![256, 512] inb_S256x2048_S256x512_0_512))
        (View.ld x6 (Rect.unit ![0, 512] ![1, 512] inb_S1x2048_S1x512_0_512)) (View.ld xs0 (Rect.unit ![1, 0, 0] ![1, 256, 512] inb_S4x256x512_S1x256x512_1_0_0)) (View.ld xs1 (Rect.unit ![1, 0, 0] ![1, 1, 256] inb_S4x1x256_S1x1x256_1_0_0)) (View.ld xs2 (Rect.unit ![1, 0, 0] ![1, 1, 1] inb_S4x1x1_S1x1x1_1_0_0))⟩,
    ⟨Rect.unit ![0, 0] ![256, 512] inb_S256x2048_S256x512_0_0,
      headOut 0#32 4#32 (View.ld x4 (Rect.unit ![0, 0] ![256, 128] inb_S256x128_S256x128_0_0)) (View.ld x5 (Rect.unit ![0, 0] ![1, 128] inb_S1x128_S1x128_0_0)) (View.ld x0 (Rect.unit ![0, 0] ![256, 256] inb_S256x1024_S256x256_0_0)) (View.ld x1 (Rect.unit ![0, 0] ![256, 256] inb_S256x1024_S256x256_0_0)) (View.ld x2 (Rect.unit ![0, 0] ![256, 512] inb_S256x2048_S256x512_0_0)) (View.ld x3 (Rect.unit ![0, 0] ![256, 512] inb_S256x2048_S256x512_0_0))
        (View.ld x6 (Rect.unit ![0, 0] ![1, 512] inb_S1x2048_S1x512_0_0)) (View.ld xs0 (Rect.unit ![0, 0, 0] ![1, 256, 512] inb_S4x256x512_S1x256x512_0_0_0)) (View.ld xs1 (Rect.unit ![0, 0, 0] ![1, 1, 256] inb_S4x1x256_S1x1x256_0_0_0)) (View.ld xs2 (Rect.unit ![0, 0, 0] ![1, 1, 1] inb_S4x1x1_S1x1x1_0_0_0))⟩]

/-- The four stores of the memory, the last one first. -/
def memPieces (x1 : Vec F S256x1024 .bf16) (x2 : Vec F S256x2048 .bf16) (x4 : Vec F S256x128 .f32) (x5 : Vec F S1x128 .f32)
    (xs0 : Vec F S4x256x512 .f32) (xs2 : Vec F S4x1x1 .f32) :
    List (View.Piece (Elt F) S4x256x512 .f32) :=
  [⟨Rect.unit ![3, 0, 0] ![1, 256, 512] inb_S4x256x512_S1x256x512_3_0_0,
      headMem 3#32 7#32 (View.ld x4 (Rect.unit ![0, 0] ![256, 128] inb_S256x128_S256x128_0_0)) (View.ld x5 (Rect.unit ![0, 0] ![1, 128] inb_S1x128_S1x128_0_0)) (View.ld x1 (Rect.unit ![0, 768] ![256, 256] inb_S256x1024_S256x256_0_768)) (View.ld x2 (Rect.unit ![0, 1536] ![256, 512] inb_S256x2048_S256x512_0_1536)) (View.ld xs0 (Rect.unit ![3, 0, 0] ![1, 256, 512] inb_S4x256x512_S1x256x512_3_0_0)) (View.ld xs2 (Rect.unit ![3, 0, 0] ![1, 1, 1] inb_S4x1x1_S1x1x1_3_0_0))⟩,
    ⟨Rect.unit ![2, 0, 0] ![1, 256, 512] inb_S4x256x512_S1x256x512_2_0_0,
      headMem 2#32 6#32 (View.ld x4 (Rect.unit ![0, 0] ![256, 128] inb_S256x128_S256x128_0_0)) (View.ld x5 (Rect.unit ![0, 0] ![1, 128] inb_S1x128_S1x128_0_0)) (View.ld x1 (Rect.unit ![0, 512] ![256, 256] inb_S256x1024_S256x256_0_512)) (View.ld x2 (Rect.unit ![0, 1024] ![256, 512] inb_S256x2048_S256x512_0_1024)) (View.ld xs0 (Rect.unit ![2, 0, 0] ![1, 256, 512] inb_S4x256x512_S1x256x512_2_0_0)) (View.ld xs2 (Rect.unit ![2, 0, 0] ![1, 1, 1] inb_S4x1x1_S1x1x1_2_0_0))⟩,
    ⟨Rect.unit ![1, 0, 0] ![1, 256, 512] inb_S4x256x512_S1x256x512_1_0_0,
      headMem 1#32 5#32 (View.ld x4 (Rect.unit ![0, 0] ![256, 128] inb_S256x128_S256x128_0_0)) (View.ld x5 (Rect.unit ![0, 0] ![1, 128] inb_S1x128_S1x128_0_0)) (View.ld x1 (Rect.unit ![0, 256] ![256, 256] inb_S256x1024_S256x256_0_256)) (View.ld x2 (Rect.unit ![0, 512] ![256, 512] inb_S256x2048_S256x512_0_512)) (View.ld xs0 (Rect.unit ![1, 0, 0] ![1, 256, 512] inb_S4x256x512_S1x256x512_1_0_0)) (View.ld xs2 (Rect.unit ![1, 0, 0] ![1, 1, 1] inb_S4x1x1_S1x1x1_1_0_0))⟩,
    ⟨Rect.unit ![0, 0, 0] ![1, 256, 512] inb_S4x256x512_S1x256x512_0_0_0,
      headMem 0#32 4#32 (View.ld x4 (Rect.unit ![0, 0] ![256, 128] inb_S256x128_S256x128_0_0)) (View.ld x5 (Rect.unit ![0, 0] ![1, 128] inb_S1x128_S1x128_0_0)) (View.ld x1 (Rect.unit ![0, 0] ![256, 256] inb_S256x1024_S256x256_0_0)) (View.ld x2 (Rect.unit ![0, 0] ![256, 512] inb_S256x2048_S256x512_0_0)) (View.ld xs0 (Rect.unit ![0, 0, 0] ![1, 256, 512] inb_S4x256x512_S1x256x512_0_0_0)) (View.ld xs2 (Rect.unit ![0, 0, 0] ![1, 1, 1] inb_S4x1x1_S1x1x1_0_0_0))⟩]

/-- The four stores of the normaliser, the last one first. -/
def nrmPieces (x1 : Vec F S256x1024 .bf16) (x4 : Vec F S256x128 .f32) (x5 : Vec F S1x128 .f32)
    (xs1 : Vec F S4x1x256 .f32) (xs2 : Vec F S4x1x1 .f32) :
    List (View.Piece (Elt F) S4x1x256 .f32) :=
  [⟨Rect.unit ![3, 0, 0] ![1, 1, 256] inb_S4x1x256_S1x1x256_3_0_0,
      headNrm 3#32 7#32 (View.ld x4 (Rect.unit ![0, 0] ![256, 128] inb_S256x128_S256x128_0_0)) (View.ld x5 (Rect.unit ![0, 0] ![1, 128] inb_S1x128_S1x128_0_0)) (View.ld x1 (Rect.unit ![0, 768] ![256, 256] inb_S256x1024_S256x256_0_768)) (View.ld xs1 (Rect.unit ![3, 0, 0] ![1, 1, 256] inb_S4x1x256_S1x1x256_3_0_0)) (View.ld xs2 (Rect.unit ![3, 0, 0] ![1, 1, 1] inb_S4x1x1_S1x1x1_3_0_0))⟩,
    ⟨Rect.unit ![2, 0, 0] ![1, 1, 256] inb_S4x1x256_S1x1x256_2_0_0,
      headNrm 2#32 6#32 (View.ld x4 (Rect.unit ![0, 0] ![256, 128] inb_S256x128_S256x128_0_0)) (View.ld x5 (Rect.unit ![0, 0] ![1, 128] inb_S1x128_S1x128_0_0)) (View.ld x1 (Rect.unit ![0, 512] ![256, 256] inb_S256x1024_S256x256_0_512)) (View.ld xs1 (Rect.unit ![2, 0, 0] ![1, 1, 256] inb_S4x1x256_S1x1x256_2_0_0)) (View.ld xs2 (Rect.unit ![2, 0, 0] ![1, 1, 1] inb_S4x1x1_S1x1x1_2_0_0))⟩,
    ⟨Rect.unit ![1, 0, 0] ![1, 1, 256] inb_S4x1x256_S1x1x256_1_0_0,
      headNrm 1#32 5#32 (View.ld x4 (Rect.unit ![0, 0] ![256, 128] inb_S256x128_S256x128_0_0)) (View.ld x5 (Rect.unit ![0, 0] ![1, 128] inb_S1x128_S1x128_0_0)) (View.ld x1 (Rect.unit ![0, 256] ![256, 256] inb_S256x1024_S256x256_0_256)) (View.ld xs1 (Rect.unit ![1, 0, 0] ![1, 1, 256] inb_S4x1x256_S1x1x256_1_0_0)) (View.ld xs2 (Rect.unit ![1, 0, 0] ![1, 1, 1] inb_S4x1x1_S1x1x1_1_0_0))⟩,
    ⟨Rect.unit ![0, 0, 0] ![1, 1, 256] inb_S4x1x256_S1x1x256_0_0_0,
      headNrm 0#32 4#32 (View.ld x4 (Rect.unit ![0, 0] ![256, 128] inb_S256x128_S256x128_0_0)) (View.ld x5 (Rect.unit ![0, 0] ![1, 128] inb_S1x128_S1x128_0_0)) (View.ld x1 (Rect.unit ![0, 0] ![256, 256] inb_S256x1024_S256x256_0_0)) (View.ld xs1 (Rect.unit ![0, 0, 0] ![1, 1, 256] inb_S4x1x256_S1x1x256_0_0_0)) (View.ld xs2 (Rect.unit ![0, 0, 0] ![1, 1, 1] inb_S4x1x1_S1x1x1_0_0_0))⟩]

/-- The four stores of the stabiliser, the last one first. -/
def stabPieces (x4 : Vec F S256x128 .f32) (x5 : Vec F S1x128 .f32) (xs2 : Vec F S4x1x1 .f32) :
    List (View.Piece (Elt F) S4x1x1 .f32) :=
  [⟨Rect.unit ![3, 0, 0] ![1, 1, 1] inb_S4x1x1_S1x1x1_3_0_0,
      headStab 3#32 7#32 (View.ld x4 (Rect.unit ![0, 0] ![256, 128] inb_S256x128_S256x128_0_0)) (View.ld x5 (Rect.unit ![0, 0] ![1, 128] inb_S1x128_S1x128_0_0)) (View.ld xs2 (Rect.unit ![3, 0, 0] ![1, 1, 1] inb_S4x1x1_S1x1x1_3_0_0))⟩,
    ⟨Rect.unit ![2, 0, 0] ![1, 1, 1] inb_S4x1x1_S1x1x1_2_0_0,
      headStab 2#32 6#32 (View.ld x4 (Rect.unit ![0, 0] ![256, 128] inb_S256x128_S256x128_0_0)) (View.ld x5 (Rect.unit ![0, 0] ![1, 128] inb_S1x128_S1x128_0_0)) (View.ld xs2 (Rect.unit ![2, 0, 0] ![1, 1, 1] inb_S4x1x1_S1x1x1_2_0_0))⟩,
    ⟨Rect.unit ![1, 0, 0] ![1, 1, 1] inb_S4x1x1_S1x1x1_1_0_0,
      headStab 1#32 5#32 (View.ld x4 (Rect.unit ![0, 0] ![256, 128] inb_S256x128_S256x128_0_0)) (View.ld x5 (Rect.unit ![0, 0] ![1, 128] inb_S1x128_S1x128_0_0)) (View.ld xs2 (Rect.unit ![1, 0, 0] ![1, 1, 1] inb_S4x1x1_S1x1x1_1_0_0))⟩,
    ⟨Rect.unit ![0, 0, 0] ![1, 1, 1] inb_S4x1x1_S1x1x1_0_0_0,
      headStab 0#32 4#32 (View.ld x4 (Rect.unit ![0, 0] ![256, 128] inb_S256x128_S256x128_0_0)) (View.ld x5 (Rect.unit ![0, 0] ![1, 128] inb_S1x128_S1x128_0_0)) (View.ld xs2 (Rect.unit ![0, 0, 0] ![1, 1, 1] inb_S4x1x1_S1x1x1_0_0_0))⟩]

end Cert.Cell
end
-- ==== Proof.Recurrence.lean ====
/-
  The gated recurrence over the real numbers, in closed form, and the step that carries it over one chunk of `L`
  positions. The log forget gates `f`, the log input gates `g`, the queries `q`, keys `k` and values `v` are sequences
  over the positions of one head. Both programs carry the state divided by `exp m` for a stabiliser `m`; every lemma
  holds whatever real number the stabiliser is.
-/
module

public import Mathlib.Analysis.SpecialFunctions.Log.Basic

@[expose] public section

noncomputable section

namespace Cert.Cell

open Finset

variable {D E : ℕ}
variable (f g : ℕ → ℝ) (q k : ℕ → Fin D → ℝ) (v : ℕ → Fin E → ℝ)

/-- The sum of the log forget gates of the first `T` positions. -/
def total (T : ℕ) : ℝ := ∑ s ∈ range T, f s

/-- The weight with which position `s` enters the state after `T` positions. -/
def weight (T s : ℕ) : ℝ := Real.exp (total f T - total f (s + 1) + g s)

/-- The matrix memory after `T` positions. -/
def memory (T : ℕ) (d : Fin D) (e : Fin E) : ℝ := ∑ s ∈ range T, weight f g T s * (k s d * v s e)

/-- The normaliser vector after `T` positions. -/
def normal (T : ℕ) (d : Fin D) : ℝ := ∑ s ∈ range T, weight f g T s * k s d

/-- The numerator of the head's result at position `t`. -/
def numer (t : ℕ) (e : Fin E) : ℝ :=
  ∑ s ∈ range (t + 1), weight f g (t + 1) s * ((∑ d, q t d * k s d) * v s e)

/-- The denominator of the head's result at position `t`, before its absolute value is kept above one. -/
def denom (t : ℕ) : ℝ := ∑ s ∈ range (t + 1), weight f g (t + 1) s * (∑ d, q t d * k s d)

/-- The head's result at position `t`. -/
def hidden (t : ℕ) (e : Fin E) : ℝ := numer f g q k v t e / max |denom f g q k t| 1

/-- The sum of the log forget gates of a chunk that starts at `T`, up to and including its position `r`. -/
def within (T r : ℕ) : ℝ := ∑ s ∈ range (r + 1), f (T + s)

/-- A chunk's running sum is the difference of the totals at its ends. -/
theorem within_eq (T r : ℕ) : within f T r = total f (T + r + 1) - total f T := by
  unfold within total
  rw [add_assoc, sum_range_add _ T (r + 1), add_sub_cancel_left]

/-- A weight of the state so far, carried on to a later position. -/
theorem weight_carry (T T' s : ℕ) : Real.exp (total f T' - total f T) * weight f g T s = weight f g T' s := by
  unfold weight
  rw [← Real.exp_add]; congr 1; ring

/-- What the chunk's scaled memory adds to position `r`'s numerator, with what the chunk's own positions add. -/
theorem numer_chunk (L T r : ℕ) (hr : r < L) (m μ : ℝ) (e : Fin E) :
    Real.exp (within f T r + m - μ) * (∑ d, q (T + r) d * (Real.exp (-m) * memory f g k v T d e))
      + ∑ s ∈ range L, (∑ d, q (T + r) d * k (T + s) d)
          * (if s ≤ r then Real.exp (within f T r - within f T s + g (T + s) - μ) else 0) * v (T + s) e
      = Real.exp (-μ) * numer f g q k v (T + r) e := by
  unfold numer
  rw [add_assoc T r 1, sum_range_add _ T (r + 1), mul_add]
  congr 1
  · have : ∀ d, q (T + r) d * (Real.exp (-m) * memory f g k v T d e)
        = ∑ s ∈ range T, Real.exp (-m) * (weight f g T s * (q (T + r) d * k s d * v s e)) := by
      intro d; unfold memory; rw [mul_sum, mul_sum]; exact sum_congr rfl fun s _ => by ring
    simp only [this]
    rw [sum_comm, mul_sum, mul_sum]
    refine sum_congr rfl fun s _ => ?_
    rw [← weight_carry f g T (T + (r + 1)) s, ← add_assoc, ← within_eq, sum_mul]
    rw [← mul_sum, ← mul_sum, show within f T r + m - μ = -μ + within f T r + m by ring, Real.exp_add, Real.exp_add]
    have : Real.exp m * Real.exp (-m) = 1 := by rw [← Real.exp_add]; simp
    linear_combination (Real.exp (-μ) * Real.exp (within f T r) * weight f g T s
      * (∑ d, q (T + r) d * k s d * v s e)) * this
  · rw [mul_sum]
    have hs : range (r + 1) = (range L).filter (fun s => s ≤ r) := by
      ext s; simp only [mem_range, mem_filter]; omega
    rw [hs, sum_filter]
    refine sum_congr rfl fun s _ => ?_
    split_ifs with h
    · unfold weight
      rw [show within f T r - within f T s + g (T + s) - μ
        = -μ + (total f (T + (r + 1)) - total f (T + s + 1) + g (T + s)) by
          rw [within_eq, within_eq, ← add_assoc]; ring_nf, Real.exp_add]
      ring_nf
    · ring

/-- The same for the denominator. -/
theorem denom_chunk (L T r : ℕ) (hr : r < L) (m μ : ℝ) :
    Real.exp (within f T r + m - μ) * (∑ d, q (T + r) d * (Real.exp (-m) * normal f g k T d))
      + ∑ s ∈ range L, (∑ d, q (T + r) d * k (T + s) d)
          * (if s ≤ r then Real.exp (within f T r - within f T s + g (T + s) - μ) else 0)
      = Real.exp (-μ) * denom f g q k (T + r) := by
  have h := numer_chunk f g q k (fun _ _ => (1 : ℝ)) L T r hr m μ (0 : Fin 1)
  simpa only [memory, numer, mul_one, normal, denom] using h

/-- The stabiliser cancels from the quotient. -/
theorem hidden_of_scaled (t : ℕ) (μ : ℝ) (e : Fin E) :
    Real.exp (-μ) * numer f g q k v t e / max |Real.exp (-μ) * denom f g q k t| (Real.exp (-μ))
      = hidden f g q k v t e := by
  have hp := Real.exp_pos (-μ)
  unfold hidden
  rw [abs_mul, abs_of_pos hp]
  have : max (Real.exp (-μ) * |denom f g q k t|) (Real.exp (-μ)) = Real.exp (-μ) * max |denom f g q k t| 1 := by
    rw [mul_max_of_nonneg _ _ hp.le, mul_one]
  rw [this, mul_div_mul_left _ _ hp.ne']

/-- The memory after the chunk, rescaled to the new stabiliser. -/
theorem memory_chunk (L T : ℕ) (m m' : ℝ) (d : Fin D) (e : Fin E) :
    Real.exp (within f T L + m - m') * (Real.exp (-m) * memory f g k v T d e)
      + ∑ s ∈ range (L + 1), Real.exp (within f T L - within f T s + g (T + s) - m') * (k (T + s) d * v (T + s) e)
      = Real.exp (-m') * memory f g k v (T + (L + 1)) d e := by
  unfold memory
  rw [sum_range_add _ T (L + 1), mul_add]
  congr 1
  · rw [mul_sum, mul_sum, mul_sum]
    refine sum_congr rfl fun s _ => ?_
    rw [← weight_carry f g T (T + (L + 1)) s, ← add_assoc, ← within_eq,
      show within f T L + m - m' = -m' + within f T L + m by ring, Real.exp_add, Real.exp_add]
    have : Real.exp m * Real.exp (-m) = 1 := by rw [← Real.exp_add]; simp
    linear_combination (Real.exp (-m') * Real.exp (within f T L) * weight f g T s * (k s d * v s e)) * this
  · rw [mul_sum]
    refine sum_congr rfl fun s _ => ?_
    unfold weight
    rw [show within f T L - within f T s + g (T + s) - m'
      = -m' + (total f (T + (L + 1)) - total f (T + s + 1) + g (T + s)) by
        rw [within_eq, within_eq, ← add_assoc]; ring_nf, Real.exp_add]
    ring_nf

/-- The normaliser after the chunk, rescaled to the new stabiliser. -/
theorem normal_chunk (L T : ℕ) (m m' : ℝ) (d : Fin D) :
    Real.exp (within f T L + m - m') * (Real.exp (-m) * normal f g k T d)
      + ∑ s ∈ range (L + 1), Real.exp (within f T L - within f T s + g (T + s) - m') * k (T + s) d
      = Real.exp (-m') * normal f g k (T + (L + 1)) d := by
  have h := memory_chunk f g k (fun _ _ => (1 : ℝ)) L T m m' d (0 : Fin 1)
  simpa only [memory, mul_one, normal] using h

/-- The two spellings of the logarithm of the logistic function. -/
theorem logSigmoid_eq (x : ℝ) :
    min x 0 - Real.log (1 + Real.exp (-|x|)) = -Real.log (1 + Real.exp (-x)) := by
  rcases le_total 0 x with h | h
  · rw [min_eq_right h, abs_of_nonneg h, zero_sub]
  · rw [min_eq_left h, abs_of_nonpos h, neg_neg]
    have : 1 + Real.exp (-x) = Real.exp (-x) * (1 + Real.exp x) := by
      rw [mul_add, mul_one, ← Real.exp_add, neg_add_cancel, Real.exp_zero, add_comm]
    rw [this, Real.log_mul (Real.exp_pos _).ne' (by positivity), Real.log_exp]
    ring

end Cert.Cell

end
-- ==== Proof.Extended.lean ====
module
public import Idealize.ShloMosaic.Lib.Pointwise

/-!
# Extended reals that are real

The two programs compute over the extended reals.  Where every input is real, every value up to the hidden state is
real, except for the `-∞` that masks a score.  These lemmas carry sums, maxima and exponentials across the embedding of
the reals.
-/

@[expose] public section
noncomputable section
namespace Cert.Cell
open Idealize.ShloMosaic

/-- A finite sum of reals, taken over the extended reals, is the sum over the reals. -/
theorem sum_real {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greater of two reals. -/
theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The smaller of two reals. -/
theorem min_real (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The absolute value of a real. -/
theorem abs_real (a : ℝ) : max (a : EReal) (-(a : EReal)) = ((|a| : ℝ) : EReal) := by
  rw [← EReal.coe_neg, max_real]; rfl

/-- The word of `-∞`. -/
theorem ofBits_bot : Ideal.ofBits .f32 0xFF800000#32 = ⊥ := by
  simp [Ideal.ofBits, Ideal.ieee]

/-- The greatest of finitely many extended reals, none of them `+∞`, is not `+∞`. -/
theorem fold_ne_top {ι : Type*} (s : Finset ι) (F : ι → EReal) (h : ∀ i, F i ≠ ⊤) : s.fold max ⊥ F ≠ ⊤ := by
  classical
  induction s using Finset.induction_on with
  | empty => simp
  | insert a s ha ih =>
    rw [Finset.fold_insert ha]
    rcases max_choice (F a) (s.fold max ⊥ F) with e | e <;> rw [e]
    exacts [h a, ih]

/-- A real and a maximum of reals and `-∞`: the greater of them is real. -/
theorem stab_real {ι : Type*} (s : Finset ι) (F : ι → EReal) (h : ∀ i, F i ≠ ⊤) (x : ℝ) :
    ∃ μ : ℝ, max (x : EReal) (s.fold max ⊥ F) = (μ : EReal) := by
  have ht : max (x : EReal) (s.fold max ⊥ F) ≠ ⊤ := by
    rcases max_choice (x : EReal) (s.fold max ⊥ F) with e | e <;> rw [e]
    exacts [EReal.coe_ne_top x, fold_ne_top s F h]
  have hb : max (x : EReal) (s.fold max ⊥ F) ≠ ⊥ := fun e =>
    absurd (le_of_le_of_eq (le_max_left _ _) e) (by simp)
  exact ⟨_, (EReal.coe_toReal ht hb).symm⟩

/-- A masked exponential. -/
theorem exp_mask (p : Prop) [Decidable p] (y μ : ℝ) :
    Ideal.exp ((if p then (y : EReal) else ⊥) - (μ : EReal)) = ((if p then Real.exp (y - μ) else 0 : ℝ) : EReal) := by
  split
  · rw [← EReal.coe_sub, Ideal.exp_coe]
  · rw [EReal.bot_sub, Ideal.exp_bot, EReal.coe_zero]

/-- A masked real. -/
theorem mask_real (p : Prop) [Decidable p] (y : ℝ) :
    (if p then (y : EReal) else 0) = ((if p then y else 0 : ℝ) : EReal) := by split <;> simp

/-- A quotient of reals by a positive real. -/
theorem div_real (x y : ℝ) (h : 0 < y) : Ideal.div (x : EReal) (y : EReal) = ((x / y : ℝ) : EReal) := by
  rw [Ideal.div_coe h.ne', ← EReal.coe_mul, mul_one_div]

/-- The logarithm of one more than an exponential. -/
theorem log1p_exp (y : ℝ) : Ideal.log1p (Ideal.exp (y : EReal)) = ((Real.log (1 + Real.exp y) : ℝ) : EReal) := by
  have : 0 < 1 + Real.exp y := by positivity
  rw [Ideal.exp_coe, Ideal.log1p, ← EReal.coe_one, ← EReal.coe_add, Ideal.log_coe, if_neg this.not_ge]

/-- A small number, read back from its word as a signed integer. -/
theorem toInt_small (a : ℕ) (ha : a < 2048) : (BitVec.ofNat 32 a).toInt = a := by
  have : (BitVec.ofNat 32 a).toNat = a := by rw [BitVec.toNat_ofNat]; omega
  rw [BitVec.toInt_eq_toNat_cond, this]; split <;> omega

/-- The order of two small words is the order of their numbers. -/
theorem sle_small (a b : ℕ) (ha : a < 2048) (hb : b < 2048) :
    IntOp.cmpi .sle (BitVec.ofNat 32 a) (BitVec.ofNat 32 b) = if a ≤ b then 1#1 else 0#1 := by
  simp only [IntOp.cmpi, BitVec.sle, toInt_small a ha, toInt_small b hb, Int.ofNat_le]
  by_cases h : a ≤ b <;> simp [h]

/-- The equality of two small words is the equality of their numbers. -/
theorem eq_small (a b : ℕ) (ha : a < 2048) (hb : b < 2048) :
    IntOp.cmpi .eq (BitVec.ofNat 32 a) (BitVec.ofNat 32 b) = if a = b then 1#1 else 0#1 := by
  have e : (BitVec.ofNat 32 a = BitVec.ofNat 32 b) ↔ a = b := by
    constructor
    · intro h
      have := congrArg BitVec.toInt h
      rw [toInt_small a ha, toInt_small b hb] at this
      exact_mod_cast this
    · rintro rfl; rfl
  simp only [IntOp.cmpi]
  by_cases h : a = b
  · subst h; simp
  · have : (BitVec.ofNat 32 a == BitVec.ofNat 32 b) = false := by simpa using fun h' => h (e.mp h')
    rw [this]; simp [h]

/-- A choice by a one-bit word that spells a decidable condition. -/
theorem select_if {α : Type} (p : Prop) [Decidable p] (x y : α) :
    Scalar.select (if p then 1#1 else 0#1) x y = if p then x else y := by
  by_cases h : p <;> simp [h, Scalar.select]

end Cert.Cell
end
-- ==== Proof.HeadReal.lean ====
module
public import proofs.«01_k».proof.Proof.Head
public import proofs.«01_k».proof.Proof.Recurrence
public import proofs.«01_k».proof.Proof.Extended

/-!
# One head of the block over the reals

Where the gates, the query, the key, the value and the state are real, one head's hidden state is that of the recurrence,
and the state it leaves is the recurrence's state at the block's end, divided by the exponential of some real stabiliser.
-/

@[expose] public section
set_option maxRecDepth 16384
noncomputable section
namespace Cert.Cell
open Cert.KernelIdeal Cert.KernelIdeal.Gen Idealize.ShloMosaic

/-- A sum over all positions of a block, masked to those up to `r`. -/
theorem sum_upto (L r : ℕ) (hr : r < L) (G : ℕ → ℝ) :
    (∑ x : Fin L, if x.val ≤ r then G x.val else 0) = ∑ s ∈ Finset.range (r + 1), G s := by
  rw [Fin.sum_univ_eq_sum_range (fun s => if s ≤ r then G s else 0) L, ← Finset.sum_filter]
  congr 1; ext s; simp only [Finset.mem_filter, Finset.mem_range]; omega

/-- The order of two positions of a block, as words. -/
theorem sle_fin (x r : Fin 256) :
    IntOp.cmpi .sle (BitVec.ofNat 32 x.val) (BitVec.ofNat 32 r.val) = if x.val ≤ r.val then 1#1 else 0#1 :=
  sle_small _ _ (by omega) (by omega)

/-- A lane of the gates. -/
theorem lane_apply (l : Fin 128) (G : FVec Ideal S256x128 .f32) (r : Fin 256) :
    lane (BitVec.ofNat 32 l) G (ix2 r 0) = G (ix2 r l) := by
  pointwise [lane]
  have (x : Fin 128) : Scalar.select (IntOp.cmpi .eq (BitVec.ofNat 32 x.val) (BitVec.ofNat 32 l.val)) (G (ix2 r x)) 0
      = if x = l then G (ix2 r x) else 0 := by
    rw [eq_small _ _ (by omega) (by omega), select_if]; simp only [Fin.ext_iff]
  simp only [this]
  rw [Finset.sum_ite_eq' Finset.univ l (fun x => G (ix2 r x))]; simp

/-- The logarithm of the sigmoid of a real. -/
theorem logSig_apply (x : FVec Ideal S256x1 .f32) (r : Fin 256) (a : ℝ) (h : x (ix2 r 0) = (a : EReal)) :
    logSig x (ix2 r 0) = ((-Real.log (1 + Real.exp (-a)) : ℝ) : EReal) := by
  pointwise [logSig]
  rw [h, Ideal.absf_def, abs_real, zero_sub, ← EReal.coe_neg, log1p_exp, ← EReal.coe_zero, min_real, ← EReal.coe_sub,
    logSigmoid_eq]

/-- The diagonal's row: the column, laid out as a row. -/
theorem rowOf_diag (x : FVec Ideal S256x1 .f32) (r : Fin 256) : rowOf (cmpi .eq rowNo colNo) x (ix2 0 r) = x (ix2 r 0) := by
  pointwise [rowOf, rowNo, colNo]
  have (y : Fin 256) : Scalar.select (IntOp.cmpi .eq (BitVec.ofNat 32 y.val) (BitVec.ofNat 32 r.val)) (x (ix2 y 0)) 0
      = if y = r then x (ix2 y 0) else 0 := by
    rw [eq_small _ _ (by omega) (by omega), select_if]; simp only [Fin.ext_iff]
  simp only [this]
  rw [Finset.sum_ite_eq' Finset.univ r (fun y => x (ix2 y 0))]; simp

variable (f g : ℕ → ℝ) (T : ℕ)

/-- The running sum of the block's forget gates, as a row. -/
theorem sumRow_apply (x : FVec Ideal S256x1 .f32) (h : ∀ r : Fin 256, x (ix2 r 0) = (f (T + r) : EReal)) (r : Fin 256) :
    sumRow x (ix2 0 r) = (within f T r : EReal) := by
  unfold sumRow
  pointwise [rowOf, rowNo, colNo]
  simp only [h, sle_fin, select_if,
    mask_real, sum_real]
  rw [sum_upto 256 r r.isLt fun s => f (T + s)]; rfl

/-- The running sum of the block's forget gates, as a column. -/
theorem sumCol_apply (x : FVec Ideal S256x1 .f32) (h : ∀ r : Fin 256, x (ix2 r 0) = (f (T + r) : EReal)) (r : Fin 256) :
    sumCol x (ix2 r 0) = (within f T r : EReal) := by
  unfold sumCol
  pointwise [colOf]
  simp only [rowOf_diag]
  pointwise [rowNo, colNo]
  simp only [h, sle_fin, select_if,
    mask_real, sum_real]
  rw [sum_upto 256 r r.isLt fun s => f (T + s)]; rfl

section State
variable (k : ℕ → Fin 256 → ℝ) (v : ℕ → Fin 512 → ℝ)
variable (gc bc : FVec Ideal S256x1 .f32) (hg : ∀ r : Fin 256, gc (ix2 r 0) = (g (T + r) : EReal))
  (hb : ∀ r : Fin 256, bc (ix2 r 0) = (within f T r : EReal))
variable (mv : FVec Ideal S1x1 .f32) (m : ℝ) (hm : mv (ix2 0 0) = (m : EReal))
include hg hb hm

/-- The state's new stabiliser is real. -/
theorem endStab_real : ∃ m' : ℝ, endStab mv gc bc (ix2 0 0) = (m' : EReal) := by
  pointwise [endStab, lastOf, endExp]
  simp only [hg, hb, hm, ofBits_bot, ← EReal.coe_add, ← EReal.coe_sub]
  exact stab_real _ _ (fun i => EReal.coe_ne_top _) _

/-- The new memory. -/
theorem newMem_apply (m' : ℝ) (hm' : endStab mv gc bc (ix2 0 0) = (m' : EReal))
    (kv : FVec Ideal S256x256 .bf16) (hk : ∀ (r : Fin 256) d, kv (ix2 r d) = (k (T + r) d : EReal))
    (vv : FVec Ideal S256x512 .bf16) (hv : ∀ (r : Fin 256) e, vv (ix2 r e) = (v (T + r) e : EReal))
    (Cv : FVec Ideal S256x512 .f32) (hC : ∀ d e, Cv (ix2 d e) = ((Real.exp (-m) * memory f g k v T d e : ℝ) : EReal))
    (d : Fin 256) (e : Fin 512) :
    newMem kv vv Cv mv gc bc (ix2 d e) = ((Real.exp (-m') * memory f g k v (T + 256) d e : ℝ) : EReal) := by
  pointwise [newMem, endKeys, carry, endExp, lastOf]
  simp only [hg, hb, hm, hm', hk, hv, hC, ← EReal.coe_add, ← EReal.coe_sub, ← EReal.coe_mul, Ideal.exp_coe, sum_real]
  rw [← memory_chunk f g k v 255 T m m' d e]
  congr 2
  rw [Finset.sum_range]
  refine Finset.sum_congr rfl fun s _ => ?_
  rw [show ((255 : Fin 256) : ℕ) = 255 from rfl]; ring

/-- The new normaliser. -/
theorem newNrm_apply (m' : ℝ) (hm' : endStab mv gc bc (ix2 0 0) = (m' : EReal))
    (kv : FVec Ideal S256x256 .bf16) (hk : ∀ (r : Fin 256) d, kv (ix2 r d) = (k (T + r) d : EReal))
    (nv : FVec Ideal S1x256 .f32) (hn : ∀ d, nv (ix2 0 d) = ((Real.exp (-m) * normal f g k T d : ℝ) : EReal)) (d : Fin 256) :
    newNrm kv nv mv gc bc (ix2 0 d) = ((Real.exp (-m') * normal f g k (T + 256) d : ℝ) : EReal) := by
  pointwise [newNrm, endKeys, carry, endExp, lastOf]
  simp only [hg, hb, hm, hm', hk, hn, ← EReal.coe_add, ← EReal.coe_sub, ← EReal.coe_mul, Ideal.exp_coe, sum_real]
  rw [← normal_chunk f g k 255 T m m' d]
  congr 2
  rw [Finset.sum_range]
  refine Finset.sum_congr rfl fun s _ => ?_
  rw [show ((255 : Fin 256) : ℕ) = 255 from rfl]; ring

end State

section Hidden
variable (q k : ℕ → Fin 256 → ℝ) (v : ℕ → Fin 512 → ℝ)
variable (bc : FVec Ideal S256x1 .f32) (hb : ∀ r : Fin 256, bc (ix2 r 0) = (within f T r : EReal))
  (br gr : FVec Ideal S1x256 .f32) (hbr : ∀ r : Fin 256, br (ix2 0 r) = (within f T r : EReal))
  (hgr : ∀ r : Fin 256, gr (ix2 0 r) = (g (T + r) : EReal))
variable (mv : FVec Ideal S1x1 .f32) (m : ℝ) (hm : mv (ix2 0 0) = (m : EReal))
include hb hbr hgr

/-- An exponent inside the block: real up to the diagonal, `-∞` above it. -/
theorem inExp_apply (r s : Fin 256) : inExp bc br gr (ix2 r s)
    = if s.val ≤ r.val then ((within f T r - within f T s + g (T + s) : ℝ) : EReal) else ⊥ := by
  pointwise [inExp, rowNo, colNo]
  rw [sle_small _ _ (by omega) (by omega), select_if, hb, hbr, hgr, ofBits_bot, EReal.coe_add, EReal.coe_sub]

include hm

/-- A position's stabiliser is real. -/
theorem stab_apply (r : Fin 256) : ∃ μ : ℝ, stab mv bc br gr (ix2 r 0) = (μ : EReal) := by
  have hi := inExp_apply f g T bc hb br gr hbr hgr r
  pointwise [stab, stateExp]
  simp only [hi, hb, hm, ofBits_bot, ← EReal.coe_add]
  refine stab_real _ _ (fun i => ?_) _
  split
  · exact EReal.coe_ne_top _
  · exact bot_ne_top

/-- The hidden state. -/
theorem hid_apply
    (qv kv : FVec Ideal S256x256 .bf16) (hq : ∀ (r : Fin 256) d, qv (ix2 r d) = (q (T + r) d : EReal))
    (hk : ∀ (r : Fin 256) d, kv (ix2 r d) = (k (T + r) d : EReal))
    (vv : FVec Ideal S256x512 .bf16) (hv : ∀ (r : Fin 256) e, vv (ix2 r e) = (v (T + r) e : EReal))
    (Cv : FVec Ideal S256x512 .f32) (hC : ∀ d e, Cv (ix2 d e) = ((Real.exp (-m) * memory f g k v T d e : ℝ) : EReal))
    (nv : FVec Ideal S1x256 .f32) (hn : ∀ d, nv (ix2 0 d) = ((Real.exp (-m) * normal f g k T d : ℝ) : EReal))
    (r : Fin 256) (e : Fin 512) :
    hid qv kv vv Cv nv mv bc br gr (ix2 r e) = (hidden f g q k v (T + r) e : EReal) := by
  obtain ⟨μ, hμ⟩ := stab_apply f g T bc hb br gr hbr hgr mv m hm r
  have hi := inExp_apply f g T bc hb br gr hbr hgr r
  pointwise [hid, top, bottom, stateW, scores, stateExp]
  simp only [hi, hμ, hb, hm, hq, hk, hv, hC, hn, Ideal.absf_def, exp_mask, zero_sub, ← EReal.coe_neg, ← EReal.coe_add,
    ← EReal.coe_sub, ← EReal.coe_mul, Ideal.exp_coe, sum_real, max_real]
  have e1 := numer_chunk f g q k v 256 T r r.isLt m μ e
  have e2 := denom_chunk f g q k 256 T r r.isLt m μ
  rw [Finset.sum_range] at e1 e2
  rw [e1, e2, div_real _ _ (lt_max_of_lt_right (Real.exp_pos _))]
  exact congrArg _ (hidden_of_scaled f g q k v (T + r) μ e)

end Hidden
end Cert.Cell
end
-- ==== Proof.HeadStores.lean ====
module
public import proofs.«01_k».proof.Proof.HeadReal
public import Idealize.ShloMosaic.Lib.Pipeline.ReadBack
public import Idealize.ShloMosaic.Lib.Pipeline.ValueKit.Tiles

/-!
# What one head stores, over the reals

The four values a head stores (its part of the result, of the memory, of the normaliser and of the stabiliser), where
its slices of the block and of the state are real.
-/

@[expose] public section
set_option maxRecDepth 16384
noncomputable section
namespace Cert.Cell
open Cert.KernelIdeal Cert.KernelIdeal.Gen Idealize.ShloMosaic

/-- A head's hidden state, normed over its features, times a gain, times the sigmoid of an output gate. -/
def gatedOf (H : Fin 512 → EReal) (gain og : EReal) (e : Fin 512) : EReal :=
  H e * Ideal.rsqrt (Ideal.div (∑ i, H i * H i) (Ideal.ofBits .f32 0x44000000#32) + Ideal.ofBits .f32 0x358637BD#32) * gain
    * Ideal.div 1 (1 + Ideal.exp (0 - og))

/-- The gated norm at an index. -/
theorem gated_apply (x : FVec Ideal S256x512 .f32) (gain : Vec Ideal S1x512 .f32) (og : Vec Ideal S256x512 .bf16)
    (r : Fin 256) (e : Fin 512) :
    gated x gain og (ix2 r e) = gatedOf (fun i => x (ix2 r i)) (gain (ix2 0 e)) (og (ix2 r e)) e := by
  unfold gatedOf
  pointwise [gated]

variable (f g z : ℕ → ℝ) (T : ℕ) (a a' : Fin 128) (w w' : BitVec 32) (hw : w = BitVec.ofNat 32 a) (hw' : w' = BitVec.ofNat 32 a')
  (x4 : Vec Ideal S256x128 .f32) (x5 : Vec Ideal S1x128 .f32)
  (hG : ∀ r : Fin 256, (x4 (ix2 r a) + x5 (ix2 0 a) : EReal) = (g (T + r) : EReal))
  (hZ : ∀ r : Fin 256, (x4 (ix2 r a') + x5 (ix2 0 a') : EReal) = (z (T + r) : EReal))
  (hf : ∀ s, f s = -Real.log (1 + Real.exp (-z s)))

/-- The biased gates at an index. -/
theorem biased_apply (r : Fin 256) (l : Fin 128) :
    (biased x4 x5 (ix2 r l) : EReal) = (x4 (ix2 r l) + x5 (ix2 0 l) : EReal) := by
  pointwise [biased]

section
include hw hG
theorem gCol_apply (r : Fin 256) : gCol w x4 x5 (ix2 r 0) = (g (T + r) : EReal) := by
  subst hw
  rw [gCol, lane_apply, biased_apply, hG]
theorem gRow_apply (r : Fin 256) : gRow w x4 x5 (ix2 0 r) = (g (T + r) : EReal) := by
  subst hw
  rw [gRow, gateRow, rowOf_diag, lane_apply, biased_apply, hG]
end

section
include hw' hZ hf
theorem logs_apply (r : Fin 256) : logSig (lane w' (biased x4 x5)) (ix2 r 0) = (f (T + r) : EReal) := by
  subst hw'
  rw [hf]
  exact logSig_apply _ r _ (by rw [lane_apply, biased_apply, hZ])
theorem bCol_apply (r : Fin 256) : bCol w' x4 x5 (ix2 r 0) = (within f T r : EReal) :=
  sumCol_apply f T _ (logs_apply f z T a' w' hw' x4 x5 hZ hf) r
theorem bRow_apply (r : Fin 256) : bRow w' x4 x5 (ix2 0 r) = (within f T r : EReal) :=
  sumRow_apply f T _ (logs_apply f z T a' w' hw' x4 x5 hZ hf) r
end

section Stores
include hw hw' hG hZ hf
variable (q k : ℕ → Fin 256 → ℝ) (v : ℕ → Fin 512 → ℝ)
variable (mv : Vec Ideal S1x1x1 .f32) (m : ℝ) (hm : mv (ix3 0 0 0) = (m : EReal))
include hm

/-- The stabiliser a head stores is real. -/
theorem headStab_real : ∃ m' : ℝ, (headStab w w' x4 x5 mv (ix3 0 0 0) : EReal) = (m' : EReal)
    ∧ endStab (shapeCast S1x1 mv shapeCasts_S1x1x1_S1x1) (gCol w x4 x5) (bCol w' x4 x5) (ix2 0 0) = (m' : EReal) := by
  obtain ⟨m', h⟩ := endStab_real f g T (gCol w x4 x5) (bCol w' x4 x5) (gCol_apply g T a w hw x4 x5 hG)
    (bCol_apply f z T a' w' hw' x4 x5 hZ hf) (shapeCast S1x1 mv shapeCasts_S1x1x1_S1x1) m (by pointwise; exact hm)
  refine ⟨m', ?_, h⟩
  rw [← h]
  pointwise [headStab]

/-- The memory a head stores. -/
theorem headMem_apply (m' : ℝ)
    (hm' : endStab (shapeCast S1x1 mv shapeCasts_S1x1x1_S1x1) (gCol w x4 x5) (bCol w' x4 x5) (ix2 0 0) = (m' : EReal))
    (kv : Vec Ideal S256x256 .bf16) (hk : ∀ (r : Fin 256) d, kv (ix2 r d) = (k (T + r) d : EReal))
    (vv : Vec Ideal S256x512 .bf16) (hv : ∀ (r : Fin 256) e, vv (ix2 r e) = (v (T + r) e : EReal))
    (Cv : Vec Ideal S1x256x512 .f32) (hC : ∀ d e, Cv (ix3 0 d e) = ((Real.exp (-m) * memory f g k v T d e : ℝ) : EReal))
    (d : Fin 256) (e : Fin 512) :
    (headMem w w' x4 x5 kv vv Cv mv (ix3 0 d e) : EReal) = ((Real.exp (-m') * memory f g k v (T + 256) d e : ℝ) : EReal) := by
  rw [← newMem_apply f g T k v (gCol w x4 x5) (bCol w' x4 x5) (gCol_apply g T a w hw x4 x5 hG)
    (bCol_apply f z T a' w' hw' x4 x5 hZ hf) (shapeCast S1x1 mv shapeCasts_S1x1x1_S1x1) m (by pointwise; exact hm) m' hm'
    (shapeCast S256x256 kv shapeCasts_S256x256_S256x256) (fun r d => by pointwise; exact hk r d)
    (shapeCast S256x512 vv shapeCasts_S256x512_S256x512) (fun r e => by pointwise; exact hv r e)
    (shapeCast S256x512 Cv shapeCasts_S1x256x512_S256x512) (fun d e => by pointwise; exact hC d e) d e]
  pointwise [headMem]

/-- The normaliser a head stores. -/
theorem headNrm_apply (m' : ℝ)
    (hm' : endStab (shapeCast S1x1 mv shapeCasts_S1x1x1_S1x1) (gCol w x4 x5) (bCol w' x4 x5) (ix2 0 0) = (m' : EReal))
    (kv : Vec Ideal S256x256 .bf16) (hk : ∀ (r : Fin 256) d, kv (ix2 r d) = (k (T + r) d : EReal))
    (nv : Vec Ideal S1x1x256 .f32) (hn : ∀ d, nv (ix3 0 0 d) = ((Real.exp (-m) * normal f g k T d : ℝ) : EReal))
    (d : Fin 256) :
    (headNrm w w' x4 x5 kv nv mv (ix3 0 0 d) : EReal) = ((Real.exp (-m') * normal f g k (T + 256) d : ℝ) : EReal) := by
  rw [← newNrm_apply f g T k (gCol w x4 x5) (bCol w' x4 x5) (gCol_apply g T a w hw x4 x5 hG)
    (bCol_apply f z T a' w' hw' x4 x5 hZ hf) (shapeCast S1x1 mv shapeCasts_S1x1x1_S1x1) m (by pointwise; exact hm) m' hm'
    (shapeCast S256x256 kv shapeCasts_S256x256_S256x256) (fun r d => by pointwise; exact hk r d)
    (shapeCast S1x256 nv shapeCasts_S1x1x256_S1x256) (fun d => by pointwise; exact hn d) d]
  pointwise [headNrm]

/-- The part of the result a head stores. -/
theorem headOut_apply
    (qv : Vec Ideal S256x256 .bf16) (hq : ∀ (r : Fin 256) d, (qv (ix2 r d) * Ideal.ofBits .bf16 0x3D80#16 : EReal) = (q (T + r) d : EReal))
    (kv : Vec Ideal S256x256 .bf16) (hk : ∀ (r : Fin 256) d, kv (ix2 r d) = (k (T + r) d : EReal))
    (vv : Vec Ideal S256x512 .bf16) (hv : ∀ (r : Fin 256) e, vv (ix2 r e) = (v (T + r) e : EReal))
    (og : Vec Ideal S256x512 .bf16) (gain : Vec Ideal S1x512 .f32)
    (Cv : Vec Ideal S1x256x512 .f32) (hC : ∀ d e, Cv (ix3 0 d e) = ((Real.exp (-m) * memory f g k v T d e : ℝ) : EReal))
    (nv : Vec Ideal S1x1x256 .f32) (hn : ∀ d, nv (ix3 0 0 d) = ((Real.exp (-m) * normal f g k T d : ℝ) : EReal))
    (r : Fin 256) (e : Fin 512) :
    (headOut w w' x4 x5 qv kv vv og gain Cv nv mv (ix2 r e) : EReal)
      = gatedOf (fun i => (hidden f g q k v (T + r) i : EReal)) (gain (ix2 0 e)) (og (ix2 r e)) e := by
  unfold headOut
  rw [gated_apply]
  congr 1
  funext i
  exact hid_apply f g T q k v (bCol w' x4 x5) (bCol_apply f z T a' w' hw' x4 x5 hZ hf) (bRow w' x4 x5) (gRow w x4 x5)
    (bRow_apply f z T a' w' hw' x4 x5 hZ hf) (gRow_apply g T a w hw x4 x5 hG)
    (shapeCast S1x1 mv shapeCasts_S1x1x1_S1x1) m (by pointwise; exact hm)
    (scaled qv) (shapeCast S256x256 kv shapeCasts_S256x256_S256x256) (fun r d => by pointwise [scaled]; exact hq r d)
    (fun r d => by pointwise; exact hk r d)
    (shapeCast S256x512 vv shapeCasts_S256x512_S256x512) (fun r e => by pointwise; exact hv r e)
    (shapeCast S256x512 Cv shapeCasts_S1x256x512_S256x512) (fun d e => by pointwise; exact hC d e)
    (shapeCast S1x256 nv shapeCasts_S1x1x256_S1x256) (fun d => by pointwise; exact hn d) r i

end Stores

/-- A load of columns of a block. -/
theorem ld_cols {A B a b : ℕ} {e : EltTy} (X : Vec Ideal ⟨2, ![A, B]⟩ e) (o : ℕ) (inb) (r : Fin a) (d : Fin b) (i : Fin A) (j : Fin B)
    (hi : i.val = r.val) (hj : j.val = o + d.val) :
    View.ld X (Rect.unit (s := ⟨2, ![A, B]⟩) ![0, o] ![a, b] inb) (ix2 r d : Shape.Idx ⟨2, ![a, b]⟩) = X (ix2 i j : Shape.Idx ⟨2, ![A, B]⟩) :=
  View.ld_unit_apply_of X _ _ _ _ _ (Fin.forall_fin_two.2 ⟨by show i.val = 0 + r.val; omega, hj⟩)

/-- A load of one head of a state. -/
theorem ld_state {A B C : ℕ} {e : EltTy} (X : Vec Ideal ⟨3, ![A, B, C]⟩ e) (o : ℕ) (inb) (b : Fin B) (c : Fin C) (h : Fin A) (hh : h.val = o) :
    View.ld X (Rect.unit (s := ⟨3, ![A, B, C]⟩) ![o, 0, 0] ![1, B, C] inb) (ix3 0 b c : Shape.Idx ⟨3, ![1, B, C]⟩) = X (ix3 h b c : Shape.Idx ⟨3, ![A, B, C]⟩) :=
  View.ld_unit_apply_of X _ _ _ _ _ (fun x => by
    match x with
    | ⟨0, _⟩ => exact hh
    | ⟨1, _⟩ => show b.val = 0 + b.val; omega
    | ⟨2, _⟩ => show c.val = 0 + c.val; omega)

end Cert.Cell
end
-- ==== Proof.BlockReal.lean ====
module
public import proofs.«01_k».proof.Proof.HeadStores

/-!
# One block over the reals

From a block of real projections and from the recurrence's state at the block's beginning, the four heads' stores leave
the recurrence's state at the block's end, and in the result the gated norm of the recurrence's hidden states.
-/

@[expose] public section
set_option maxRecDepth 16384
noncomputable section
namespace Cert.Cell
open Cert.KernelIdeal Cert.KernelIdeal.Gen Idealize.ShloMosaic

/-- The real sequences the four heads of one batch entry run on. -/
structure Heads where
  /-- the forget gate before its sigmoid -/
  z : Fin 4 → ℕ → ℝ
  /-- the input gate -/
  g : Fin 4 → ℕ → ℝ
  q : Fin 4 → ℕ → Fin 256 → ℝ
  k : Fin 4 → ℕ → Fin 256 → ℝ
  v : Fin 4 → ℕ → Fin 512 → ℝ

namespace Heads
/-- The logarithm of the forget gate. -/
def f (S : Heads) (h : Fin 4) (s : ℕ) : ℝ := -Real.log (1 + Real.exp (-S.z h s))
/-- A head's hidden state. -/
def hid (S : Heads) (h : Fin 4) (t : ℕ) (e : Fin 512) : ℝ := hidden (S.f h) (S.g h) (S.q h) (S.k h) (S.v h) t e
/-- A head's memory after `T` positions. -/
def mem (S : Heads) (h : Fin 4) (T : ℕ) (d : Fin 256) (e : Fin 512) : ℝ := memory (S.f h) (S.g h) (S.k h) (S.v h) T d e
/-- A head's normaliser after `T` positions. -/
def nrm (S : Heads) (h : Fin 4) (T : ℕ) (d : Fin 256) : ℝ := normal (S.f h) (S.g h) (S.k h) T d
end Heads

/-- The head and the feature of a column of the values. -/
theorem vcol_lt (h : Fin 4) (e : Fin 512) : 512 * h.val + e.val < 2048 := by omega
/-- The column of a feature of a head's query or key. -/
theorem qcol_lt (h : Fin 4) (d : Fin 256) : 256 * h.val + d.val < 1024 := by omega

/-- A block's windows hold positions `T … T + 255` of the sequences. -/
structure Holds (S : Heads) (T : ℕ) (x0 x1 : Vec Ideal S256x1024 .bf16) (x2 : Vec Ideal S256x2048 .bf16)
    (x4 : Vec Ideal S256x128 .f32) (x5 : Vec Ideal S1x128 .f32) : Prop where
  gate : ∀ (h : Fin 4) (r : Fin 256), (x4 (ix2 r ⟨h.val, by omega⟩) + x5 (ix2 0 ⟨h.val, by omega⟩) : EReal) = (S.g h (T + r) : EReal)
  forget : ∀ (h : Fin 4) (r : Fin 256),
    (x4 (ix2 r ⟨4 + h.val, by omega⟩) + x5 (ix2 0 ⟨4 + h.val, by omega⟩) : EReal) = (S.z h (T + r) : EReal)
  query : ∀ (h : Fin 4) (r d : Fin 256),
    (x0 (ix2 r ⟨256 * h.val + d.val, qcol_lt h d⟩) * Ideal.ofBits .bf16 0x3D80#16 : EReal) = (S.q h (T + r) d : EReal)
  key : ∀ (h : Fin 4) (r d : Fin 256), x1 (ix2 r ⟨256 * h.val + d.val, qcol_lt h d⟩) = (S.k h (T + r) d : EReal)
  value : ∀ (h : Fin 4) (r : Fin 256) (e : Fin 512), x2 (ix2 r ⟨512 * h.val + e.val, vcol_lt h e⟩) = (S.v h (T + r) e : EReal)

/-- The state buffers hold, for each head, the state after `T` positions, divided by the exponential of a real stabiliser. -/
def StateAt (S : Heads) (T : ℕ) (C : Vec Ideal S4x256x512 .f32) (n : Vec Ideal S4x1x256 .f32) (s : Vec Ideal S4x1x1 .f32) : Prop :=
  ∃ μ : Fin 4 → ℝ, (∀ h, s (ix3 h 0 0) = (μ h : EReal))
    ∧ (∀ h d e, C (ix3 h d e) = ((Real.exp (-μ h) * S.mem h T d e : ℝ) : EReal))
    ∧ (∀ h d, n (ix3 h 0 d) = ((Real.exp (-μ h) * S.nrm h T d : ℝ) : EReal))

/-- The state before the first position: zeros. -/
theorem stateAt_zero (S : Heads) (C : Vec Ideal S4x256x512 .f32) (n : Vec Ideal S4x1x256 .f32) (s : Vec Ideal S4x1x1 .f32)
    (hC : ∀ i, C i = (0 : EReal)) (hn : ∀ i, n i = (0 : EReal)) (hs : ∀ i, s i = (0 : EReal)) : StateAt S 0 C n s :=
  ⟨fun _ => 0, fun _ => hs _, fun h d e => by rw [hC]; simp [Heads.mem, memory], fun h d => by rw [hn]; simp [Heads.nrm, normal]⟩

theorem whole4 (x : Vec Ideal S256x128 .f32) :
    View.ld x (Rect.unit ![0, 0] ![256, 128] inb_S256x128_S256x128_0_0) = x :=
  View.ld_unit_zero (by funext a; fin_cases a <;> rfl) _ _
theorem whole5 (x : Vec Ideal S1x128 .f32) :
    View.ld x (Rect.unit ![0, 0] ![1, 128] inb_S1x128_S1x128_0_0) = x :=
  View.ld_unit_zero (by funext a; fin_cases a <;> rfl) _ _

variable {S : Heads} {T : ℕ} {x0 x1 : Vec Ideal S256x1024 .bf16} {x2 x3 : Vec Ideal S256x2048 .bf16}
  {x4 : Vec Ideal S256x128 .f32} {x5 : Vec Ideal S1x128 .f32} {x6 : Vec Ideal S1x2048 .f32}
  {C : Vec Ideal S4x256x512 .f32} {n : Vec Ideal S4x1x256 .f32} {s : Vec Ideal S4x1x1 .f32}
  (hx : Holds S T x0 x1 x2 x4 x5)
include hx

omit hx in
/-- Where a store of one head of a state puts its entries. -/
theorem emb_state {B D : ℕ} (o : ℕ) (inb) (b : Fin B) (d : Fin D) (h : Fin 4) (hh : h.val = o) :
    (Rect.unit (s := ⟨3, ![4, B, D]⟩) ![o, 0, 0] ![1, B, D] inb).emb (ix3 0 b d : Shape.Idx ⟨3, ![1, B, D]⟩) = (ix3 h b d : Shape.Idx ⟨3, ![4, B, D]⟩) :=
  funext fun x => Fin.ext ((Rect.idx_unit_val _ _ _ _ x).trans (by
    match x with
    | ⟨0, _⟩ => exact hh.symm
    | ⟨1, _⟩ => show 0 + b.val = b.val; omega
    | ⟨2, _⟩ => show 0 + d.val = d.val; omega))

omit hx in
/-- Where a head's store of the result puts its entries. -/
theorem emb_cols (o : ℕ) (inb) (r : Fin 256) (e : Fin 512) (h : Fin 4) (hh : 512 * h.val = o) :
    (Rect.unit (s := S256x2048) ![0, o] ![256, 512] inb).emb (ix2 r e : Shape.Idx ⟨2, ![256, 512]⟩) = (ix2 r ⟨512 * h.val + e.val, vcol_lt h e⟩ : S256x2048.Idx) :=
  funext fun x => Fin.ext ((Rect.idx_unit_val _ _ _ _ x).trans (by
    match x with
    | ⟨0, _⟩ => show 0 + r.val = r.val; omega
    | ⟨1, _⟩ => show o + e.val = 512 * h.val + e.val; omega))

omit hx in
theorem cover_cols (o : ℕ) (inb) (r : Fin 256) (e : Fin 512) (j : Fin 2048) (hj : j.val = o + e.val) :
    (ix2 r j : S256x2048.Idx) ∈ (Rect.unit (s := S256x2048) ![0, o] ![256, 512] inb).set :=
  Rect.mem_set_unit.mpr (Fin.forall_fin_two.2
    ⟨⟨Nat.zero_le _, by show r.val < 0 + 256; omega⟩, ⟨by show o ≤ j.val; omega, by show j.val < o + 512; omega⟩⟩)

omit hx in
/-- The gated norm, its head and feature read off the column. -/
theorem gated_at (S : Heads) (h : Fin 4) (T : ℕ) (r : Fin 256) (e : Fin 512) (a b : EReal) :
    gatedOf (fun i => (S.hid h (T + r) i : EReal)) a b e
      = gatedOf (fun i => (S.hid ⟨(512 * h.val + e.val) / 512, by omega⟩ (T + r.val) i : EReal)) a b ⟨(512 * h.val + e.val) % 512, by omega⟩ := by
  have e1 : (⟨(512 * h.val + e.val) / 512, by omega⟩ : Fin 4) = h := Fin.ext (by show (512 * h.val + e.val) / 512 = h.val; omega)
  have e2 : (⟨(512 * h.val + e.val) % 512, by omega⟩ : Fin 512) = e := Fin.ext (by show (512 * h.val + e.val) % 512 = e.val; omega)
  rw [e1, e2]

/-- The state the heads' stores leave, over any earlier stores of the same buffers. -/
theorem state_block (hst : StateAt S T C n s) (L0 : List (View.Piece (Elt Ideal) S4x256x512 .f32))
    (L1 : List (View.Piece (Elt Ideal) S4x1x256 .f32)) (L2 : List (View.Piece (Elt Ideal) S4x1x1 .f32)) :
    StateAt S (T + 256) (View.canon (memPieces x1 x2 x4 x5 C s ++ L0)) (View.canon (nrmPieces x1 x4 x5 n s ++ L1))
      (View.canon (stabPieces x4 x5 s ++ L2)) := by
  obtain ⟨μ, hs, hC, hn⟩ := hst
  obtain ⟨m0, s0, e0⟩ := headStab_real (S.f 0) (S.g 0) (S.z 0) T ⟨0, by omega⟩ ⟨4 + 0, by omega⟩ 0#32 4#32 rfl rfl x4 x5 (hx.gate 0) (hx.forget 0) (fun _ => rfl)
    (View.ld s (Rect.unit ![0, 0, 0] ![1, 1, 1] inb_S4x1x1_S1x1x1_0_0_0)) (μ 0) ((ld_state s 0 _ 0 0 0 rfl).trans (hs 0))
  obtain ⟨m1, s1, e1⟩ := headStab_real (S.f 1) (S.g 1) (S.z 1) T ⟨1, by omega⟩ ⟨4 + 1, by omega⟩ 1#32 5#32 rfl rfl x4 x5 (hx.gate 1) (hx.forget 1) (fun _ => rfl)
    (View.ld s (Rect.unit ![1, 0, 0] ![1, 1, 1] inb_S4x1x1_S1x1x1_1_0_0)) (μ 1) ((ld_state s 1 _ 0 0 1 rfl).trans (hs 1))
  obtain ⟨m2, s2, e2⟩ := headStab_real (S.f 2) (S.g 2) (S.z 2) T ⟨2, by omega⟩ ⟨4 + 2, by omega⟩ 2#32 6#32 rfl rfl x4 x5 (hx.gate 2) (hx.forget 2) (fun _ => rfl)
    (View.ld s (Rect.unit ![2, 0, 0] ![1, 1, 1] inb_S4x1x1_S1x1x1_2_0_0)) (μ 2) ((ld_state s 2 _ 0 0 2 rfl).trans (hs 2))
  obtain ⟨m3, s3, e3⟩ := headStab_real (S.f 3) (S.g 3) (S.z 3) T ⟨3, by omega⟩ ⟨4 + 3, by omega⟩ 3#32 7#32 rfl rfl x4 x5 (hx.gate 3) (hx.forget 3) (fun _ => rfl)
    (View.ld s (Rect.unit ![3, 0, 0] ![1, 1, 1] inb_S4x1x1_S1x1x1_3_0_0)) (μ 3) ((ld_state s 3 _ 0 0 3 rfl).trans (hs 3))
  let μ' : Fin 4 → ℝ := ![m0, m1, m2, m3]
  have cover3 {B D : ℕ} (h : Fin 4) (b : Fin B) (d : Fin D) (o : ℕ) (ho : h.val = o) (inb) :
      (ix3 h b d : Shape.Idx ⟨3, ![4, B, D]⟩) ∈ (Rect.unit (s := ⟨3, ![4, B, D]⟩) ![o, 0, 0] ![1, B, D] inb).set :=
    Rect.mem_set_unit.mpr (fun x => by
      match x with
      | ⟨0, _⟩ => exact ⟨by show o ≤ h.val; omega, by show h.val < o + 1; omega⟩
      | ⟨1, _⟩ => exact ⟨Nat.zero_le _, by show b.val < 0 + B; omega⟩
      | ⟨2, _⟩ => exact ⟨Nat.zero_le _, by show d.val < 0 + D; omega⟩)
  refine ⟨μ', fun h => ?_, fun h d e => ?_, fun h d => ?_⟩
  · have P : View.PiecesOf (Val := Elt Ideal) (fun y : S4x1x1.Idx => ((μ' (y 0)) : EReal)) (stabPieces x4 x5 s) := by
      refine ⟨?_, ?_, ?_, ?_, trivial⟩
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        obtain rfl : x2' = 0 := Subsingleton.elim _ _
        rw [whole4, whole5, emb_state 3 inb_S4x1x1_S1x1x1_3_0_0 0 0 3 rfl]
        exact s3
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        obtain rfl : x2' = 0 := Subsingleton.elim _ _
        rw [whole4, whole5, emb_state 2 inb_S4x1x1_S1x1x1_2_0_0 0 0 2 rfl]
        exact s2
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        obtain rfl : x2' = 0 := Subsingleton.elim _ _
        rw [whole4, whole5, emb_state 1 inb_S4x1x1_S1x1x1_1_0_0 0 0 1 rfl]
        exact s1
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        obtain rfl : x2' = 0 := Subsingleton.elim _ _
        rw [whole4, whole5, emb_state 0 inb_S4x1x1_S1x1x1_0_0_0 0 0 0 rfl]
        exact s0
    have cov : ∃ p ∈ stabPieces x4 x5 s, (ix3 h 0 0 : S4x1x1.Idx) ∈ p.1.set := by
      fin_cases h
      · exact ⟨_, .tail _ (.tail _ (.tail _ (.head _))), cover3 0 _ _ 0 rfl inb_S4x1x1_S1x1x1_0_0_0⟩
      · exact ⟨_, .tail _ (.tail _ (.head _)), cover3 1 _ _ 1 rfl inb_S4x1x1_S1x1x1_1_0_0⟩
      · exact ⟨_, .tail _ (.head _), cover3 2 _ _ 2 rfl inb_S4x1x1_S1x1x1_2_0_0⟩
      · exact ⟨_, .head _, cover3 3 _ _ 3 rfl inb_S4x1x1_S1x1x1_3_0_0⟩
    exact View.canon_append_of_piecesOf _ L2 _ P _ cov
  · have P : View.PiecesOf (Val := Elt Ideal) (fun y : S4x256x512.Idx => (((Real.exp (-μ' (y 0)) * S.mem (y 0) (T + 256) (y 1) (y 2) : ℝ) : EReal) : EReal)) (memPieces x1 x2 x4 x5 C s) := by
      refine ⟨?_, ?_, ?_, ?_, trivial⟩
      · intro x
        dsimp only at x ⊢
        obtain ⟨x0', x1', x2', rfl⟩ : ∃ a b c, x = ix3 a b c := ⟨_, _, _, eq_ix3 x⟩
        obtain rfl : x0' = 0 := Subsingleton.elim _ _
        rw [whole4, whole5, emb_state 3 inb_S4x256x512_S1x256x512_3_0_0 x1' x2' 3 rfl]
        exact headMem_apply (S.f 3) (S.g 3) (S.z 3) T ⟨3, by omega⟩ ⟨4 + 3, by omega⟩ 3#32 7#32 rfl rfl x4 x5 (hx.gate 3) (hx.forget 3) (fun _ => rfl) (S.k 3) (S.v 3) _ (μ 3) ((ld_state s 3 _ 0 0 3 rfl).trans (hs 3)) m3 e3
          _ (fun r d => (ld_cols x1 768 _ r d r ⟨256 * 3 + d.val, qcol_lt 3 d⟩ rfl rfl).trans (hx.key 3 r d))
          _ (fun r e => (ld_cols x2 1536 _ r e r ⟨512 * 3 + e.val, vcol_lt 3 e⟩ rfl rfl).trans (hx.value 3 r e))
          _ (fun d e => (ld_state C 3 _ d e 3 rfl).trans (hC 3 d e)) x1' x2'
      · intro x
        dsimp only at x ⊢
        obtain ⟨x0', x1', x2', rfl⟩ : ∃ a b c, x = ix3 a b c := ⟨_, _, _, eq_ix3 x⟩
        obtain rfl : x0' = 0 := Subsingleton.elim _ _
        rw [whole4, whole5, emb_state 2 inb_S4x256x512_S1x256x512_2_0_0 x1' x2' 2 rfl]
        exact headMem_apply (S.f 2) (S.g 2) (S.z 2) T ⟨2, by omega⟩ ⟨4 + 2, by omega⟩ 2#32 6#32 rfl rfl x4 x5 (hx.gate 2) (hx.forget 2) (fun _ => rfl) (S.k 2) (S.v 2) _ (μ 2) ((ld_state s 2 _ 0 0 2 rfl).trans (hs 2)) m2 e2
          _ (fun r d => (ld_cols x1 512 _ r d r ⟨256 * 2 + d.val, qcol_lt 2 d⟩ rfl rfl).trans (hx.key 2 r d))
          _ (fun r e => (ld_cols x2 1024 _ r e r ⟨512 * 2 + e.val, vcol_lt 2 e⟩ rfl rfl).trans (hx.value 2 r e))
          _ (fun d e => (ld_state C 2 _ d e 2 rfl).trans (hC 2 d e)) x1' x2'
      · intro x
        dsimp only at x ⊢
        obtain ⟨x0', x1', x2', rfl⟩ : ∃ a b c, x = ix3 a b c := ⟨_, _, _, eq_ix3 x⟩
        obtain rfl : x0' = 0 := Subsingleton.elim _ _
        rw [whole4, whole5, emb_state 1 inb_S4x256x512_S1x256x512_1_0_0 x1' x2' 1 rfl]
        exact headMem_apply (S.f 1) (S.g 1) (S.z 1) T ⟨1, by omega⟩ ⟨4 + 1, by omega⟩ 1#32 5#32 rfl rfl x4 x5 (hx.gate 1) (hx.forget 1) (fun _ => rfl) (S.k 1) (S.v 1) _ (μ 1) ((ld_state s 1 _ 0 0 1 rfl).trans (hs 1)) m1 e1
          _ (fun r d => (ld_cols x1 256 _ r d r ⟨256 * 1 + d.val, qcol_lt 1 d⟩ rfl rfl).trans (hx.key 1 r d))
          _ (fun r e => (ld_cols x2 512 _ r e r ⟨512 * 1 + e.val, vcol_lt 1 e⟩ rfl rfl).trans (hx.value 1 r e))
          _ (fun d e => (ld_state C 1 _ d e 1 rfl).trans (hC 1 d e)) x1' x2'
      · intro x
        dsimp only at x ⊢
        obtain ⟨x0', x1', x2', rfl⟩ : ∃ a b c, x = ix3 a b c := ⟨_, _, _, eq_ix3 x⟩
        obtain rfl : x0' = 0 := Subsingleton.elim _ _
        rw [whole4, whole5, emb_state 0 inb_S4x256x512_S1x256x512_0_0_0 x1' x2' 0 rfl]
        exact headMem_apply (S.f 0) (S.g 0) (S.z 0) T ⟨0, by omega⟩ ⟨4 + 0, by omega⟩ 0#32 4#32 rfl rfl x4 x5 (hx.gate 0) (hx.forget 0) (fun _ => rfl) (S.k 0) (S.v 0) _ (μ 0) ((ld_state s 0 _ 0 0 0 rfl).trans (hs 0)) m0 e0
          _ (fun r d => (ld_cols x1 0 _ r d r ⟨256 * 0 + d.val, qcol_lt 0 d⟩ rfl rfl).trans (hx.key 0 r d))
          _ (fun r e => (ld_cols x2 0 _ r e r ⟨512 * 0 + e.val, vcol_lt 0 e⟩ rfl rfl).trans (hx.value 0 r e))
          _ (fun d e => (ld_state C 0 _ d e 0 rfl).trans (hC 0 d e)) x1' x2'
    have cov : ∃ p ∈ memPieces x1 x2 x4 x5 C s, (ix3 h d e : S4x256x512.Idx) ∈ p.1.set := by
      fin_cases h
      · exact ⟨_, .tail _ (.tail _ (.tail _ (.head _))), cover3 0 _ _ 0 rfl inb_S4x256x512_S1x256x512_0_0_0⟩
      · exact ⟨_, .tail _ (.tail _ (.head _)), cover3 1 _ _ 1 rfl inb_S4x256x512_S1x256x512_1_0_0⟩
      · exact ⟨_, .tail _ (.head _), cover3 2 _ _ 2 rfl inb_S4x256x512_S1x256x512_2_0_0⟩
      · exact ⟨_, .head _, cover3 3 _ _ 3 rfl inb_S4x256x512_S1x256x512_3_0_0⟩
    exact View.canon_append_of_piecesOf _ L0 _ P _ cov
  · have P : View.PiecesOf (Val := Elt Ideal) (fun y : S4x1x256.Idx => (((Real.exp (-μ' (y 0)) * S.nrm (y 0) (T + 256) (y 2) : ℝ) : EReal) : EReal)) (nrmPieces x1 x4 x5 n s) := by
      refine ⟨?_, ?_, ?_, ?_, trivial⟩
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        rw [whole4, whole5, emb_state 3 inb_S4x1x256_S1x1x256_3_0_0 0 x2' 3 rfl]
        exact headNrm_apply (S.f 3) (S.g 3) (S.z 3) T ⟨3, by omega⟩ ⟨4 + 3, by omega⟩ 3#32 7#32 rfl rfl x4 x5 (hx.gate 3) (hx.forget 3) (fun _ => rfl) (S.k 3) _ (μ 3) ((ld_state s 3 _ 0 0 3 rfl).trans (hs 3)) m3 e3
          _ (fun r d => (ld_cols x1 768 _ r d r ⟨256 * 3 + d.val, qcol_lt 3 d⟩ rfl rfl).trans (hx.key 3 r d))
          _ (fun d => (ld_state n 3 _ 0 d 3 rfl).trans (hn 3 d)) x2'
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        rw [whole4, whole5, emb_state 2 inb_S4x1x256_S1x1x256_2_0_0 0 x2' 2 rfl]
        exact headNrm_apply (S.f 2) (S.g 2) (S.z 2) T ⟨2, by omega⟩ ⟨4 + 2, by omega⟩ 2#32 6#32 rfl rfl x4 x5 (hx.gate 2) (hx.forget 2) (fun _ => rfl) (S.k 2) _ (μ 2) ((ld_state s 2 _ 0 0 2 rfl).trans (hs 2)) m2 e2
          _ (fun r d => (ld_cols x1 512 _ r d r ⟨256 * 2 + d.val, qcol_lt 2 d⟩ rfl rfl).trans (hx.key 2 r d))
          _ (fun d => (ld_state n 2 _ 0 d 2 rfl).trans (hn 2 d)) x2'
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        rw [whole4, whole5, emb_state 1 inb_S4x1x256_S1x1x256_1_0_0 0 x2' 1 rfl]
        exact headNrm_apply (S.f 1) (S.g 1) (S.z 1) T ⟨1, by omega⟩ ⟨4 + 1, by omega⟩ 1#32 5#32 rfl rfl x4 x5 (hx.gate 1) (hx.forget 1) (fun _ => rfl) (S.k 1) _ (μ 1) ((ld_state s 1 _ 0 0 1 rfl).trans (hs 1)) m1 e1
          _ (fun r d => (ld_cols x1 256 _ r d r ⟨256 * 1 + d.val, qcol_lt 1 d⟩ rfl rfl).trans (hx.key 1 r d))
          _ (fun d => (ld_state n 1 _ 0 d 1 rfl).trans (hn 1 d)) x2'
      · intro x
        dsimp only at x ⊢
        obtain ⟨x0', x1', x2', rfl⟩ : ∃ a b c, x = ix3 a b c := ⟨_, _, _, eq_ix3 x⟩
        obtain rfl : x0' = 0 := Subsingleton.elim _ _
        obtain rfl : x1' = 0 := Subsingleton.elim _ _
        rw [whole4, whole5, emb_state 0 inb_S4x1x256_S1x1x256_0_0_0 0 x2' 0 rfl]
        exact headNrm_apply (S.f 0) (S.g 0) (S.z 0) T ⟨0, by omega⟩ ⟨4 + 0, by omega⟩ 0#32 4#32 rfl rfl x4 x5 (hx.gate 0) (hx.forget 0) (fun _ => rfl) (S.k 0) _ (μ 0) ((ld_state s 0 _ 0 0 0 rfl).trans (hs 0)) m0 e0
          _ (fun r d => (ld_cols x1 0 _ r d r ⟨256 * 0 + d.val, qcol_lt 0 d⟩ rfl rfl).trans (hx.key 0 r d))
          _ (fun d => (ld_state n 0 _ 0 d 0 rfl).trans (hn 0 d)) x2'
    have cov : ∃ p ∈ nrmPieces x1 x4 x5 n s, (ix3 h 0 d : S4x1x256.Idx) ∈ p.1.set := by
      fin_cases h
      · exact ⟨_, .tail _ (.tail _ (.tail _ (.head _))), cover3 0 _ _ 0 rfl inb_S4x1x256_S1x1x256_0_0_0⟩
      · exact ⟨_, .tail _ (.tail _ (.head _)), cover3 1 _ _ 1 rfl inb_S4x1x256_S1x1x256_1_0_0⟩
      · exact ⟨_, .tail _ (.head _), cover3 2 _ _ 2 rfl inb_S4x1x256_S1x1x256_2_0_0⟩
      · exact ⟨_, .head _, cover3 3 _ _ 3 rfl inb_S4x1x256_S1x1x256_3_0_0⟩
    exact View.canon_append_of_piecesOf _ L1 _ P _ cov

/-- The result the heads' stores leave. -/
theorem out_block (hst : StateAt S T C n s) (h : Fin 4) (r : Fin 256) (e : Fin 512) :
    (View.canon (outPieces x0 x1 x2 x3 x4 x5 x6 C n s) (ix2 r ⟨512 * h.val + e.val, vcol_lt h e⟩) : EReal)
      = gatedOf (fun i => (S.hid h (T + r) i : EReal)) (x6 (ix2 0 ⟨512 * h.val + e.val, vcol_lt h e⟩))
          (x3 (ix2 r ⟨512 * h.val + e.val, vcol_lt h e⟩)) e := by
  obtain ⟨μ, hs, hC, hn⟩ := hst
  have P : View.PiecesOf (Val := Elt Ideal) (fun y : S256x2048.Idx =>
    (gatedOf (fun i => (S.hid ⟨(y 1).val / 512, by have : (y 1).val < 2048 := (y 1).isLt; omega⟩ (T + (y 0).val) i : EReal)) (x6 (ix2 0 (y 1))) (x3 (ix2 (y 0) (y 1)))
      ⟨(y 1).val % 512, by omega⟩ : EReal)) (outPieces x0 x1 x2 x3 x4 x5 x6 C n s) := by
    refine ⟨?_, ?_, ?_, ?_, trivial⟩
    · intro x
      dsimp only at x ⊢
      obtain ⟨x0', x1', rfl⟩ : ∃ a b, x = ix2 a b := ⟨_, _, eq_ix2 x⟩
      rw [whole4, whole5, emb_cols 1536 inb_S256x2048_S256x512_0_1536 x0' x1' 3 rfl]
      refine (headOut_apply (S.f 3) (S.g 3) (S.z 3) T ⟨3, by omega⟩ ⟨4 + 3, by omega⟩ 3#32 7#32 rfl rfl x4 x5 (hx.gate 3) (hx.forget 3) (fun _ => rfl) (S.q 3) (S.k 3) (S.v 3) _ (μ 3) ((ld_state s 3 _ 0 0 3 rfl).trans (hs 3))
          _ (fun r d => (congrArg (fun y : EReal => y * Ideal.ofBits .bf16 0x3D80#16) (ld_cols x0 768 _ r d r ⟨256 * 3 + d.val, qcol_lt 3 d⟩ rfl rfl)).trans (hx.query 3 r d))
          _ (fun r d => (ld_cols x1 768 _ r d r ⟨256 * 3 + d.val, qcol_lt 3 d⟩ rfl rfl).trans (hx.key 3 r d))
          _ (fun r e => (ld_cols x2 1536 _ r e r ⟨512 * 3 + e.val, vcol_lt 3 e⟩ rfl rfl).trans (hx.value 3 r e)) _ _
          _ (fun d e => (ld_state C 3 _ d e 3 rfl).trans (hC 3 d e))
          _ (fun d => (ld_state n 3 _ 0 d 3 rfl).trans (hn 3 d)) x0' x1').trans ?_
      rw [ld_cols x6 1536 _ 0 x1' 0 ⟨512 * (3 : Fin 4).val + x1'.val, vcol_lt 3 x1'⟩ rfl rfl, ld_cols x3 1536 _ x0' x1' x0' ⟨512 * (3 : Fin 4).val + x1'.val, vcol_lt 3 x1'⟩ rfl rfl]
      exact gated_at S 3 T x0' x1' _ _
    · intro x
      dsimp only at x ⊢
      obtain ⟨x0', x1', rfl⟩ : ∃ a b, x = ix2 a b := ⟨_, _, eq_ix2 x⟩
      rw [whole4, whole5, emb_cols 1024 inb_S256x2048_S256x512_0_1024 x0' x1' 2 rfl]
      refine (headOut_apply (S.f 2) (S.g 2) (S.z 2) T ⟨2, by omega⟩ ⟨4 + 2, by omega⟩ 2#32 6#32 rfl rfl x4 x5 (hx.gate 2) (hx.forget 2) (fun _ => rfl) (S.q 2) (S.k 2) (S.v 2) _ (μ 2) ((ld_state s 2 _ 0 0 2 rfl).trans (hs 2))
          _ (fun r d => (congrArg (fun y : EReal => y * Ideal.ofBits .bf16 0x3D80#16) (ld_cols x0 512 _ r d r ⟨256 * 2 + d.val, qcol_lt 2 d⟩ rfl rfl)).trans (hx.query 2 r d))
          _ (fun r d => (ld_cols x1 512 _ r d r ⟨256 * 2 + d.val, qcol_lt 2 d⟩ rfl rfl).trans (hx.key 2 r d))
          _ (fun r e => (ld_cols x2 1024 _ r e r ⟨512 * 2 + e.val, vcol_lt 2 e⟩ rfl rfl).trans (hx.value 2 r e)) _ _
          _ (fun d e => (ld_state C 2 _ d e 2 rfl).trans (hC 2 d e))
          _ (fun d => (ld_state n 2 _ 0 d 2 rfl).trans (hn 2 d)) x0' x1').trans ?_
      rw [ld_cols x6 1024 _ 0 x1' 0 ⟨512 * (2 : Fin 4).val + x1'.val, vcol_lt 2 x1'⟩ rfl rfl, ld_cols x3 1024 _ x0' x1' x0' ⟨512 * (2 : Fin 4).val + x1'.val, vcol_lt 2 x1'⟩ rfl rfl]
      exact gated_at S 2 T x0' x1' _ _
    · intro x
      dsimp only at x ⊢
      obtain ⟨x0', x1', rfl⟩ : ∃ a b, x = ix2 a b := ⟨_, _, eq_ix2 x⟩
      rw [whole4, whole5, emb_cols 512 inb_S256x2048_S256x512_0_512 x0' x1' 1 rfl]
      refine (headOut_apply (S.f 1) (S.g 1) (S.z 1) T ⟨1, by omega⟩ ⟨4 + 1, by omega⟩ 1#32 5#32 rfl rfl x4 x5 (hx.gate 1) (hx.forget 1) (fun _ => rfl) (S.q 1) (S.k 1) (S.v 1) _ (μ 1) ((ld_state s 1 _ 0 0 1 rfl).trans (hs 1))
          _ (fun r d => (congrArg (fun y : EReal => y * Ideal.ofBits .bf16 0x3D80#16) (ld_cols x0 256 _ r d r ⟨256 * 1 + d.val, qcol_lt 1 d⟩ rfl rfl)).trans (hx.query 1 r d))
          _ (fun r d => (ld_cols x1 256 _ r d r ⟨256 * 1 + d.val, qcol_lt 1 d⟩ rfl rfl).trans (hx.key 1 r d))
          _ (fun r e => (ld_cols x2 512 _ r e r ⟨512 * 1 + e.val, vcol_lt 1 e⟩ rfl rfl).trans (hx.value 1 r e)) _ _
          _ (fun d e => (ld_state C 1 _ d e 1 rfl).trans (hC 1 d e))
          _ (fun d => (ld_state n 1 _ 0 d 1 rfl).trans (hn 1 d)) x0' x1').trans ?_
      rw [ld_cols x6 512 _ 0 x1' 0 ⟨512 * (1 : Fin 4).val + x1'.val, vcol_lt 1 x1'⟩ rfl rfl, ld_cols x3 512 _ x0' x1' x0' ⟨512 * (1 : Fin 4).val + x1'.val, vcol_lt 1 x1'⟩ rfl rfl]
      exact gated_at S 1 T x0' x1' _ _
    · intro x
      dsimp only at x ⊢
      obtain ⟨x0', x1', rfl⟩ : ∃ a b, x = ix2 a b := ⟨_, _, eq_ix2 x⟩
      rw [whole4, whole5, emb_cols 0 inb_S256x2048_S256x512_0_0 x0' x1' 0 rfl]
      refine (headOut_apply (S.f 0) (S.g 0) (S.z 0) T ⟨0, by omega⟩ ⟨4 + 0, by omega⟩ 0#32 4#32 rfl rfl x4 x5 (hx.gate 0) (hx.forget 0) (fun _ => rfl) (S.q 0) (S.k 0) (S.v 0) _ (μ 0) ((ld_state s 0 _ 0 0 0 rfl).trans (hs 0))
          _ (fun r d => (congrArg (fun y : EReal => y * Ideal.ofBits .bf16 0x3D80#16) (ld_cols x0 0 _ r d r ⟨256 * 0 + d.val, qcol_lt 0 d⟩ rfl rfl)).trans (hx.query 0 r d))
          _ (fun r d => (ld_cols x1 0 _ r d r ⟨256 * 0 + d.val, qcol_lt 0 d⟩ rfl rfl).trans (hx.key 0 r d))
          _ (fun r e => (ld_cols x2 0 _ r e r ⟨512 * 0 + e.val, vcol_lt 0 e⟩ rfl rfl).trans (hx.value 0 r e)) _ _
          _ (fun d e => (ld_state C 0 _ d e 0 rfl).trans (hC 0 d e))
          _ (fun d => (ld_state n 0 _ 0 d 0 rfl).trans (hn 0 d)) x0' x1').trans ?_
      rw [ld_cols x6 0 _ 0 x1' 0 ⟨512 * (0 : Fin 4).val + x1'.val, vcol_lt 0 x1'⟩ rfl rfl, ld_cols x3 0 _ x0' x1' x0' ⟨512 * (0 : Fin 4).val + x1'.val, vcol_lt 0 x1'⟩ rfl rfl]
      exact gated_at S 0 T x0' x1' _ _
  have cov : ∃ p ∈ outPieces x0 x1 x2 x3 x4 x5 x6 C n s, (ix2 r ⟨512 * h.val + e.val, vcol_lt h e⟩ : S256x2048.Idx) ∈ p.1.set := by
    fin_cases h
    · exact ⟨_, .tail _ (.tail _ (.tail _ (.head _))), cover_cols 0 inb_S256x2048_S256x512_0_0 r e _ rfl⟩
    · exact ⟨_, .tail _ (.tail _ (.head _)), cover_cols 512 inb_S256x2048_S256x512_0_512 r e _ rfl⟩
    · exact ⟨_, .tail _ (.head _), cover_cols 1024 inb_S256x2048_S256x512_0_1024 r e _ rfl⟩
    · exact ⟨_, .head _, cover_cols 1536 inb_S256x2048_S256x512_0_1536 r e _ rfl⟩
  have q := View.canon_append_of_piecesOf _ [] _ P _ cov
  rw [List.append_nil] at q
  exact q.trans (gated_at S h T r e _ _).symm

end Cert.Cell
end
-- ==== Proof.Model.lean ====
module
public import proofs.«01_k».proof.Proof.Blocks
public import proofs.«01_k».proof.Proof.BlockReal

/-!
# The recurrence's sequences, read off the layer's arguments

From the projections and the gate biases: the gates, queries, keys and values of the four heads of one batch entry, as
real sequences over the positions; and that a grid point's windows hold its 256 positions of them.
-/

@[expose] public section
set_option maxRecDepth 16384
noncomputable section
namespace Cert.Cell
open Cert.KernelIdeal Cert.KernelIdeal.Gen Idealize.ShloMosaic Idealize.ShloMosaic.TcCoe Idealize.SL.Sem

/-- The projection of batch entry `b` at position `t` and column `j`, as a real. -/
def elt (P : FVec Ideal S2x8192x6152 .f32) (b : Fin 2) (t j : ℕ) : ℝ :=
  if h : t < 8192 ∧ j < 6152 then EReal.toReal (P (ix3 b ⟨t, h.1⟩ ⟨j, h.2⟩)) else 0

/-- A gate bias, as a real. -/
def belt (B : FVec Ideal S8 .f32) (j : ℕ) : ℝ := if h : j < 8 then EReal.toReal (B (ix1 ⟨j, h⟩)) else 0

/-- Every column of the projections but the output gates' holds reals. -/
def RealCols (P : FVec Ideal S2x8192x6152 .f32) : Prop :=
  ∀ (b : Fin 2) (t : Fin 8192) (j : Fin 6152), j.val < 4096 ∨ 6144 ≤ j.val → ∃ x : ℝ, P (ix3 b t j) = (x : EReal)

theorem elt_eq (P : FVec Ideal S2x8192x6152 .f32) (hP : RealCols P) (b : Fin 2) (t : Fin 8192) (j : Fin 6152)
    (hj : j.val < 4096 ∨ 6144 ≤ j.val) : P (ix3 b t j) = (elt P b t.val j.val : EReal) := by
  obtain ⟨x, hx⟩ := hP b t j hj
  rw [elt, dif_pos ⟨t.isLt, j.isLt⟩, hx, EReal.toReal_coe]

theorem belt_eq (B : FVec Ideal S8 .f32) (hB : ∀ i, ∃ x : ℝ, B i = (x : EReal)) (j : Fin 8) :
    B (ix1 j) = (belt B j.val : EReal) := by
  obtain ⟨x, hx⟩ := hB (ix1 j)
  rw [belt, dif_pos j.isLt, hx, EReal.toReal_coe]

/-- The sequences of the four heads of one batch entry. -/
def heads (P : FVec Ideal S2x8192x6152 .f32) (B : FVec Ideal S8 .f32) (b : Fin 2) : Heads where
  z h t := elt P b t (6148 + h.val) + belt B (4 + h.val)
  g h t := elt P b t (6144 + h.val) + belt B h.val
  q h t d := elt P b t (256 * h.val + d.val) * (1 / 16)
  k h t d := elt P b t (1024 + (256 * h.val + d.val))
  v h t e := elt P b t (2048 + (512 * h.val + e.val))

variable (m : (ℓ : Loc nD τ sig) → Buf (Elt Ideal) ℓ) (c : Dev nD)
variable (hP : RealCols (proj m c)) (hB : ∀ i, ∃ x : ℝ, bias m c i = (x : EReal))
include hP hB

/-- A grid point's windows hold the 256 positions it works on. -/
theorem holds_point (t : Fin cfg0.N) :
    Holds (heads (proj m c) (bias m c) (batchOf t)) (t.val % 32 * 256) (iblk m c 0 t) (iblk m c 1 t) (iblk m c 2 t) (iblk m c 4 t) (iblk m c 5 t) where
  gate h r := by
    have e1 := if_block m c t r ⟨h.val, by omega⟩ (show h.val < 8 by omega)
    have e2 := bias_block m c t ⟨h.val, by omega⟩ (show h.val < 8 by omega)
    rw [elt_eq _ hP _ _ _ (Or.inr (Nat.le_add_right 6144 _))] at e1
    rw [belt_eq _ hB] at e2
    rw [e1, e2, ← EReal.coe_add]
    rfl
  forget h r := by
    have e1 := if_block m c t r ⟨4 + h.val, by omega⟩ (show 4 + h.val < 8 by omega)
    have e2 := bias_block m c t ⟨4 + h.val, by omega⟩ (show 4 + h.val < 8 by omega)
    rw [elt_eq _ hP _ _ _ (Or.inr (Nat.le_add_right 6144 _))] at e1
    rw [belt_eq _ hB] at e2
    rw [e1, e2, ← EReal.coe_add]
    show ((elt _ _ _ (6144 + (4 + h.val)) + _ : ℝ) : EReal) = ((elt _ _ _ (6148 + h.val) + _ : ℝ) : EReal)
    rw [← add_assoc]
    rfl
  query h r d := by
    have e1 := query_block m c t r ⟨256 * h.val + d.val, by omega⟩
    rw [elt_eq _ hP _ _ _ (Or.inl (show 0 + (256 * h.val + d.val) < 4096 by omega))] at e1
    rw [e1, Ideal.ofBits_sixteenth_bf16, ← EReal.coe_mul]
    show ((elt _ _ _ (0 + (256 * h.val + d.val)) * _ : ℝ) : EReal) = ((elt _ _ _ (256 * h.val + d.val) * _ : ℝ) : EReal)
    rw [zero_add]
    rfl
  key h r d := by
    have e1 := key_block m c t r ⟨256 * h.val + d.val, by omega⟩
    rw [elt_eq _ hP _ _ _ (Or.inl (show 1024 + (256 * h.val + d.val) < 4096 by omega))] at e1
    exact e1
  value h r e := by
    have e1 := value_block m c t r ⟨512 * h.val + e.val, by omega⟩
    rw [elt_eq _ hP _ _ _ (Or.inl (show 2048 + (512 * h.val + e.val) < 4096 by omega))] at e1
    exact e1

end Cert.Cell
end
-- ==== Proof.Finite.lean ====
module
public import proofs.«01_k».proof.Defs
public import proofs.«01_k».proof.Proof.Model

/-!
# The precondition over the reals

Where the precondition holds, the queries, keys, values and gates and the gate biases are real numbers.
-/

@[expose] public section
set_option maxRecDepth 16384
noncomputable section
namespace Cert.Cell
open Cert.Pre_finite Idealize.ShloMosaic

theorem preFacts : Cert.Pre_finite.Facts where
  slices_S2x8192x6152_S2x8192x4096_0_0_0 := by decide
  bcast_S_S2x8192x4096 := by decide
  slices_S2x8192x6152_S2x8192x8_0_0_6144 := by decide
  bcast_S_S2x8192x8 := by decide
  bcast_S_S8 := by decide

/-- The word of `+∞`. -/
theorem ofBits_top : Ideal.ofBits .f32 0x7F800000#32 = ⊤ := by
  simp [Ideal.ofBits, Ideal.ieee]

/-- An extended real whose absolute value is below `+∞` is a real. -/
theorem real_of_lt (x : EReal)
    (h : BitVec.ofBool (decide (FloatOps.absf (F := Ideal) (φ := .f32) x < Ideal.ofBits .f32 0x7F800000#32)) = 1#1) :
    ∃ y : ℝ, x = (y : EReal) := by
  have h' : max x (-x) < (⊤ : EReal) := by
    by_contra hn
    rw [ofBits_top, Ideal.absf_def, decide_eq_false hn] at h
    exact absurd h (by decide)
  induction x with
  | bot => simp at h'
  | top => simp at h'
  | coe y => exact ⟨y, rfl⟩

variable [Cert.Pre_finite.Facts] (P : FVec Ideal S2x8192x6152 .f32) (B : FVec Ideal S8 .f32) (G : FVec Ideal S2048 .f32)

theorem realCols_of (h1 : (Cert.Pre_finite.fn P B G).1 = fun _ => 1#1) (h2 : (Cert.Pre_finite.fn P B G).2.1 = fun _ => 1#1) :
    RealCols P := by
  intro b t j hj
  rcases hj with hj | hj
  · have h := congrFun h1 (ix3 b t (⟨j.val, hj⟩ : Fin 4096))
    unfold Cert.Pre_finite.fn at h
    pointwise at h
    exact real_of_lt _ h
  · have h := congrFun h2 (ix3 b t (⟨j.val - 6144, by omega⟩ : Fin 8))
    unfold Cert.Pre_finite.fn at h
    pointwise at h
    have e : (⟨6144 + (j.val - 6144), by omega⟩ : Fin 6152) = j := Fin.ext (by show 6144 + (j.val - 6144) = j.val; omega)
    rw [e] at h
    exact real_of_lt _ h

theorem realBias_of (h3 : (Cert.Pre_finite.fn P B G).2.2 = fun _ => 1#1) : ∀ i, ∃ x : ℝ, B i = (x : EReal) := by
  intro i
  have h := congrFun h3 i
  unfold Cert.Pre_finite.fn at h
  pointwise at h
  exact real_of_lt _ h

end Cert.Cell
end
-- ==== Proof.PleStores.lean ====
/-
  What a run of the per-layer embedding's body leaves in the buffers it stores into, as explicit lists of stores:
  the two groups of 256 normalised rows in the scratch, and the four groups of 512 columns of the output block.
-/
module

public import proofs.«01_k».proof.Proof.Gen.Kernel3Ideal.Value
public import Idealize.ShloMosaic.Lib.Pipeline.ReadBack

@[expose] public section

set_option maxRecDepth 16384

noncomputable section

namespace Cert.Ple

open Cert.Kernel3Ideal Cert.Kernel3Ideal.Gen
open Idealize.ShloMosaic Idealize.ShloMosaic.TcCoe Idealize.ShloMosaic.Tactic
open Idealize.SL Idealize.SL.Sem

variable {F : FTy → Type} [FloatOps F]

/-- A group of 256 rows lies inside the block. -/
theorem rows_inb (n : ℕ) (h : n < 2) : ∀ a, (![256 * n, 0] : Fin 2 → ℕ) a + S256x2048.size a ≤ S512x2048.size a := by
  intro a; fin_cases a
  · show 256 * n + 256 ≤ 512; omega
  · show 0 + 2048 ≤ 2048; omega

/-- The rows of group `n`, normalised. -/
def rowPiece (x0 : Vec F S512x2048 .f32) (x1 : Vec F S1x2048 .f32) (n : ℕ) (h : n < 2) : View.Piece (Elt F) S512x2048 .bf16 :=
  ⟨Rect.unit (s := S512x2048) ![256 * n, 0] S256x2048.size (rows_inb n h),
    k0_pay2 (View.ld x0 (Rect.unit (s := S512x2048) ![256 * n, 0] S256x2048.size (rows_inb n h))) (View.ld x1 (Rect.unit (s := S1x2048) ![0, 0] S1x2048.size inb_S1x2048_S1x2048_0_0))⟩

/-- The stores of the normalisation, last first. -/
def rowPieces (x0 : Vec F S512x2048 .f32) (x1 : Vec F S1x2048 .f32) : List (View.Piece (Elt F) S512x2048 .bf16) :=
  [rowPiece x0 x1 1 (by decide), rowPiece x0 x1 0 (by decide)]

/-- The normalised block. -/
def normed (x0 : Vec F S512x2048 .f32) (x1 : Vec F S1x2048 .f32) : Vec F S512x2048 .bf16 := View.canon (rowPieces x0 x1)

/-- The output block's stores, last first. -/
def outPieces (x0 : Vec F S512x2048 .f32) (xn : Vec F S512x2048 .bf16) (x2 : Vec F S1x2048x2048 .bf16) (x3 : Vec F S1x512x256 .f32) (x4 : Vec F S1x256x2048 .bf16) :
    List (View.Piece (Elt F) S512x2048 .f32) :=
  [⟨(Rect.unit (s := S512x2048) ![0, 1536] S512x512.size inb_S512x2048_S512x512_0_1536), k0_pay1 (View.ld xn (Rect.unit (s := S512x2048) ![0, 0] S512x2048.size inb_S512x2048_S512x2048_0_0)) (k0_pay3 (View.ld x3 (Rect.unit (s := S1x512x256) ![0, 0, 0] S1x512x256.size inb_S1x512x256_S1x512x256_0_0_0))) (k0_pay8 (View.ld x2 (Rect.unit (s := S1x2048x2048) ![0, 0, 1536] S1x2048x512.size inb_S1x2048x2048_S1x2048x512_0_0_1536))) (View.ld x4 (Rect.unit (s := S1x256x2048) ![0, 0, 1536] S1x256x512.size inb_S1x256x2048_S1x256x512_0_0_1536)) (View.ld x0 (Rect.unit (s := S512x2048) ![0, 1536] S512x512.size inb_S512x2048_S512x512_0_1536))⟩,
   ⟨(Rect.unit (s := S512x2048) ![0, 1024] S512x512.size inb_S512x2048_S512x512_0_1024), k0_pay7 (View.ld xn (Rect.unit (s := S512x2048) ![0, 0] S512x2048.size inb_S512x2048_S512x2048_0_0)) (k0_pay3 (View.ld x3 (Rect.unit (s := S1x512x256) ![0, 0, 0] S1x512x256.size inb_S1x512x256_S1x512x256_0_0_0))) (View.ld x2 (Rect.unit (s := S1x2048x2048) ![0, 0, 1024] S1x2048x512.size inb_S1x2048x2048_S1x2048x512_0_0_1024)) (View.ld x4 (Rect.unit (s := S1x256x2048) ![0, 0, 1024] S1x256x512.size inb_S1x256x2048_S1x256x512_0_0_1024)) (View.ld x0 (Rect.unit (s := S512x2048) ![0, 1024] S512x512.size inb_S512x2048_S512x512_0_1024))⟩,
   ⟨(Rect.unit (s := S512x2048) ![0, 512] S512x512.size inb_S512x2048_S512x512_0_512), k0_pay6 (k0_pay3 (View.ld x3 (Rect.unit (s := S1x512x256) ![0, 0, 0] S1x512x256.size inb_S1x512x256_S1x512x256_0_0_0))) (k0_pay5 (View.ld xn (Rect.unit (s := S512x2048) ![0, 0] S512x2048.size inb_S512x2048_S512x2048_0_0)) (View.ld x2 (Rect.unit (s := S1x2048x2048) ![0, 0, 512] S1x2048x512.size inb_S1x2048x2048_S1x2048x512_0_0_512))) (View.ld x4 (Rect.unit (s := S1x256x2048) ![0, 0, 512] S1x256x512.size inb_S1x256x2048_S1x256x512_0_0_512)) (View.ld x0 (Rect.unit (s := S512x2048) ![0, 512] S512x512.size inb_S512x2048_S512x512_0_512))⟩,
   ⟨(Rect.unit (s := S512x2048) ![0, 0] S512x512.size inb_S512x2048_S512x512_0_0), k0_pay4 (View.ld xn (Rect.unit (s := S512x2048) ![0, 0] S512x2048.size inb_S512x2048_S512x2048_0_0)) (View.ld x3 (Rect.unit (s := S1x512x256) ![0, 0, 0] S1x512x256.size inb_S1x512x256_S1x512x256_0_0_0)) (View.ld x2 (Rect.unit (s := S1x2048x2048) ![0, 0, 0] S1x2048x512.size inb_S1x2048x2048_S1x2048x512_0_0_0)) (View.ld x4 (Rect.unit (s := S1x256x2048) ![0, 0, 0] S1x256x512.size inb_S1x256x2048_S1x256x512_0_0_0)) (View.ld x0 (Rect.unit (s := S512x2048) ![0, 0] S512x512.size inb_S512x2048_S512x512_0_0))⟩]

set_option maxHeartbeats 2000000 in
/-- The stores of the output cover the block. -/
theorem outPieces_cover (x0 : Vec F S512x2048 .f32) (xn : Vec F S512x2048 .bf16) (x2 : Vec F S1x2048x2048 .bf16) (x3 : Vec F S1x512x256 .f32) (x4 : Vec F S1x256x2048 .bf16) (y : S512x2048.Idx) :
    ∃ pc ∈ outPieces x0 xn x2 x3 x4, y ∈ pc.1.set :=
  View.cover_of_tiledL (outPieces x0 xn x2 x3 x4) S512x512.size (by sl_kernel_rfl) y

set_option maxHeartbeats 2000000 in
/-- The stores of the normalisation cover the block. -/
theorem rowPieces_cover (x0 : Vec F S512x2048 .f32) (x1 : Vec F S1x2048 .f32) (y : S512x2048.Idx) :
    ∃ pc ∈ rowPieces x0 x1, y ∈ pc.1.set :=
  View.cover_of_tiledL (rowPieces x0 x1) S256x2048.size (by sl_kernel_rfl) y

/-- The pieces one trip of the normalisation finds: its group's rows. -/
theorem trip_pieces (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x2048 .bf16) (harg3 : arg3.IsWhole) (arg4 : Memref sig .tc .vmem S1x512x256 .f32) (harg4 : arg4.IsWhole) (arg5 : Memref sig .tc .vmem S1x256x2048 .bf16) (harg5 : arg5.IsWhole) (arg6 : Memref sig .tc .vmem S512x2048 .f32) (harg6 : arg6.IsWhole) (arg7 : Memref sig .tc .vmem S512x2048 .bf16) (harg7 : arg7.IsWhole)
    (x0 : Vec F S512x2048 .f32) (x1 : Vec F S1x2048 .f32) (k : Fin k0_t1_loop.trips) (hk : k.val < 2) :
    tripL_k0_t1 (F := F) Variants.none c none i arg1 harg1 arg2 harg2 arg3 harg3 arg4 harg4 arg5 harg5 arg6 harg6 arg7 harg7 (harg1.unread x0) (harg2.unread x1) k = [rowPiece x0 x1 k.val hk] := by
  unfold tripL_k0_t1 trip_k0_t1
  dsimp only
  sl_unfold_words
  simp only [View.readAt_eq_ld, harg1.read_unread, harg2.read_unread]
  have key : ∀ (o : Fin 2 → ℕ) (ho : ∀ a, o a + S256x2048.size a ≤ S512x2048.size a), o = ![256 * k.val, 0] →
      ([⟨Rect.unit (s := S512x2048) o S256x2048.size ho,
        k0_pay2 (View.ld x0 (Rect.unit (s := S512x2048) o S256x2048.size ho)) (View.ld x1 (Rect.unit (s := S1x2048) ![0, 0] S1x2048.size inb_S1x2048_S1x2048_0_0))⟩] : List (View.Piece (Elt F) S512x2048 .bf16)) = [rowPiece x0 x1 k.val hk] := by
    rintro _ _ rfl
    rfl
  exact key _ _ (k0_off1_eq k)

/-- The pieces of the whole normalisation. -/
theorem loop_pieces (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x2048 .bf16) (harg3 : arg3.IsWhole) (arg4 : Memref sig .tc .vmem S1x512x256 .f32) (harg4 : arg4.IsWhole) (arg5 : Memref sig .tc .vmem S1x256x2048 .bf16) (harg5 : arg5.IsWhole) (arg6 : Memref sig .tc .vmem S512x2048 .f32) (harg6 : arg6.IsWhole) (arg7 : Memref sig .tc .vmem S512x2048 .bf16) (harg7 : arg7.IsWhole)
    (x0 : Vec F S512x2048 .f32) (x1 : Vec F S1x2048 .f32) :
    pb_k0_t1 (F := F) Variants.none c none i arg1 harg1 arg2 harg2 arg3 harg3 arg4 harg4 arg5 harg5 arg6 harg6 arg7 harg7 (harg1.unread x0) (harg2.unread x1) k0_t1_loop.trips = rowPieces x0 x1 := by
  have ht : k0_t1_loop.trips = 2 := by decide
  have step := fun (k : Fin k0_t1_loop.trips) => pb_k0_t1_succ (F := F) Variants.none c none i arg1 harg1 arg2 harg2 arg3 harg3 arg4 harg4 arg5 harg5 arg6 harg6 arg7 harg7 (harg1.unread x0) (harg2.unread x1) k
  have piece := fun (k : Fin k0_t1_loop.trips) => trip_pieces c i arg1 harg1 arg2 harg2 arg3 harg3 arg4 harg4 arg5 harg5 arg6 harg6 arg7 harg7 x0 x1 k (ht ▸ k.isLt)
  have s0 := step ⟨0, by rw [ht]; decide⟩
  have s1 := step ⟨1, by rw [ht]; decide⟩
  rw [piece] at s0 s1
  rw [ht]
  refine s1.trans ?_
  rw [s0]
  rfl

set_option maxHeartbeats 4000000 in
/-- The output's pieces a run finds. -/
theorem run_pieces (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x2048 .bf16) (harg3 : arg3.IsWhole) (arg4 : Memref sig .tc .vmem S1x512x256 .f32) (harg4 : arg4.IsWhole) (arg5 : Memref sig .tc .vmem S1x256x2048 .bf16) (harg5 : arg5.IsWhole) (arg6 : Memref sig .tc .vmem S512x2048 .f32) (harg6 : arg6.IsWhole) (arg7 : Memref sig .tc .vmem S512x2048 .bf16) (harg7 : arg7.IsWhole)
    (x0 : Vec F S512x2048 .f32) (x1 : Vec F S1x2048 .f32) (x2 : Vec F S1x2048x2048 .bf16) (x3 : Vec F S1x512x256 .f32) (x4 : Vec F S1x256x2048 .bf16) :
    (kernelRun0_A c i arg1 harg1 arg2 harg2 arg3 harg3 arg4 harg4 arg5 harg5 arg6 harg6 arg7 harg7 x0 x1 x2 x3 x4).1 = outPieces x0 (normed x0 x1) x2 x3 x4 := by
  unfold kernelRun0_A
  dsimp only
  sl_unfold_words
  unfold View.readCov
  simp only [View.readAt_eq_ld, harg1.read_unread, harg2.read_unread, harg3.read_unread, harg4.read_unread, harg5.read_unread]
  have hs : arg7.view.read (Elt F) (arg7.view.writes (Elt F) arg7.view.junk (pb_k0_t1 Variants.none c none i arg1 harg1 arg2 harg2 arg3 harg3 arg4 harg4 arg5 harg5 arg6 harg6 arg7 harg7 (harg1.unread x0) (harg2.unread x1) (Scf.trips (0#32) (Scalar.addi 0#32 2#32) 1#32))) = normed x0 x1 := by
    refine Eq.trans ?_ (View.read_writes_eq_canon arg7.view arg7.view.junk (rowPieces x0 x1) (rowPieces_cover x0 x1))
    exact congrArg (fun L => arg7.view.read (Elt F) (arg7.view.writes (Elt F) arg7.view.junk L)) (loop_pieces c i arg1 harg1 arg2 harg2 arg3 harg3 arg4 harg4 arg5 harg5 arg6 harg6 arg7 harg7 x0 x1)
  rw [hs]
  rfl

/-- The output block a run leaves. -/
theorem out_eq (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x2048 .bf16) (harg3 : arg3.IsWhole) (arg4 : Memref sig .tc .vmem S1x512x256 .f32) (harg4 : arg4.IsWhole) (arg5 : Memref sig .tc .vmem S1x256x2048 .bf16) (harg5 : arg5.IsWhole) (arg6 : Memref sig .tc .vmem S512x2048 .f32) (harg6 : arg6.IsWhole) (arg7 : Memref sig .tc .vmem S512x2048 .bf16) (harg7 : arg7.IsWhole)
    (x0 : Vec F S512x2048 .f32) (x1 : Vec F S1x2048 .f32) (x2 : Vec F S1x2048x2048 .bf16) (x3 : Vec F S1x512x256 .f32) (x4 : Vec F S1x256x2048 .bf16) :
    out0_A_5 c i arg1 harg1 arg2 harg2 arg3 harg3 arg4 harg4 arg5 harg5 arg6 harg6 arg7 harg7 x0 x1 x2 x3 x4 = View.canon (outPieces x0 (normed x0 x1) x2 x3 x4) := by
  unfold out0_A_5
  rw [run_pieces]
  exact View.read_writes_eq_canon _ _ _ (outPieces_cover x0 (normed x0 x1) x2 x3 x4)

end Cert.Ple

end
-- ==== Proof.PleReal.lean ====
module
public import proofs.«01_k».proof.Proof.FfnReal
public import proofs.«01_k».proof.Proof.PleStores
public import Idealize.ShloMosaic.Lib.Pointwise
public import Idealize.ShloMosaic.Lib.Pipeline.ValueKit.Tiles

/-!
# What the stores of the per-layer embedding's kernel hold, entry by entry

Over the extended reals an output entry is the input's entry plus the embedding's projection times the sigmoid of the gate.
-/

@[expose] public section
set_option maxRecDepth 16384
noncomputable section
namespace Cert.Ple
open Cert.Kernel3Ideal Cert.Kernel3Ideal.Gen Idealize.ShloMosaic
open Cert.Ffn (normRow normRow_congr)

/-- An output entry: the input's, plus the embedding `p` projected by `w`, times the sigmoid of the row `x` against the gate `g`. -/
def gated (h : EReal) (p w : Fin 256 → EReal) (x g : Fin 2048 → EReal) : EReal :=
  h + (∑ k, p k * w k) * Ideal.div 1 (1 + Ideal.exp (0 - ∑ i, x i * g i))

theorem gated_congr {h h' : EReal} {p p' w w' : Fin 256 → EReal} {x x' g g' : Fin 2048 → EReal} (hh : h = h') (hp : ∀ k, p k = p' k)
    (hw : ∀ k, w k = w' k) (hx : ∀ i, x i = x' i) (hg : ∀ i, g i = g' i) : gated h p w x g = gated h' p' w' x' g' := by
  obtain rfl : p = p' := funext hp
  obtain rfl : w = w' := funext hw
  obtain rfl : x = x' := funext hx
  obtain rfl : g = g' := funext hg
  rw [hh]

theorem norm_at (x : Vec Ideal S256x2048 .f32) (g : Vec Ideal S1x2048 .f32) (p : Fin 256) (i : Fin 2048) :
    (k0_pay2 (F := Ideal) x g (ix2 p i) : EReal) = normRow (fun j => x (ix2 p j)) (fun j => g (ix2 0 j)) i := by
  unfold k0_pay2 normRow
  pointwise

theorem chunk_0 (xn : Vec Ideal S512x2048 .bf16) (p : Vec Ideal S1x512x256 .f32) (g : Vec Ideal S1x2048x512 .bf16) (w : Vec Ideal S1x256x512 .bf16) (x : Vec Ideal S512x512 .f32) (a b : Fin 512) :
    (k0_pay4 (F := Ideal) xn p g w x (ix2 a b) : EReal)
      = gated (x (ix2 a b)) (fun k => p (ix3 0 a k)) (fun k => w (ix3 0 k b)) (fun i => xn (ix2 a i)) (fun i => g (ix3 0 i b)) := by
  unfold k0_pay4 k0_pay3 gated
  pointwise
theorem chunk_1 (xn : Vec Ideal S512x2048 .bf16) (p : Vec Ideal S1x512x256 .f32) (g : Vec Ideal S1x2048x512 .bf16) (w : Vec Ideal S1x256x512 .bf16) (x : Vec Ideal S512x512 .f32) (a b : Fin 512) :
    (k0_pay6 (F := Ideal) (k0_pay3 p) (k0_pay5 xn g) w x (ix2 a b) : EReal)
      = gated (x (ix2 a b)) (fun k => p (ix3 0 a k)) (fun k => w (ix3 0 k b)) (fun i => xn (ix2 a i)) (fun i => g (ix3 0 i b)) := by
  unfold k0_pay6 k0_pay5 k0_pay3 gated
  pointwise
theorem chunk_2 (xn : Vec Ideal S512x2048 .bf16) (p : Vec Ideal S1x512x256 .f32) (g : Vec Ideal S1x2048x512 .bf16) (w : Vec Ideal S1x256x512 .bf16) (x : Vec Ideal S512x512 .f32) (a b : Fin 512) :
    (k0_pay7 (F := Ideal) xn (k0_pay3 p) g w x (ix2 a b) : EReal)
      = gated (x (ix2 a b)) (fun k => p (ix3 0 a k)) (fun k => w (ix3 0 k b)) (fun i => xn (ix2 a i)) (fun i => g (ix3 0 i b)) := by
  unfold k0_pay7 k0_pay3 gated
  pointwise
theorem chunk_3 (xn : Vec Ideal S512x2048 .bf16) (p : Vec Ideal S1x512x256 .f32) (g : Vec Ideal S1x2048x512 .bf16) (w : Vec Ideal S1x256x512 .bf16) (x : Vec Ideal S512x512 .f32) (a b : Fin 512) :
    (k0_pay1 (F := Ideal) xn (k0_pay3 p) (k0_pay8 g) w x (ix2 a b) : EReal)
      = gated (x (ix2 a b)) (fun k => p (ix3 0 a k)) (fun k => w (ix3 0 k b)) (fun i => xn (ix2 a i)) (fun i => g (ix3 0 i b)) := by
  unfold k0_pay1 k0_pay8 k0_pay3 gated
  pointwise

/-! ## Loads and stores of part of a block -/

theorem whole_rows (x : Vec Ideal S512x2048 .bf16) (inb) : View.ld x (Rect.unit (s := S512x2048) ![0, 0] S512x2048.size inb) = x :=
  View.ld_unit_zero (by funext a; fin_cases a <;> rfl) _ _
theorem whole_gain (x : Vec Ideal S1x2048 .f32) (inb) : View.ld x (Rect.unit (s := S1x2048) ![0, 0] S1x2048.size inb) = x :=
  View.ld_unit_zero (by funext a; fin_cases a <;> rfl) _ _
theorem whole_p (x : Vec Ideal S1x512x256 .f32) (inb) : View.ld x (Rect.unit (s := S1x512x256) ![0, 0, 0] S1x512x256.size inb) = x :=
  View.ld_unit_zero (by funext a; fin_cases a <;> rfl) _ _

/-- 512 columns of a block. -/
theorem ld_cols (x : Vec Ideal S512x2048 .f32) (o : ℕ) (ho : o + 512 ≤ 2048) (inb) (p n : Fin 512) :
    View.ld x (Rect.unit (s := S512x2048) ![0, o] S512x512.size inb) (ix2 p n) = x (ix2 p ⟨o + n.val, by omega⟩) :=
  View.ld_unit_apply_of _ _ _ _ _ _ (fun a => by
    match a with
    | ⟨0, _⟩ => show p.val = 0 + p.val; omega
    | ⟨1, _⟩ => rfl)
theorem ld_gate (x : Vec Ideal S1x2048x2048 .bf16) (o : ℕ) (ho : o + 512 ≤ 2048) (inb) (i : Fin 2048) (n : Fin 512) :
    View.ld x (Rect.unit (s := S1x2048x2048) ![0, 0, o] S1x2048x512.size inb) (ix3 0 i n) = x (ix3 0 i ⟨o + n.val, by omega⟩) :=
  View.ld_unit_apply_of _ _ _ _ _ _ (fun a => by
    match a with
    | ⟨0, _⟩ => rfl
    | ⟨1, _⟩ => show i.val = 0 + i.val; omega
    | ⟨2, _⟩ => rfl)
theorem ld_proj (x : Vec Ideal S1x256x2048 .bf16) (o : ℕ) (ho : o + 512 ≤ 2048) (inb) (k : Fin 256) (n : Fin 512) :
    View.ld x (Rect.unit (s := S1x256x2048) ![0, 0, o] S1x256x512.size inb) (ix3 0 k n) = x (ix3 0 k ⟨o + n.val, by omega⟩) :=
  View.ld_unit_apply_of _ _ _ _ _ _ (fun a => by
    match a with
    | ⟨0, _⟩ => rfl
    | ⟨1, _⟩ => show k.val = 0 + k.val; omega
    | ⟨2, _⟩ => rfl)
/-- Where a store of 512 columns puts its entries. -/
theorem emb_cols (o : ℕ) (ho : o + 512 ≤ 2048) (inb) (p n : Fin 512) :
    (Rect.unit (s := S512x2048) ![0, o] S512x512.size inb).emb (ix2 p n : Shape.Idx ⟨2, ![512, 512]⟩) = (ix2 p ⟨o + n.val, by omega⟩ : S512x2048.Idx) :=
  funext fun x => Fin.ext ((Rect.idx_unit_val _ _ _ _ x).trans (by
    match x with
    | ⟨0, _⟩ => show 0 + p.val = p.val; omega
    | ⟨1, _⟩ => rfl))
/-- Where a store of 256 rows puts its entries. -/
theorem emb_rows (o : ℕ) (ho : o + 256 ≤ 512) (inb) (p : Fin 256) (i : Fin 2048) :
    (Rect.unit (s := S512x2048) ![o, 0] S256x2048.size inb).emb (ix2 p i : Shape.Idx ⟨2, ![256, 2048]⟩) = (ix2 ⟨o + p.val, by omega⟩ i : S512x2048.Idx) :=
  funext fun x => Fin.ext ((Rect.idx_unit_val _ _ _ _ x).trans (by
    match x with
    | ⟨0, _⟩ => rfl
    | ⟨1, _⟩ => show 0 + i.val = i.val; omega))
theorem ld_rows (x : Vec Ideal S512x2048 .f32) (o : ℕ) (ho : o + 256 ≤ 512) (inb) (p : Fin 256) (i : Fin 2048) :
    View.ld x (Rect.unit (s := S512x2048) ![o, 0] S256x2048.size inb) (ix2 p i) = x (ix2 ⟨o + p.val, by omega⟩ i) :=
  View.ld_unit_apply_of _ _ _ _ _ _ (fun a => by
    match a with
    | ⟨0, _⟩ => rfl
    | ⟨1, _⟩ => show i.val = 0 + i.val; omega)

/-! ## The blocks the stores leave -/

theorem rowPiece_at (x0 : Vec Ideal S512x2048 .f32) (x1 : Vec Ideal S1x2048 .f32) (n : ℕ) (h : n < 2) (x : (rowPiece x0 x1 n h).1.shape.Idx) :
    ((rowPiece x0 x1 n h).2 x : EReal) = (fun y : S512x2048.Idx => normRow (fun j => x0 (ix2 (y 0) j)) (fun j => x1 (ix2 0 j)) (y 1)) ((rowPiece x0 x1 n h).1.emb x) := by
  unfold rowPiece at x ⊢
  dsimp only at x ⊢
  obtain ⟨p, i, rfl⟩ : ∃ a b, x = ix2 a b := ⟨_, _, eq_ix2 x⟩
  rw [emb_rows (256 * n) (by omega) _ p i]
  exact (norm_at _ _ p i).trans (normRow_congr (fun j => ld_rows x0 (256 * n) (by omega) _ p j) (fun j => congrFun (whole_gain x1 _) (ix2 0 j)) i)

/-- The scratch: the normalised rows. -/
theorem normed_at (x0 : Vec Ideal S512x2048 .f32) (x1 : Vec Ideal S1x2048 .f32) (p : Fin 512) (i : Fin 2048) :
    (normed x0 x1 (ix2 p i) : EReal) = normRow (fun j => x0 (ix2 p j)) (fun j => x1 (ix2 0 j)) i := by
  unfold normed
  have P : View.PiecesOf (Val := Elt Ideal) (fun y : S512x2048.Idx => (normRow (fun j => x0 (ix2 (y 0) j)) (fun j => x1 (ix2 0 j)) (y 1) : EReal)) (rowPieces x0 x1) :=
    ⟨rowPiece_at x0 x1 1 (by decide), rowPiece_at x0 x1 0 (by decide), trivial⟩
  exact View.canon_apply_of_pieces (Val := Elt Ideal) (fun y : S512x2048.Idx => (normRow (fun j => x0 (ix2 (y 0) j)) (fun j => x1 (ix2 0 j)) (y 1) : EReal)) _ P.mem (ix2 p i) (rowPieces_cover x0 x1 _)

/-- The output block. -/
theorem out_at (x0 : Vec Ideal S512x2048 .f32) (xn : Vec Ideal S512x2048 .bf16) (x2 : Vec Ideal S1x2048x2048 .bf16) (x3 : Vec Ideal S1x512x256 .f32) (x4 : Vec Ideal S1x256x2048 .bf16) (p : Fin 512) (n : Fin 2048) :
    (View.canon (outPieces x0 xn x2 x3 x4) (ix2 p n) : EReal)
      = gated (x0 (ix2 p n)) (fun k => x3 (ix3 0 p k)) (fun k => x4 (ix3 0 k n)) (fun i => xn (ix2 p i)) (fun i => x2 (ix3 0 i n)) := by
  have P : View.PiecesOf (Val := Elt Ideal) (fun y : S512x2048.Idx => (gated (x0 (ix2 (y 0) (y 1))) (fun k => x3 (ix3 0 (y 0) k)) (fun k => x4 (ix3 0 k (y 1))) (fun i => xn (ix2 (y 0) i)) (fun i => x2 (ix3 0 i (y 1))) : EReal)) (outPieces x0 xn x2 x3 x4) := by
    refine ⟨?_, ?_, ?_, ?_, trivial⟩
    · intro x
      dsimp only at x ⊢
      obtain ⟨a, b, rfl⟩ : ∃ a b, x = ix2 a b := ⟨_, _, eq_ix2 x⟩
      rw [emb_cols 1536 (by decide) _ a b]
      exact (chunk_3 _ _ _ _ _ a b).trans (gated_congr (ld_cols x0 1536 (by decide) _ a b)
        (fun k => congrFun (whole_p x3 _) (ix3 0 a k)) (fun k => ld_proj x4 1536 (by decide) _ k b)
        (fun i => congrFun (whole_rows xn _) (ix2 a i)) (fun i => ld_gate x2 1536 (by decide) _ i b))
    · intro x
      dsimp only at x ⊢
      obtain ⟨a, b, rfl⟩ : ∃ a b, x = ix2 a b := ⟨_, _, eq_ix2 x⟩
      rw [emb_cols 1024 (by decide) _ a b]
      exact (chunk_2 _ _ _ _ _ a b).trans (gated_congr (ld_cols x0 1024 (by decide) _ a b)
        (fun k => congrFun (whole_p x3 _) (ix3 0 a k)) (fun k => ld_proj x4 1024 (by decide) _ k b)
        (fun i => congrFun (whole_rows xn _) (ix2 a i)) (fun i => ld_gate x2 1024 (by decide) _ i b))
    · intro x
      dsimp only at x ⊢
      obtain ⟨a, b, rfl⟩ : ∃ a b, x = ix2 a b := ⟨_, _, eq_ix2 x⟩
      rw [emb_cols 512 (by decide) _ a b]
      exact (chunk_1 _ _ _ _ _ a b).trans (gated_congr (ld_cols x0 512 (by decide) _ a b)
        (fun k => congrFun (whole_p x3 _) (ix3 0 a k)) (fun k => ld_proj x4 512 (by decide) _ k b)
        (fun i => congrFun (whole_rows xn _) (ix2 a i)) (fun i => ld_gate x2 512 (by decide) _ i b))
    · intro x
      dsimp only at x ⊢
      obtain ⟨a, b, rfl⟩ : ∃ a b, x = ix2 a b := ⟨_, _, eq_ix2 x⟩
      rw [emb_cols 0 (by decide) _ a b]
      exact (chunk_0 _ _ _ _ _ a b).trans (gated_congr (ld_cols x0 0 (by decide) _ a b)
        (fun k => congrFun (whole_p x3 _) (ix3 0 a k)) (fun k => ld_proj x4 0 (by decide) _ k b)
        (fun i => congrFun (whole_rows xn _) (ix2 a i)) (fun i => ld_gate x2 0 (by decide) _ i b))
  exact View.canon_apply_of_pieces (Val := Elt Ideal) (fun y : S512x2048.Idx => (gated (x0 (ix2 (y 0) (y 1))) (fun k => x3 (ix3 0 (y 0) k)) (fun k => x4 (ix3 0 k (y 1))) (fun i => xn (ix2 (y 0) i)) (fun i => x2 (ix3 0 i (y 1))) : EReal)) _ P.mem (ix2 p n) (outPieces_cover x0 xn x2 x3 x4 _)

end Cert.Ple
end
-- ==== Proof.PleReference.lean ====
module
public import proofs.«01_k».proof.Proof.PleReal
public import proofs.«01_k».proof.Proof.Gen.Reference3Ideal.Run

/-!
# The reference's per-layer embedding, entry by entry
-/

@[expose] public section
set_option maxRecDepth 16384
noncomputable section
namespace Cert.Ple
open Idealize.ShloMosaic
open Cert.Reference3Ideal Cert.Reference3Ideal.Gen Cert.Reference3Ideal.Value
open Cert.Ffn (normRow)

/-- The reference's result, as the operations compose it. -/
def refTerm (x : FVec Ideal S16384x2048 .f32) (p : FVec Ideal S2x8192x256 .f32) (g : FVec Ideal S2048 .f32) (w : FVec Ideal S256x2048 .f32) (a : FVec Ideal S2048x2048 .f32) :
    FVec Ideal S16384x2048 .f32 :=
  addf x (mulf (Host.dotGeneral dot_S16384x256_S256x2048_S16384x2048_1_0_0_1_n_n none (shapeCast S16384x256 p shapeCasts_S2x8192x256_S16384x256) w) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) a))))))

/-- Token `r`'s row of the embeddings. -/
def tokenAt (r : Fin 16384) (k : Fin 256) : S2x8192x256.Idx := ix3 ⟨r.val / 8192, by omega⟩ ⟨r.val % 8192, by omega⟩ k

/-- The embeddings with the two leading axes merged. -/
theorem merged_at (p : FVec Ideal S2x8192x256 .f32) (r : Fin 16384) (k : Fin 256) :
    shapeCast S16384x256 p shapeCasts_S2x8192x256_S16384x256 (ix2 r k) = p (tokenAt r k) := by
  unfold tokenAt
  pointwise

/-- The reference's result at an index. -/
theorem ref_at (x : FVec Ideal S16384x2048 .f32) (p : FVec Ideal S2x8192x256 .f32) (g : FVec Ideal S2048 .f32) (w : FVec Ideal S256x2048 .f32) (a : FVec Ideal S2048x2048 .f32)
    (r : Fin 16384) (n : Fin 2048) :
    (refTerm x p g w a (ix2 r n) : EReal) = gated (x (ix2 r n)) (fun k => p (tokenAt r k)) (fun k => w (ix2 k n))
      (normRow (fun j => x (ix2 r j)) (fun j => g (ix1 j))) (fun i => a (ix2 i n)) := by
  have e := merged_at p r
  unfold refTerm gated
  simp only [← e]
  generalize shapeCast S16384x256 p shapeCasts_S2x8192x256_S16384x256 = q
  pointwise
  simp only [normRow, zero_sub]

end Cert.Ple
end
-- ==== Proof.PleBlocks.lean ====
module
public import proofs.«01_k».proof.Proof.PleReference
public import Idealize.ShloMosaic.Lib.Pointwise
public import Idealize.ShloMosaic.Lib.StableHlo.ReadAt

/-!
# What each window of the per-layer embedding's kernel holds at a grid point

Point `t` works on rows `512 t …`; the weights and the gains are whole.  Each lemma gives an element of a window's block as an
element of the call's own arguments.
-/

@[expose] public section
set_option maxRecDepth 16384
noncomputable section
namespace Cert.Ple
open Cert.Kernel3Ideal Cert.Kernel3Ideal.Gen Idealize.ShloMosaic Idealize.ShloMosaic.TcCoe Idealize.SL.Sem
open Idealize.ShloMosaic.Tactic
open Idealize.ShloMosaic.Pipeline (Dat Cfg Window)

variable (m : (ℓ : Loc nD τ sig) → Buf (Elt Ideal) ℓ) (c : Dev nD)

/-- The rows a core is given. -/
def rows : FVec Ideal S16384x2048 .f32 := m ((c : Thread nD τ).loc main_arg0)
/-- The tokens' embeddings. -/
def emb : FVec Ideal S2x8192x256 .f32 := m ((c : Thread nD τ).loc main_arg1)
/-- The gains of the norm. -/
def gains : FVec Ideal S2048 .f32 := m ((c : Thread nD τ).loc main_arg2)
/-- The projection's weights. -/
def projW : FVec Ideal S256x2048 .f32 := m ((c : Thread nD τ).loc main_arg3)
/-- The gate's weights. -/
def gateW : FVec Ideal S2048x2048 .f32 := m ((c : Thread nD τ).loc main_arg4)

theorem host_emb (r : Fin 16384) (k : Fin 256) :
    (V m c main_v0 : FVec Ideal S1x16384x256 .f32) (ix3 0 r k) = emb m c (tokenAt r k) := by
  unfold V emb tokenAt
  after_reads_at
theorem host_proj (k : Fin 256) (n : Fin 2048) :
    (V m c main_v2 : FVec Ideal S1x256x2048 .bf16) (ix3 0 k n) = projW m c (ix2 k n) := by
  unfold V projW
  after_reads_at
theorem host_gate (i n : Fin 2048) :
    (V m c main_v4 : FVec Ideal S1x2048x2048 .bf16) (ix3 0 i n) = gateW m c (ix2 i n) := by
  unfold V gateW
  after_reads_at
theorem host_gain (i : Fin 2048) : (V m c main_v5 : FVec Ideal S1x2048 .f32) (ix2 0 i) = gains m c (ix1 i) := by
  unfold V gains
  after_reads_at

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = t.val ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- Row `p` of point `t`'s block. -/
def rowAt (t : Fin cfg0.N) (p : Fin 512) : Fin 16384 := ⟨t.val * 512 + p.val, by have h := t.isLt; have e : cfg0.N = 32 := N_0; omega⟩

theorem row_block (t : Fin cfg0.N) (p : Fin 512) (i : Fin 2048) :
    ((iblk m c 0 t : Vec Ideal S512x2048 .f32) (ix2 p i) : EReal) = rows m c (ix2 (rowAt t p) i) := by
  obtain ⟨e0, e1⟩ := index0 t
  have e : ((cfg0.win 0).blk t).view.emb (ix2 p i) = (ix2 (rowAt t p) i : S16384x2048.Idx) := by
    funext a; apply Fin.ext
    match a with
    | ⟨0, _⟩ => show win0_0.index t (0 : Fin 2) * 512 + 1 * p.val = t.val * 512 + p.val; rw [e0]; omega
    | ⟨1, _⟩ => show win0_0.index t (1 : Fin 2) * 2048 + 1 * i.val = i.val; rw [e1]; omega
  show (V m c main_arg0 : FVec Ideal S16384x2048 .f32) (((cfg0.win 0).blk t).view.emb (ix2 p i)) = _
  rw [e, V_main_arg0]; rfl

theorem gain_block (t : Fin cfg0.N) (i : Fin 2048) : ((iblk m c 1 t : Vec Ideal S1x2048 .f32) (ix2 0 i) : EReal) = gains m c (ix1 i) := by
  obtain ⟨e0, e1⟩ := index1 t
  have e : ((cfg0.win 1).blk t).view.emb (ix2 (0 : Fin 1) i) = (ix2 0 i : S1x2048.Idx) := by
    funext a; apply Fin.ext
    match a with
    | ⟨0, _⟩ => show win0_1.index t (0 : Fin 2) * 1 + 1 * 0 = 0; rw [e0]
    | ⟨1, _⟩ => show win0_1.index t (1 : Fin 2) * 2048 + 1 * i.val = i.val; rw [e1]; omega
  show (V m c main_v5 : FVec Ideal S1x2048 .f32) (((cfg0.win 1).blk t).view.emb (ix2 (0 : Fin 1) i)) = _
  rw [e, host_gain]

theorem gate_block (t : Fin cfg0.N) (i n : Fin 2048) : ((iblk m c 2 t : Vec Ideal S1x2048x2048 .bf16) (ix3 0 i n) : EReal) = gateW m c (ix2 i n) := by
  obtain ⟨e0, e1, e2⟩ := index2 t
  have e : ((cfg0.win 2).blk t).view.emb (ix3 (0 : Fin 1) i n) = (ix3 0 i n : S1x2048x2048.Idx) := by
    funext a; apply Fin.ext
    match a with
    | ⟨0, _⟩ => show win0_2.index t (0 : Fin 3) * 1 + 1 * 0 = 0; rw [e0]
    | ⟨1, _⟩ => show win0_2.index t (1 : Fin 3) * 2048 + 1 * i.val = i.val; rw [e1]; omega
    | ⟨2, _⟩ => show win0_2.index t (2 : Fin 3) * 2048 + 1 * n.val = n.val; rw [e2]; omega
  show (V m c main_v4 : FVec Ideal S1x2048x2048 .bf16) (((cfg0.win 2).blk t).view.emb (ix3 (0 : Fin 1) i n)) = _
  rw [e, host_gate]

theorem emb_block (t : Fin cfg0.N) (p : Fin 512) (k : Fin 256) :
    ((iblk m c 3 t : Vec Ideal S1x512x256 .f32) (ix3 0 p k) : EReal) = emb m c (tokenAt (rowAt t p) k) := by
  obtain ⟨e0, e1, e2⟩ := index3 t
  have e : ((cfg0.win 3).blk t).view.emb (ix3 (0 : Fin 1) p k) = (ix3 0 (rowAt t p) k : S1x16384x256.Idx) := by
    funext a; apply Fin.ext
    match a with
    | ⟨0, _⟩ => show win0_3.index t (0 : Fin 3) * 1 + 1 * 0 = 0; rw [e0]
    | ⟨1, _⟩ => show win0_3.index t (1 : Fin 3) * 512 + 1 * p.val = t.val * 512 + p.val; rw [e1]; omega
    | ⟨2, _⟩ => show win0_3.index t (2 : Fin 3) * 256 + 1 * k.val = k.val; rw [e2]; omega
  show (V m c main_v0 : FVec Ideal S1x16384x256 .f32) (((cfg0.win 3).blk t).view.emb (ix3 (0 : Fin 1) p k)) = _
  rw [e, host_emb]

theorem proj_block (t : Fin cfg0.N) (k : Fin 256) (n : Fin 2048) : ((iblk m c 4 t : Vec Ideal S1x256x2048 .bf16) (ix3 0 k n) : EReal) = projW m c (ix2 k n) := by
  obtain ⟨e0, e1, e2⟩ := index4 t
  have e : ((cfg0.win 4).blk t).view.emb (ix3 (0 : Fin 1) k n) = (ix3 0 k n : S1x256x2048.Idx) := by
    funext a; apply Fin.ext
    match a with
    | ⟨0, _⟩ => show win0_4.index t (0 : Fin 3) * 1 + 1 * 0 = 0; rw [e0]
    | ⟨1, _⟩ => show win0_4.index t (1 : Fin 3) * 256 + 1 * k.val = k.val; rw [e1]; omega
    | ⟨2, _⟩ => show win0_4.index t (2 : Fin 3) * 2048 + 1 * n.val = n.val; rw [e2]; omega
  show (V m c main_v2 : FVec Ideal S1x256x2048 .bf16) (((cfg0.win 4).blk t).view.emb (ix3 (0 : Fin 1) k n)) = _
  rw [e, host_proj]

end Cert.Ple
end
-- ==== Proof.PleValue.lean ====
module
public import proofs.«01_k».proof.Proof.PleBlocks

/-!
# The per-layer embedding's result, entry by entry

Each point writes back its 512 rows of the reference's result, and the blocks tile the result.
-/

@[expose] public section
set_option maxRecDepth 16384
noncomputable section
namespace Cert.Ple
open Cert.Kernel3Ideal Cert.Kernel3Ideal.Gen Idealize.ShloMosaic Idealize.ShloMosaic.TcCoe Idealize.SL.Sem
open Idealize.ShloMosaic.Pipeline (Dat Cfg Window)
open Cert.Ffn (normRow normRow_congr)

variable (m : (ℓ : Loc nD τ sig) → Buf (Elt Ideal) ℓ) (ρ : Dev nD → PrngReg) (c : Dev nD)

/-- The call's result. -/
def result : FVec Ideal S16384x2048 .f32 := refTerm (rows m c) (emb m c) (gains m c) (projW m c) (gateW m c)

/-- Row `p` of what point `t` computes. -/
theorem block_at (t : Fin cfg0.N) (p : Fin 512) (n : Fin 2048) : (outsAt0 m c t (ix2 p n) : EReal) = result m c (ix2 (rowAt t p) n) := by
  unfold outsAt0 result
  rw [out_eq]
  refine ((out_at _ _ _ _ _ p n).trans (gated_congr (row_block m c t p n) (fun k => emb_block m c t p k) (fun k => proj_block m c t k n)
    (fun i => ?_) (fun i => gate_block m c t i n))).trans (ref_at (rows m c) (emb m c) (gains m c) (projW m c) (gateW m c) (rowAt t p) n).symm
  exact (normed_at _ _ p i).trans (normRow_congr (fun j => row_block m c t p j) (fun j => gain_block m c t j) i)

/-- Row `p` of point `t`'s block of the result. -/
theorem emb5 (t : Fin cfg0.N) (p : Fin 512) (n : Fin 2048) : ((cfg0.win 5).blk t).view.emb (ix2 p n) = (ix2 (rowAt t p) n : S16384x2048.Idx) := by
  obtain ⟨e0, e1⟩ := index5 t
  funext a; apply Fin.ext
  match a with
  | ⟨0, _⟩ => show win0_5.index t (0 : Fin 2) * 512 + 1 * p.val = t.val * 512 + p.val; rw [e0]; omega
  | ⟨1, _⟩ => show win0_5.index t (1 : Fin 2) * 2048 + 1 * n.val = n.val; rw [e1]; omega

/-- What a point writes back is its part of the result. -/
theorem flushed5 (t : Fin cfg0.N) (hf : (cfg0.win 5).flush t = true) :
    (dats m 0 c).flushed 5 t = ((cfg0.win 5).blk t).view.read (Elt Ideal) (result m c) := by
  funext y
  obtain ⟨p, n, rfl⟩ : ∃ (p : Fin 512) (n : Fin 2048), y = ix2 p n := ⟨_, _, eq_ix2 y⟩
  show (dats m 0 c).after 5 t (ix2 p n) = result m c (((cfg0.win 5).blk t).view.emb (ix2 p n))
  rw [after0_5, emb5]
  exact block_at m c t p n

theorem mem5 (t : Fin cfg0.N) (p : Fin 512) (n : Fin 2048) : (ix2 (rowAt t p) n : S16384x2048.Idx) ∈ ((cfg0.win 5).blk t).view.set := by
  have h := View.emb_mem_set ((cfg0.win 5).blk t).view (ix2 p n)
  have e := emb5 t p n
  exact e ▸ h

/-- Every row of the result is in some block. -/
theorem cover5 (i : S16384x2048.Idx) : ∃ t : Fin cfg0.N, (cfg0.win 5).flush t = true ∧ i ∈ ((cfg0.win 5).blk t).view.set := by
  have h0 : (i 0).val < 16384 := (i 0).isLt
  have hN : cfg0.N = 32 := N_0
  obtain ⟨t, ht⟩ : ∃ t : Fin cfg0.N, t.val = (i 0).val / 512 := ⟨⟨(i 0).val / 512, by rw [hN]; omega⟩, rfl⟩
  obtain ⟨p, hp⟩ : ∃ p : Fin 512, p.val = (i 0).val % 512 := ⟨⟨(i 0).val % 512, Nat.mod_lt _ (by decide)⟩, rfl⟩
  have e : i = (ix2 (rowAt t p) (i 1) : S16384x2048.Idx) := by
    funext a; apply Fin.ext
    match a with
    | ⟨0, _⟩ => show (i 0).val = t.val * 512 + p.val; omega
    | ⟨1, _⟩ => rfl
  exact ⟨t, flush0_5 t, by rw [e]; exact mem5 t p (i 1)⟩

/-- The array the result is left in. -/
theorem final5 : (dats m 0 c).arrAt 5 cfg0.N = result m c :=
  (dats m 0 c).arrAt_eq_of_cover 5 (result m c) (flushed5 m c) cover5

/-- The kernel runs and leaves the reference's result. -/
theorem run_value : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final5 m c), (h c).2⟩) (Cert.Kernel3Ideal.Value.run_blocks m ρ)

end Cert.Ple
end
-- ==== Proof.ReferenceReads.lean ====
module
public import proofs.«01_k».proof.Proof.Gen.ReferenceIdeal.Step
public import proofs.«01_k».proof.Proof.BlockReal
public import Idealize.ShloMosaic.Lib.Pointwise
public import Idealize.ShloMosaic.Lib.WordCmp

/-!
# What one trip of the reference's loop reads and writes

The trip's slices of the stacked sequences, its running sum of the log forget gates, and its update of the stacked results.
-/

@[expose] public section
set_option maxRecDepth 16384
noncomputable section
namespace Cert.Cell.Ref
open Cert.ReferenceIdeal Cert.ReferenceIdeal.Gen Cert.ReferenceIdeal.Step Idealize.ShloMosaic Finset

variable (j : ℕ) (hj : j < 128) (s : Step.State Ideal) (b : Fin 2) (h : Fin 4)

include hj in
/-- The queries of trip `j`. -/
theorem query_slice (r : Fin 64) (d : Fin 256) : (b5 j s (ix4 b h r d) : EReal) = s.main_v36_0 (ix5 ⟨j, hj⟩ b h r d) := by
  have hk : Shape.Slices S128x2x4x64x256 ![j, 0, 0, 0, 0] S1x2x4x64x256 :=
    ⟨rfl, fun a => by
      match a with
      | ⟨0, _⟩ => show j + 1 ≤ 128; omega
      | ⟨1, _⟩ => exact (by decide : 0 + 2 ≤ 2)
      | ⟨2, _⟩ => exact (by decide : 0 + 4 ≤ 4)
      | ⟨3, _⟩ => exact (by decide : 0 + 64 ≤ 64)
      | ⟨4, _⟩ => exact (by decide : 0 + 256 ≤ 256)
      ⟩
  have e : b4 j s = extractStridedSlice S1x2x4x64x256 ![j, 0, 0, 0, 0] s.main_v36_0 hk :=
    WordCmp.dynamicSlice_eq_extract _ _ _ _ _ hk fun a => by
      match a with
      | ⟨0, _⟩ => exact toInt_small j (by omega)
      | ⟨1, _⟩ => rfl
      | ⟨2, _⟩ => rfl
      | ⟨3, _⟩ => rfl
      | ⟨4, _⟩ => rfl
  unfold b5
  rw [e]
  pointwise

include hj in
/-- The keys of trip `j`. -/
theorem key_slice (r : Fin 64) (d : Fin 256) : (b11 j s (ix4 b h r d) : EReal) = s.main_v36_1 (ix5 ⟨j, hj⟩ b h r d) := by
  have hk : Shape.Slices S128x2x4x64x256 ![j, 0, 0, 0, 0] S1x2x4x64x256 :=
    ⟨rfl, fun a => by
      match a with
      | ⟨0, _⟩ => show j + 1 ≤ 128; omega
      | ⟨1, _⟩ => exact (by decide : 0 + 2 ≤ 2)
      | ⟨2, _⟩ => exact (by decide : 0 + 4 ≤ 4)
      | ⟨3, _⟩ => exact (by decide : 0 + 64 ≤ 64)
      | ⟨4, _⟩ => exact (by decide : 0 + 256 ≤ 256)
      ⟩
  have e : b10 j s = extractStridedSlice S1x2x4x64x256 ![j, 0, 0, 0, 0] s.main_v36_1 hk :=
    WordCmp.dynamicSlice_eq_extract _ _ _ _ _ hk fun a => by
      match a with
      | ⟨0, _⟩ => exact toInt_small j (by omega)
      | ⟨1, _⟩ => rfl
      | ⟨2, _⟩ => rfl
      | ⟨3, _⟩ => rfl
      | ⟨4, _⟩ => rfl
  unfold b11
  rw [e]
  pointwise

include hj in
/-- The values of trip `j`. -/
theorem value_slice (r : Fin 64) (d : Fin 512) : (b17 j s (ix4 b h r d) : EReal) = s.main_v36_2 (ix5 ⟨j, hj⟩ b h r d) := by
  have hk : Shape.Slices S128x2x4x64x512 ![j, 0, 0, 0, 0] S1x2x4x64x512 :=
    ⟨rfl, fun a => by
      match a with
      | ⟨0, _⟩ => show j + 1 ≤ 128; omega
      | ⟨1, _⟩ => exact (by decide : 0 + 2 ≤ 2)
      | ⟨2, _⟩ => exact (by decide : 0 + 4 ≤ 4)
      | ⟨3, _⟩ => exact (by decide : 0 + 64 ≤ 64)
      | ⟨4, _⟩ => exact (by decide : 0 + 512 ≤ 512)
      ⟩
  have e : b16 j s = extractStridedSlice S1x2x4x64x512 ![j, 0, 0, 0, 0] s.main_v36_2 hk :=
    WordCmp.dynamicSlice_eq_extract _ _ _ _ _ hk fun a => by
      match a with
      | ⟨0, _⟩ => exact toInt_small j (by omega)
      | ⟨1, _⟩ => rfl
      | ⟨2, _⟩ => rfl
      | ⟨3, _⟩ => rfl
      | ⟨4, _⟩ => rfl
  unfold b17
  rw [e]
  pointwise

include hj in
/-- The input gates of trip `j`. -/
theorem gate_slice (r : Fin 64) : (b22 j s (ix3 b h r) : EReal) = s.main_v36_3 (ix4 ⟨j, hj⟩ b h r) := by
  have hk : Shape.Slices S128x2x4x64 ![j, 0, 0, 0] S1x2x4x64 :=
    ⟨rfl, fun a => by
      match a with
      | ⟨0, _⟩ => show j + 1 ≤ 128; omega
      | ⟨1, _⟩ => exact (by decide : 0 + 2 ≤ 2)
      | ⟨2, _⟩ => exact (by decide : 0 + 4 ≤ 4)
      | ⟨3, _⟩ => exact (by decide : 0 + 64 ≤ 64)
      ⟩
  have e : b21 j s = extractStridedSlice S1x2x4x64 ![j, 0, 0, 0] s.main_v36_3 hk :=
    WordCmp.dynamicSlice_eq_extract _ _ _ _ _ hk fun a => by
      match a with
      | ⟨0, _⟩ => exact toInt_small j (by omega)
      | ⟨1, _⟩ => rfl
      | ⟨2, _⟩ => rfl
      | ⟨3, _⟩ => rfl
  unfold b22
  rw [e]
  pointwise

include hj in
/-- The log forget gates of trip `j`. -/
theorem forget_slice (r : Fin 64) : (b27 j s (ix3 b h r) : EReal) = s.main_v36_4 (ix4 ⟨j, hj⟩ b h r) := by
  have hk : Shape.Slices S128x2x4x64 ![j, 0, 0, 0] S1x2x4x64 :=
    ⟨rfl, fun a => by
      match a with
      | ⟨0, _⟩ => show j + 1 ≤ 128; omega
      | ⟨1, _⟩ => exact (by decide : 0 + 2 ≤ 2)
      | ⟨2, _⟩ => exact (by decide : 0 + 4 ≤ 4)
      | ⟨3, _⟩ => exact (by decide : 0 + 64 ≤ 64)
      ⟩
  have e : b26 j s = extractStridedSlice S1x2x4x64 ![j, 0, 0, 0] s.main_v36_4 hk :=
    WordCmp.dynamicSlice_eq_extract _ _ _ _ _ hk fun a => by
      match a with
      | ⟨0, _⟩ => exact toInt_small j (by omega)
      | ⟨1, _⟩ => rfl
      | ⟨2, _⟩ => rfl
      | ⟨3, _⟩ => rfl
  unfold b27
  rw [e]
  pointwise

include hj in
/-- The stacked results after trip `j`: its own results at `j`, the earlier ones elsewhere. -/
theorem stacked (c : Fin 128) (r : Fin 64) (e : Fin 512) : (b111 j s (ix5 c b h r e) : EReal)
    = if c.val = j then b75 j s (ix4 b h r e) else s.main_v36_10 (ix5 c b h r e) := by
  have hk : Shape.Slices S128x2x4x64x512 ![j, 0, 0, 0, 0] S1x2x4x64x512 :=
    ⟨rfl, fun a => by
      match a with
      | ⟨0, _⟩ => show j + 1 ≤ 128; omega
      | ⟨1, _⟩ => exact (by decide : 0 + 2 ≤ 2)
      | ⟨2, _⟩ => exact (by decide : 0 + 4 ≤ 4)
      | ⟨3, _⟩ => exact (by decide : 0 + 64 ≤ 64)
      | ⟨4, _⟩ => exact (by decide : 0 + 512 ≤ 512)
      ⟩
  have e' : b111 j s = updateSlice s.main_v36_10 (b106 j s) ![j, 0, 0, 0, 0] hk :=
    WordCmp.dynamicUpdateSlice_eq_update _ _ _ _ _ hk fun a => by
      match a with
      | ⟨0, _⟩ => exact toInt_small j (by omega)
      | ⟨1, _⟩ => rfl
      | ⟨2, _⟩ => rfl
      | ⟨3, _⟩ => rfl
      | ⟨4, _⟩ => rfl
  rw [e', updateSlice_apply]
  by_cases hc : c.val = j
  · rw [dif_pos (by
      intro a
      match a with
      | ⟨0, _⟩ => show j ≤ c.val ∧ c.val < j + 1; omega
      | ⟨1, _⟩ => exact ⟨Nat.zero_le _, by show b.val < 0 + 2; omega⟩
      | ⟨2, _⟩ => exact ⟨Nat.zero_le _, by show h.val < 0 + 4; omega⟩
      | ⟨3, _⟩ => exact ⟨Nat.zero_le _, by show r.val < 0 + 64; omega⟩
      | ⟨4, _⟩ => exact ⟨Nat.zero_le _, by show e.val < 0 + 512; omega⟩), if_pos hc]
    pointwise [b106]
  · rw [dif_neg (fun q => hc (by have := q 0; change j ≤ c.val ∧ c.val < j + 1 at this; omega)), if_neg hc]

/-- A running fold of additions is the start and a sum. -/
theorem foldl_add_sum {α : Type} (l : List α) (g : α → EReal) (F : EReal → α → EReal) (hF : ∀ a n, F a n = a + g n) (a : EReal) :
    l.foldl F a = a + (l.map g).sum := by
  induction l generalizing a with
  | nil => simp
  | cons x l ih => rw [List.foldl_cons, ih, hF, List.map_cons, List.sum_cons, add_assoc]

/-- A window that ends at position `r` holds the positions up to it. -/
theorem window_sum (x : ℕ → ℝ) (r : ℕ) (hr : r < 64) :
    (∑ w : Fin 64, if 63 ≤ r + w.val then x (r + w.val - 63) else 0) = ∑ t ∈ range (r + 1), x t := by
  rw [Fin.sum_univ_eq_sum_range (fun w => if 63 ≤ r + w then x (r + w - 63) else 0) 64, ← sum_filter]
  refine sum_nbij' (fun w => r + w - 63) (fun t => t + 63 - r) ?_ ?_ ?_ ?_ ?_
  all_goals intro w hw
  all_goals simp only [mem_filter, mem_range] at hw ⊢
  all_goals omega

/-- The running sum along the last axis, over the reals. -/
theorem cumsum_real (x : FVec Ideal S2x4x64 .f32) (v : FVec Ideal S_ .f32) (hv : ∀ i, v i = (0 : EReal)) (X : ℕ → ℝ)
    (hx : ∀ t : Fin 64, x (ix3 b h t) = (X t.val : EReal)) (r : Fin 64) :
    (Host.reduceWindowAdd ![1, 1, 64] ![1, 1, 1] ![0, 0, 63] ![0, 0, 0] x v
      reduceWindows_S2x4x64_S2x4x64_w1s1p0_0_w1s1p0_0_w64s1p63_0 h_S_ : FVec Ideal S2x4x64 .f32) (ix3 b h r) = ((∑ t ∈ range (r.val + 1), X t : ℝ) : EReal) := by
  let W : Shape := ⟨3, ![1, 1, 64]⟩
  let G : W.Idx → EReal := fun w => ((if 63 ≤ r.val + (w 2).val then X (r.val + (w 2).val - 63) else 0 : ℝ) : EReal)
  show Host.reduceWindow (· + ·) ![1, 1, 64] ![1, 1, 1] ![0, 0, 63] ![0, 0, 0] x (fun _ : (⟨0, ![]⟩ : Shape).Idx => v (Shape.Idx.first h_S_))
    reduceWindows_S2x4x64_S2x4x64_w1s1p0_0_w1s1p0_0_w64s1p63_0 (by decide) (ix3 b h r) = _
  unfold Host.reduceWindow
  refine (foldl_add_sum _ (fun n => G (W.rowMajor.symm n)) _ (fun a n => ?_) _).trans ?_
  · have hb := b.isLt
    have hh := h.isLt
    have hr := r.isLt
    have w0 : (W.rowMajor.symm n 0).val < 1 := (W.rowMajor.symm n 0).isLt
    have w1 : (W.rowMajor.symm n 1).val < 1 := (W.rowMajor.symm n 1).isLt
    have w2 : (W.rowMajor.symm n 2).val < 64 := (W.rowMajor.symm n 2).isLt
    refine congrArg (a + ·) ?_
    dsimp only
    split
    · next hin =>
      have h2 := hin 2
      change 63 ≤ r.val * 1 + (W.rowMajor.symm n 2).val ∧ r.val * 1 + (W.rowMajor.symm n 2).val - 63 < 64 at h2
      show _ = ((if 63 ≤ r.val + (W.rowMajor.symm n 2).val then X (r.val + (W.rowMajor.symm n 2).val - 63) else 0 : ℝ) : EReal)
      rw [if_pos (by omega)]
      refine (congrArg x (funext fun a => Fin.ext ?_)).trans (hx ⟨r.val + (W.rowMajor.symm n 2).val - 63, by omega⟩)
      match a with
      | ⟨0, _⟩ => show b.val * 1 + (W.rowMajor.symm n 0).val - 0 = b.val; omega
      | ⟨1, _⟩ => show h.val * 1 + (W.rowMajor.symm n 1).val - 0 = h.val; omega
      | ⟨2, _⟩ => show r.val * 1 + (W.rowMajor.symm n 2).val - 63 = r.val + (W.rowMajor.symm n 2).val - 63; omega
    · next hin =>
      show _ = ((if 63 ≤ r.val + (W.rowMajor.symm n 2).val then X (r.val + (W.rowMajor.symm n 2).val - 63) else 0 : ℝ) : EReal)
      rw [if_neg fun hle => hin fun a => by
        match a with
        | ⟨0, _⟩ => show 0 ≤ b.val * 1 + (W.rowMajor.symm n 0).val ∧ b.val * 1 + (W.rowMajor.symm n 0).val - 0 < 2; omega
        | ⟨1, _⟩ => show 0 ≤ h.val * 1 + (W.rowMajor.symm n 1).val ∧ h.val * 1 + (W.rowMajor.symm n 1).val - 0 < 4; omega
        | ⟨2, _⟩ => show 63 ≤ r.val * 1 + (W.rowMajor.symm n 2).val ∧ r.val * 1 + (W.rowMajor.symm n 2).val - 63 < 64; omega]
      rw [hv, EReal.coe_zero]
  · rw [hv, zero_add, ← List.ofFn_eq_map, List.sum_ofFn, Equiv.sum_comp W.rowMajor.symm G]
    have E : (∑ w : W.Idx, G w) = ∑ w : Fin 64, G (ix3 (0 : Fin 1) (0 : Fin 1) w) := by
      refine (Fintype.sum_equiv ⟨fun w : Fin 64 => (ix3 (0 : Fin 1) (0 : Fin 1) w : W.Idx), fun i => i 2, fun w => rfl, fun i => ?_⟩ _ _ fun w => rfl).symm
      refine funext fun a => ?_
      match a with
      | ⟨0, _⟩ => exact Subsingleton.elim (α := Fin 1) _ _
      | ⟨1, _⟩ => exact Subsingleton.elim (α := Fin 1) _ _
      | ⟨2, _⟩ => rfl
    rw [E, ← window_sum X r.val r.isLt, ← sum_real]
    rfl

end Cert.Cell.Ref
end
-- ==== Proof.ReferenceReal.lean ====
module
public import proofs.«01_k».proof.Proof.ReferenceReads
public import proofs.«01_k».proof.Proof.HeadReal

/-!
# One trip of the reference's loop over the reals

From the recurrence's state at a chunk's beginning, a trip makes the hidden states of the chunk's positions and the
recurrence's state at the chunk's end.
-/

@[expose] public section
set_option maxRecDepth 16384
noncomputable section
namespace Cert.Cell.Ref
open Cert.ReferenceIdeal Cert.ReferenceIdeal.Gen Cert.ReferenceIdeal.Step Idealize.ShloMosaic

/-- The stacked sequences the loop reads. -/
structure Seqs (S : Fin 2 → Heads) (s : Step.State Ideal) : Prop where
  query : ∀ (c : Fin 128) (b : Fin 2) (h : Fin 4) (r : Fin 64) (d : Fin 256),
    (s.main_v36_0 (ix5 c b h r d) : EReal) = ((S b).q h (64 * c.val + r.val) d : EReal)
  key : ∀ (c : Fin 128) (b : Fin 2) (h : Fin 4) (r : Fin 64) (d : Fin 256),
    (s.main_v36_1 (ix5 c b h r d) : EReal) = ((S b).k h (64 * c.val + r.val) d : EReal)
  value : ∀ (c : Fin 128) (b : Fin 2) (h : Fin 4) (r : Fin 64) (e : Fin 512),
    (s.main_v36_2 (ix5 c b h r e) : EReal) = ((S b).v h (64 * c.val + r.val) e : EReal)
  gate : ∀ (c : Fin 128) (b : Fin 2) (h : Fin 4) (r : Fin 64),
    (s.main_v36_3 (ix4 c b h r) : EReal) = ((S b).g h (64 * c.val + r.val) : EReal)
  forget : ∀ (c : Fin 128) (b : Fin 2) (h : Fin 4) (r : Fin 64),
    (s.main_v36_4 (ix4 c b h r) : EReal) = ((S b).f h (64 * c.val + r.val) : EReal)

/-- The loop's state before trip `j`: the recurrence's state after `64 j` positions, divided by the exponentials of real
    stabilisers, and the hidden states of those positions. -/
structure Before (S : Fin 2 → Heads) (j : ℕ) (s : Step.State Ideal) : Prop where
  seqs : Seqs S s
  state : ∃ μ : Fin 2 → Fin 4 → ℝ, (∀ b h, (s.main_v36_9 (ix2 b h) : EReal) = (μ b h : EReal))
    ∧ (∀ b h d e, (s.main_v36_7 (ix4 b h d e) : EReal) = ((Real.exp (-μ b h) * (S b).mem h (64 * j) d e : ℝ) : EReal))
    ∧ (∀ b h d, (s.main_v36_8 (ix3 b h d) : EReal) = ((Real.exp (-μ b h) * (S b).nrm h (64 * j) d : ℝ) : EReal))
  out : ∀ (c : Fin 128), c.val < j → ∀ (b : Fin 2) (h : Fin 4) (r : Fin 64) (e : Fin 512),
    (s.main_v36_10 (ix5 c b h r e) : EReal) = ((S b).hid h (64 * c.val + r.val) e : EReal)

variable {S : Fin 2 → Heads} {j : ℕ} {s : Step.State Ideal} (hj : j < 128) (hs : Seqs S s) (b : Fin 2) (h : Fin 4)
include hj hs

theorem query_real (r : Fin 64) (d : Fin 256) : (b5 j s (ix4 b h r d) : EReal) = ((S b).q h (64 * j + r.val) d : EReal) := by
  rw [query_slice j hj, hs.query]
theorem key_real (r : Fin 64) (d : Fin 256) : (b11 j s (ix4 b h r d) : EReal) = ((S b).k h (64 * j + r.val) d : EReal) := by
  rw [key_slice j hj, hs.key]
theorem value_real (r : Fin 64) (e : Fin 512) : (b17 j s (ix4 b h r e) : EReal) = ((S b).v h (64 * j + r.val) e : EReal) := by
  rw [value_slice j hj, hs.value]
theorem gate_real (r : Fin 64) : (b22 j s (ix3 b h r) : EReal) = ((S b).g h (64 * j + r.val) : EReal) := by
  rw [gate_slice j hj, hs.gate]

/-- The chunk's running sum of the log forget gates. -/
theorem sum_gates (r : Fin 64) : (b30 j s (ix3 b h r) : EReal) = (within ((S b).f h) (64 * j) r.val : EReal) :=
  cumsum_real b h (b27 j s) (b29 j s) (fun i => by pointwise [b29, b28]) (fun t => (S b).f h (64 * j + t))
    (fun t => by rw [forget_slice j hj, hs.forget]) r

/-- An exponent inside the chunk: real up to the diagonal, `-∞` above it. -/
theorem exponent (r r' : Fin 64) : (b46 j s (ix4 b h r r') : EReal)
    = if r'.val ≤ r.val then ((within ((S b).f h) (64 * j) r.val - within ((S b).f h) (64 * j) r'.val + (S b).g h (64 * j + r'.val) : ℝ) : EReal)
      else ⊥ := by
  have e : IntOp.cmpi .sge (IntOp.addi (BitVec.ofNat 32 r.val) 0#32) (BitVec.ofNat 32 r'.val) = if r'.val ≤ r.val then 1#1 else 0#1 := by
    rw [← sle_small _ _ (by omega) (by omega)]
    show IntOp.cmpi .sge (BitVec.ofNat 32 r.val + 0#32) (BitVec.ofNat 32 r'.val) = _
    rw [BitVec.add_zero]
    rfl
  pointwise [b46, b45, b44, b43, b42, b41, b40, b39, b38, b37, b36, b35, b34, K_main_v31, K_main_v30, K_main_c, K_main_call0_v0,
    K_main_call0_c, K_main_call0_v1, K_main_call0_v2, K_main_call0_v3, K_main_call0_v4, K_main_call0_c_0, K_main_call0_v5]
  rw [e, sum_gates hj hs, sum_gates hj hs, gate_real hj hs, ofBits_bot, select_if]
  by_cases hr : r'.val ≤ r.val
  · simp only [if_pos hr, Scalar.select, EReal.coe_add, EReal.coe_sub]; rfl
  · simp only [if_neg hr, Scalar.select]; rfl

variable (m : ℝ) (hm : (s.main_v36_9 (ix2 b h) : EReal) = (m : EReal))
include hm

/-- A position's stabiliser is real. -/
theorem stabiliser (r : Fin 64) : ∃ μ : ℝ, (b49 j s (ix3 b h r) : EReal) = (μ : EReal) := by
  have hi := exponent hj hs b h r
  have hb := sum_gates hj hs b h r
  pointwise [b49, b48, b47, b33, b32, b31]
  simp only [hi, hb, hm, ofBits_bot, ← EReal.coe_add]
  refine stab_real _ _ (fun i => ?_) _
  split
  · exact EReal.coe_ne_top _
  · exact bot_ne_top

/-- The hidden states of the chunk. -/
theorem hidden_real
    (hC : ∀ d e, (s.main_v36_7 (ix4 b h d e) : EReal) = ((Real.exp (-m) * (S b).mem h (64 * j) d e : ℝ) : EReal))
    (hn : ∀ d, (s.main_v36_8 (ix3 b h d) : EReal) = ((Real.exp (-m) * (S b).nrm h (64 * j) d : ℝ) : EReal))
    (r : Fin 64) (e : Fin 512) : (b75 j s (ix4 b h r e) : EReal) = ((S b).hid h (64 * j + r.val) e : EReal) := by
  obtain ⟨μ, hμ⟩ := stabiliser hj hs b h m hm r
  have hi := exponent hj hs b h r
  have hb := sum_gates hj hs b h r
  have hq := query_real hj hs b h r
  have hk := key_real hj hs b h
  have hv := value_real hj hs b h
  pointwise [b75, b74, b73, b72, b71, b70, b69, b68, b67, b66, b65, b64, b63, b62, b61, b60, b59, b58, b57, b56, b55, b54, b53,
    b52, b51, b50, b33, b32, b31]
  simp only [hi, hμ, hb, hm, hq, hk, hv, hC, hn, Ideal.absf_def, exp_mask, zero_sub, ← EReal.coe_neg, ← EReal.coe_add,
    ← EReal.coe_sub, ← EReal.coe_mul, Ideal.exp_coe, sum_real, max_real]
  have e1 := numer_chunk ((S b).f h) ((S b).g h) ((S b).q h) ((S b).k h) ((S b).v h) 64 (64 * j) r r.isLt m μ e
  have e2 := denom_chunk ((S b).f h) ((S b).g h) ((S b).q h) ((S b).k h) 64 (64 * j) r r.isLt m μ
  rw [Finset.sum_range] at e1 e2
  simp only [Heads.mem, Heads.nrm]
  rw [e1, e2, div_real _ _ (lt_max_of_lt_right (Real.exp_pos _))]
  exact congrArg _ (hidden_of_scaled _ _ _ _ _ (64 * j + r) μ e)

/-- The state's new stabiliser is real. -/
theorem new_stabiliser : ∃ m' : ℝ, (b85 j s (ix2 b h) : EReal) = (m' : EReal) := by
  have hb := sum_gates hj hs b h
  have hg := gate_real hj hs b h
  pointwise [b85, b84, b83, b82, b81, b80, b79, b78, b77, b76]
  simp only [hg, hb, hm, ofBits_bot, ← EReal.coe_add, ← EReal.coe_sub]
  exact stab_real _ _ (fun i => EReal.coe_ne_top _) _

/-- The new memory. -/
theorem memory_real (m' : ℝ) (hm' : (b85 j s (ix2 b h) : EReal) = (m' : EReal))
    (hC : ∀ d e, (s.main_v36_7 (ix4 b h d e) : EReal) = ((Real.exp (-m) * (S b).mem h (64 * j) d e : ℝ) : EReal))
    (d : Fin 256) (e : Fin 512) :
    (b100 j s (ix4 b h d e) : EReal) = ((Real.exp (-m') * (S b).mem h (64 * j + 64) d e : ℝ) : EReal) := by
  have hb := sum_gates hj hs b h
  have hg := gate_real hj hs b h
  have hk := key_real hj hs b h
  have hv := value_real hj hs b h
  pointwise [b100, b99, b98, b97, b96, b95, b94, b93, b92, b91, b90, b89, b88, b87, b86, b81, b80, b79, b78, b77, b76]
  simp only [hg, hb, hm, hm', hk, hv, hC, ← EReal.coe_add, ← EReal.coe_sub, ← EReal.coe_mul, Ideal.exp_coe, sum_real]
  have e1 := memory_chunk ((S b).f h) ((S b).g h) ((S b).k h) ((S b).v h) 63 (64 * j) m m' d e
  simp only [Heads.mem]
  rw [show 64 * j + 64 = 64 * j + (63 + 1) from rfl, ← e1]
  congr 2
  rw [Finset.sum_range]
  refine Finset.sum_congr rfl fun x _ => ?_
  rw [show ((63 : Fin 64) : ℕ) = 63 from rfl]; ring

/-- The new normaliser. -/
theorem normal_real (m' : ℝ) (hm' : (b85 j s (ix2 b h) : EReal) = (m' : EReal))
    (hn : ∀ d, (s.main_v36_8 (ix3 b h d) : EReal) = ((Real.exp (-m) * (S b).nrm h (64 * j) d : ℝ) : EReal)) (d : Fin 256) :
    (b105 j s (ix3 b h d) : EReal) = ((Real.exp (-m') * (S b).nrm h (64 * j + 64) d : ℝ) : EReal) := by
  have hb := sum_gates hj hs b h
  have hg := gate_real hj hs b h
  have hk := key_real hj hs b h
  pointwise [b105, b104, b103, b102, b101, b92, b91, b90, b89, b88, b87, b86, b81, b80, b79, b78, b77, b76]
  simp only [hg, hb, hm, hm', hk, hn, ← EReal.coe_add, ← EReal.coe_sub, ← EReal.coe_mul, Ideal.exp_coe, sum_real]
  have e1 := normal_chunk ((S b).f h) ((S b).g h) ((S b).k h) 63 (64 * j) m m' d
  simp only [Heads.nrm]
  rw [show 64 * j + 64 = 64 * j + (63 + 1) from rfl, ← e1]
  congr 2

omit hs hm in
/-- One trip takes the state before it to the state before the next. -/
theorem before_step (hB : Before S j s) : Before S (j + 1) (step j s) where
  seqs := ⟨hB.seqs.query, hB.seqs.key, hB.seqs.value, hB.seqs.gate, hB.seqs.forget⟩
  state := by
    obtain ⟨μ, hm, hC, hn⟩ := hB.state
    choose μ' hm' using fun b h => new_stabiliser hj hB.seqs b h (μ b h) (hm b h)
    refine ⟨μ', fun b h => ?_, fun b h d e => ?_, fun b h d => ?_⟩
    · rw [step_main_v36_9]; exact hm' b h
    · rw [step_main_v36_7, show 64 * (j + 1) = 64 * j + 64 from by ring]
      exact memory_real hj hB.seqs b h (μ b h) (hm b h) (μ' b h) (hm' b h) (hC b h) d e
    · rw [step_main_v36_8, show 64 * (j + 1) = 64 * j + 64 from by ring]
      exact normal_real hj hB.seqs b h (μ b h) (hm b h) (μ' b h) (hm' b h) (hn b h) d
  out c hc b h r e := by
    obtain ⟨μ, hm, hC, hn⟩ := hB.state
    rw [step_main_v36_10, stacked j hj]
    by_cases hcj : c.val = j
    · rw [if_pos hcj, hidden_real hj hB.seqs b h (μ b h) (hm b h) (hC b h) (hn b h), hcj]
    · rw [if_neg hcj]
      exact hB.out c (by omega) b h r e

end Cert.Cell.Ref
end
-- ==== Proof.ReferenceResult.lean ====
module
public import proofs.«01_k».proof.Proof.ReferenceReal
public import proofs.«01_k».proof.Proof.Model

/-!
# The reference's result over the reals

The sequences the loop is given are the heads' own, its first state is the recurrence's at the beginning, and what follows
the loop is the gated norm of the hidden states it has stacked.
-/

@[expose] public section
set_option maxRecDepth 16384
noncomputable section
namespace Cert.Cell.Ref
open Cert.ReferenceIdeal Cert.ReferenceIdeal.Gen Cert.ReferenceIdeal.Step Idealize.ShloMosaic

/-- The word of a sixteenth. -/
theorem ofBits_sixteenth : Ideal.ofBits .f32 0x3D800000#32 = ((1 / 16 : ℝ) : EReal) := by
  simp [Ideal.ofBits, Ideal.ieee, -EReal.coe_mul]; norm_num

variable (P : FVec Ideal S2x8192x6152 .f32) (B : FVec Ideal S8 .f32) (hP : RealCols P) (hB : ∀ i, ∃ x : ℝ, B i = (x : EReal))

/-- The position of a chunk's row. -/
theorem pos_lt (c : Fin 128) (r : Fin 64) : 64 * c.val + r.val < 8192 := by omega

include hP hB

/-- The stacked sequences are the heads'. -/
theorem seqs_init : Seqs (heads P B) (init P B) where
  query c b h r d := by
    have e := elt_eq P hP b ⟨64 * c.val + r.val, pos_lt c r⟩ ⟨256 * h.val + d.val, by omega⟩ (Or.inl (by dsimp only; omega))
    unfold Step.init
    pointwise [A_main_v21, A_main_v20, A_main_v19, K_main_v18, K_main_cst, A_main_v0]
    simp only [mul_comm c.val 64, mul_comm h.val 256]
    rw [e, ofBits_sixteenth, ← EReal.coe_mul]
    rfl
  key c b h r d := by
    have e := elt_eq P hP b ⟨64 * c.val + r.val, pos_lt c r⟩ ⟨1024 + (256 * h.val + d.val), by omega⟩ (Or.inl (by dsimp only; omega))
    unfold Step.init
    pointwise [A_main_v23, A_main_v22, A_main_v1]
    simp only [mul_comm c.val 64, mul_comm h.val 256]
    exact e
  value c b h r d := by
    have e := elt_eq P hP b ⟨64 * c.val + r.val, pos_lt c r⟩ ⟨2048 + (512 * h.val + d.val), by omega⟩ (Or.inl (by dsimp only; omega))
    unfold Step.init
    pointwise [A_main_v25, A_main_v24, A_main_v2]
    simp only [mul_comm c.val 64, mul_comm h.val 512]
    exact e
  gate c b h r := by
    have e := elt_eq P hP b ⟨64 * c.val + r.val, pos_lt c r⟩ ⟨6144 + h.val, by omega⟩ (Or.inr (Nat.le_add_right _ _))
    have e' := belt_eq B hB ⟨h.val, by omega⟩
    unfold Step.init
    pointwise [A_main_v27, A_main_v26, A_main_v9, A_main_v8, A_main_v7, A_main_v6, A_main_v4]
    simp only [mul_comm c.val 64]
    rw [e, e', ← EReal.coe_add]
    rfl
  forget c b h r := by
    have e := elt_eq P hP b ⟨64 * c.val + r.val, pos_lt c r⟩ ⟨6148 + h.val, by omega⟩ (Or.inr (by dsimp only; omega))
    have e' := belt_eq B hB ⟨4 + h.val, by omega⟩
    unfold Step.init
    pointwise [A_main_v29, A_main_v28, A_main_v17, A_main_v16, A_main_v15, A_main_v14, A_main_v13, A_main_v12, A_main_v11, A_main_v10, A_main_v5]
    simp only [mul_comm c.val 64]
    rw [e, e', ← EReal.coe_add, ← EReal.coe_neg, log1p_exp, ← EReal.coe_neg]
    rfl

/-- The loop's first state. -/
theorem before_init : Before (heads P B) 0 (init P B) where
  seqs := seqs_init P B hP hB
  state := by
    refine ⟨fun _ _ => 0, fun b h => ?_, fun b h d e => ?_, fun b h d => ?_⟩
    · unfold Step.init
      pointwise [K_main_v34, K_main_cst_2]
      exact EReal.coe_zero.symm
    · unfold Step.init
      pointwise [K_main_v32, K_main_cst_0]
      simp [Heads.mem, memory]
    · unfold Step.init
      pointwise [K_main_v33, K_main_cst_1]
      simp [Heads.nrm, normal]
  out c hc := absurd hc (Nat.not_lt_zero _)

/-- Every trip's state. -/
theorem before_all (it : ℕ → Step.State Ideal) (h0 : it 0 = init P B) (hs : ∀ n, it (n + 1) = step n (it n)) :
    ∀ n, n ≤ 128 → Before (heads P B) n (it n)
  | 0, _ => by rw [h0]; exact before_init P B hP hB
  | n + 1, hn => by rw [hs]; exact before_step (by omega) (before_all it h0 hs n (by omega))

/-- The reference's result at an index. -/
theorem reference_result (it : ℕ → Step.State Ideal) (h0 : it 0 = init P B) (hs : ∀ n, it (n + 1) = step n (it n))
    (G : FVec Ideal S2048 .f32) (b : Fin 2) (t : Fin 8192) (h : Fin 4) (e : Fin 512) :
    (R_main_v63 (it 128) P G (ix2 ⟨b.val * 8192 + t.val, by omega⟩ ⟨512 * h.val + e.val, vcol_lt h e⟩ : S16384x2048.Idx) : EReal)
      = gatedOf (fun i => ((heads P B b).hid h t.val i : EReal)) (G (ix1 ⟨512 * h.val + e.val, vcol_lt h e⟩))
          (P (ix3 b t ⟨4096 + (512 * h.val + e.val), by omega⟩)) e := by
  have hid (i : Fin 512) : ((it 128).main_v36_10 (ix5 ⟨t.val / 64, by omega⟩ b h ⟨t.val % 64, by omega⟩ i) : EReal)
      = ((heads P B b).hid h t.val i : EReal) := by
    rw [(before_all P B hP hB it h0 hs 128 le_rfl).out ⟨t.val / 64, by omega⟩ (by show t.val / 64 < 128; omega)]
    congr 2
    show 64 * (t.val / 64) + t.val % 64 = t.val
    omega
  unfold R_main_v63 gatedOf
  pointwise
  simp only [hid, zero_sub, mul_comm h.val 512]

end Cert.Cell.Ref
end
-- ==== Proof.ReferenceTrips.lean ====
module

public import proofs.«01_k».proof.Proof.Gen.ReferenceIdeal.Run
public import proofs.«01_k».proof.Proof.Gen.ReferenceIdeal.Step

/-!
# The reference's run, trip by trip

At a valuation that holds a state — the carried buffers, the sequences and the trip's number — each value of one trip is the
step's value of that state, so a trip keeps holding the stepped state; and what the run leaves is read off the last state.
-/

@[expose] public section

noncomputable section

namespace Cert.Cell.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v36_7) = s.main_v36_7
  f_8 : V0 (Proc.devRef .tc main_v36_8) = s.main_v36_8
  f_9 : V0 (Proc.devRef .tc main_v36_9) = s.main_v36_9
  f_10 : V0 (Proc.devRef .tc main_v36_10) = s.main_v36_10
  f_0 : V0 (Proc.devRef .tc main_v36_0) = s.main_v36_0
  f_1 : V0 (Proc.devRef .tc main_v36_1) = s.main_v36_1
  f_2 : V0 (Proc.devRef .tc main_v36_2) = s.main_v36_2
  f_3 : V0 (Proc.devRef .tc main_v36_3) = s.main_v36_3
  f_4 : V0 (Proc.devRef .tc main_v36_4) = s.main_v36_4
  n_6 : V0 (Proc.devRef .tc main_v36_6) = constantI S_ 32 (BitVec.ofNat 32 j)
  k_5 : V0 (Proc.devRef .tc main_v36_5) = Cert.ReferenceIdeal.Step.K_main_v31 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x4x64x256 (V0 (Proc.devRef .tc main_v36_0)) (fun k => (((![V0 (Proc.devRef .tc main_v36_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x256_S1x2x4x64x256 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v64 V0 : (Proc.devRef .tc main_while0b_v64 : DevRef τ sig).ty.Contents (Elt F)) = Cert.ReferenceIdeal.Step.b5 j s := by
  unfold res_main_while0b_v64 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x4x64x256 (V0 (Proc.devRef .tc main_v36_1)) (fun k => (((![V0 (Proc.devRef .tc main_v36_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x256_S1x2x4x64x256 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v65 V0 : (Proc.devRef .tc main_while0b_v65 : DevRef τ sig).ty.Contents (Elt F)) = Cert.ReferenceIdeal.Step.b11 j s := by
  unfold res_main_while0b_v65 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x4x64x512 (V0 (Proc.devRef .tc main_v36_2)) (fun k => (((![V0 (Proc.devRef .tc main_v36_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x512_S1x2x4x64x512 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v66 V0 : (Proc.devRef .tc main_while0b_v66 : DevRef τ sig).ty.Contents (Elt F)) = Cert.ReferenceIdeal.Step.b17 j s := by
  unfold res_main_while0b_v66 Cert.ReferenceIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x2x4x64 (V0 (Proc.devRef .tc main_v36_3)) (fun k => (((![V0 (Proc.devRef .tc main_v36_6), constantI S_ 32 0#32, constantI S_ 32 0#32, constantI S_ 32 0#32] : Fin 4 → (⟨S_, .i32⟩ : BufTy).Contents (Elt F))) k (Shape.Idx.first h_S_)).toInt) sliceFits_S128x2x4x64_S1x2x4x64 : (Proc.devRef .tc main_while0b_call4_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v67 V0 : (Proc.devRef .tc main_while0b_v67 : DevRef τ sig).ty.Contents (Elt F)) = Cert.ReferenceIdeal.Step.b22 j s := by
  unfold res_main_while0b_v67 Cert.ReferenceIdeal.Step.b22
  rw [← al_21 h]
  try rfl
set_option maxRecDepth 8192 in
theorem al_23 (h : Holds V0 s j) : (constantI S_ 32 0#32 : (Proc.devRef .tc main_while0b_call5_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call5_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call5_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x4x64 (V0 (Proc.devRef .tc main_v36_4)) (fun k => (((![V0 (Proc.devRef .tc main_v36_6), constantI S_ 32 0#32, constantI S_ 32 0#32, constantI S_ 32 0#32] : Fin 4 → (⟨S_, .i32⟩ : BufTy).Contents (Elt F))) k (Shape.Idx.first h_S_)).toInt) sliceFits_S128x2x4x64_S1x2x4x64 : (Proc.devRef .tc main_while0b_call5_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (shapeCast S2x4x64 (Host.dynamicSlice S1x2x4x64 (V0 (Proc.devRef .tc main_v36_4)) (fun k => (((![V0 (Proc.devRef .tc main_v36_6), constantI S_ 32 0#32, constantI S_ 32 0#32, constantI S_ 32 0#32] : Fin 4 → (⟨S_, .i32⟩ : BufTy).Contents (Elt F))) k (Shape.Idx.first h_S_)).toInt) sliceFits_S128x2x4x64_S1x2x4x64) shapeCasts_S1x2x4x64_S2x4x64 : (Proc.devRef .tc main_while0b_v68 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call6_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call6_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v69 V0 : (Proc.devRef .tc main_while0b_v69 : DevRef τ sig).ty.Contents (Elt F)) = Cert.ReferenceIdeal.Step.b30 j s := by
  unfold res_main_while0b_v69 Cert.ReferenceIdeal.Step.b30
  rw [← al_27 h, ← al_29 h]
  try rfl
set_option maxRecDepth 8192 in
theorem al_31 (h : Holds V0 s j) : (broadcastInDim S2x4x1 ![0, 1] bcast_S2x4_S2x4x1_0_1 (V0 (Proc.devRef .tc main_v36_9)) : (Proc.devRef .tc main_while0b_v70 : DevRef τ sig).ty.Contents (Elt F)) = Cert.ReferenceIdeal.Step.b31 j s := by
  unfold Cert.ReferenceIdeal.Step.b31
  rw [h.f_9]
  try rfl
set_option maxRecDepth 8192 in
theorem al_32 (h : Holds V0 s j) : (broadcastInDim S2x4x64 ![0, 1, 2] bcast_S2x4x1_S2x4x64_0_1_2 (broadcastInDim S2x4x1 ![0, 1] bcast_S2x4_S2x4x1_0_1 (V0 (Proc.devRef .tc main_v36_9))) : (Proc.devRef .tc main_while0b_v71 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (res_main_while0b_v72 V0 : (Proc.devRef .tc main_while0b_v72 : DevRef τ sig).ty.Contents (Elt F)) = Cert.ReferenceIdeal.Step.b33 j s := by
  unfold res_main_while0b_v72 Cert.ReferenceIdeal.Step.b33
  rw [← al_30 h, ← al_32 h]
  try rfl
set_option maxRecDepth 8192 in
theorem al_34 (h : Holds V0 s j) : (broadcastInDim S2x4x64x1 ![0, 1, 2] bcast_S2x4x64_S2x4x64x1_0_1_2 (res_main_while0b_v69 V0) : (Proc.devRef .tc main_while0b_v73 : DevRef τ sig).ty.Contents (Elt F)) = Cert.ReferenceIdeal.Step.b34 j s := by
  unfold Cert.ReferenceIdeal.Step.b34
  rw [← al_30 h]
  try rfl
set_option maxRecDepth 8192 in
theorem al_35 (h : Holds V0 s j) : (broadcastInDim S2x4x1x64 ![0, 1, 3] bcast_S2x4x64_S2x4x1x64_0_1_3 (res_main_while0b_v69 V0) : (Proc.devRef .tc main_while0b_v74 : DevRef τ sig).ty.Contents (Elt F)) = Cert.ReferenceIdeal.Step.b35 j s := by
  unfold Cert.ReferenceIdeal.Step.b35
  rw [← al_30 h]
  try rfl
set_option maxRecDepth 8192 in
theorem al_36 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v69 V0)) : (Proc.devRef .tc main_while0b_v75 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v69 V0)) : (Proc.devRef .tc main_while0b_v76 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v69 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v69 V0))) : (Proc.devRef .tc main_while0b_v77 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (broadcastInDim S2x4x1x64 ![0, 1, 3] bcast_S2x4x64_S2x4x1x64_0_1_3 (res_main_while0b_v67 V0) : (Proc.devRef .tc main_while0b_v78 : DevRef τ sig).ty.Contents (Elt F)) = Cert.ReferenceIdeal.Step.b39 j s := by
  unfold Cert.ReferenceIdeal.Step.b39
  rw [← al_22 h]
  try rfl
set_option maxRecDepth 8192 in
theorem al_40 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v67 V0)) : (Proc.devRef .tc main_while0b_v79 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (addf (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v69 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v69 V0)))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v67 V0))) : (Proc.devRef .tc main_while0b_v80 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (constant S_ .f32 0xFF800000#32 : (Proc.devRef .tc main_while0b_cst_20 : DevRef τ sig).ty.Contents (Elt F)) = Cert.ReferenceIdeal.Step.b42 j s := by
  unfold Cert.ReferenceIdeal.Step.b42
  rfl
set_option maxRecDepth 8192 in
theorem al_43 (h : Holds V0 s j) : (id (constant S_ .f32 0xFF800000#32) : (Proc.devRef .tc main_while0b_call7_v0 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (broadcastInDim S2x4x64x64 ![2, 3] bcast_S64x64_S2x4x64x64_2_3 (V0 (Proc.devRef .tc main_v36_5)) : (Proc.devRef .tc main_while0b_call7_v1 : DevRef τ sig).ty.Contents (Elt F)) = Cert.ReferenceIdeal.Step.b44 j s := by
  unfold Cert.ReferenceIdeal.Step.b44
  rw [h.k_5]
  try rfl
set_option maxRecDepth 8192 in
theorem al_45 (h : Holds V0 s j) : (broadcastInDim S2x4x64x64 ![] bcast_S_S2x4x64x64 (id (constant S_ .f32 0xFF800000#32)) : (Proc.devRef .tc main_while0b_call7_v2 : DevRef τ sig).ty.Contents (Elt F)) = Cert.ReferenceIdeal.Step.b45 j s := by
  unfold Cert.ReferenceIdeal.Step.b45
  rw [← al_43 h]
  try rfl
set_option maxRecDepth 8192 in
theorem al_46 (h : Holds V0 s j) : (res_main_while0b_v81 V0 : (Proc.devRef .tc main_while0b_v81 : DevRef τ sig).ty.Contents (Elt F)) = Cert.ReferenceIdeal.Step.b46 j s := by
  unfold res_main_while0b_v81 Cert.ReferenceIdeal.Step.b46
  rw [← al_44 h, ← al_41 h, ← al_45 h]
  try rfl
set_option maxRecDepth 8192 in
theorem al_47 (h : Holds V0 s j) : (constant S_ .f32 0xFF800000#32 : (Proc.devRef .tc main_while0b_cst_21 : DevRef τ sig).ty.Contents (Elt F)) = Cert.ReferenceIdeal.Step.b47 j s := by
  unfold Cert.ReferenceIdeal.Step.b47
  rfl
set_option maxRecDepth 8192 in
theorem al_48 (h : Holds V0 s j) : (Host.reduce FloatOps.maximumf (res_main_while0b_v81 V0) (constant S_ .f32 0xFF800000#32) reducesTo_S2x4x64x64_S2x4x64_d3 h_S_ : (Proc.devRef .tc main_while0b_v82 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (res_main_while0b_v83 V0 : (Proc.devRef .tc main_while0b_v83 : DevRef τ sig).ty.Contents (Elt F)) = Cert.ReferenceIdeal.Step.b49 j s := by
  unfold res_main_while0b_v83 Cert.ReferenceIdeal.Step.b49
  rw [← al_33 h, ← al_48 h]
  try rfl
set_option maxRecDepth 8192 in
theorem al_50 (h : Holds V0 s j) : (subf (res_main_while0b_v72 V0) (res_main_while0b_v83 V0) : (Proc.devRef .tc main_while0b_v84 : DevRef τ sig).ty.Contents (Elt F)) = Cert.ReferenceIdeal.Step.b50 j s := by
  unfold Cert.ReferenceIdeal.Step.b50
  rw [← al_33 h, ← al_49 h]
  try rfl
set_option maxRecDepth 8192 in
theorem al_51 (h : Holds V0 s j) : (res_main_while0b_v85 V0 : (Proc.devRef .tc main_while0b_v85 : DevRef τ sig).ty.Contents (Elt F)) = Cert.ReferenceIdeal.Step.b51 j s := by
  unfold res_main_while0b_v85 Cert.ReferenceIdeal.Step.b51
  rw [← al_50 h]
  try rfl
set_option maxRecDepth 8192 in
theorem al_52 (h : Holds V0 s j) : (Host.dotGeneral dot_S2x4x64x256_S2x4x64x256_S2x4x64x64_3_3_2_2_01_01 none (res_main_while0b_v64 V0) (res_main_while0b_v65 V0) : (Proc.devRef .tc main_while0b_v86 : DevRef τ sig).ty.Contents (Elt F)) = Cert.ReferenceIdeal.Step.b52 j s := by
  unfold Cert.ReferenceIdeal.Step.b52
  rw [← al_5 h, ← al_11 h]
  try rfl
set_option maxRecDepth 8192 in
theorem al_53 (h : Holds V0 s j) : (broadcastInDim S2x4x64x1 ![0, 1, 2] bcast_S2x4x64_S2x4x64x1_0_1_2 (res_main_while0b_v83 V0) : (Proc.devRef .tc main_while0b_v87 : DevRef τ sig).ty.Contents (Elt F)) = Cert.ReferenceIdeal.Step.b53 j s := by
  unfold Cert.ReferenceIdeal.Step.b53
  rw [← al_49 h]
  try rfl
set_option maxRecDepth 8192 in
theorem al_54 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v83 V0)) : (Proc.devRef .tc main_while0b_v88 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (subf (res_main_while0b_v81 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v83 V0))) : (Proc.devRef .tc main_while0b_v89 : DevRef τ sig).ty.Contents (Elt F)) = Cert.ReferenceIdeal.Step.b55 j s := by
  unfold Cert.ReferenceIdeal.Step.b55
  rw [← al_46 h, ← al_54 h]
  try rfl
set_option maxRecDepth 8192 in
theorem al_56 (h : Holds V0 s j) : (Host.exp (subf (res_main_while0b_v81 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v83 V0)))) : (Proc.devRef .tc main_while0b_v90 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (res_main_while0b_v91 V0 : (Proc.devRef .tc main_while0b_v91 : DevRef τ sig).ty.Contents (Elt F)) = Cert.ReferenceIdeal.Step.b57 j s := by
  unfold res_main_while0b_v91 Cert.ReferenceIdeal.Step.b57
  rw [← al_52 h, ← al_56 h]
  try rfl
set_option maxRecDepth 8192 in
theorem al_58 (h : Holds V0 s j) : (broadcastInDim S2x4x64x1 ![0, 1, 2] bcast_S2x4x64_S2x4x64x1_0_1_2 (res_main_while0b_v85 V0) : (Proc.devRef .tc main_while0b_v92 : DevRef τ sig).ty.Contents (Elt F)) = Cert.ReferenceIdeal.Step.b58 j s := by
  unfold Cert.ReferenceIdeal.Step.b58
  rw [← al_51 h]
  try rfl
set_option maxRecDepth 8192 in
theorem al_59 (h : Holds V0 s j) : (Host.dotGeneral dot_S2x4x64x256_S2x4x256x512_S2x4x64x512_3_2_2_3_01_01 none (res_main_while0b_v64 V0) (V0 (Proc.devRef .tc main_v36_7)) : (Proc.devRef .tc main_while0b_v93 : DevRef τ sig).ty.Contents (Elt F)) = Cert.ReferenceIdeal.Step.b59 j s := by
  unfold Cert.ReferenceIdeal.Step.b59
  rw [← al_5 h, h.f_7]
  try rfl
set_option maxRecDepth 8192 in
theorem al_60 (h : Holds V0 s j) : (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0)) : (Proc.devRef .tc main_while0b_v94 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (mulf (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0))) (Host.dotGeneral dot_S2x4x64x256_S2x4x256x512_S2x4x64x512_3_2_2_3_01_01 none (res_main_while0b_v64 V0) (V0 (Proc.devRef .tc main_v36_7))) : (Proc.devRef .tc main_while0b_v95 : DevRef τ sig).ty.Contents (Elt F)) = Cert.ReferenceIdeal.Step.b61 j s := by
  unfold Cert.ReferenceIdeal.Step.b61
  rw [← al_60 h, ← al_59 h]
  try rfl
set_option maxRecDepth 8192 in
theorem al_62 (h : Holds V0 s j) : (Host.dotGeneral dot_S2x4x64x64_S2x4x64x512_S2x4x64x512_3_2_2_3_01_01 none (res_main_while0b_v91 V0) (res_main_while0b_v66 V0) : (Proc.devRef .tc main_while0b_v96 : DevRef τ sig).ty.Contents (Elt F)) = Cert.ReferenceIdeal.Step.b62 j s := by
  unfold Cert.ReferenceIdeal.Step.b62
  rw [← al_57 h, ← al_17 h]
  try rfl
set_option maxRecDepth 8192 in
theorem al_63 (h : Holds V0 s j) : (addf (mulf (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0))) (Host.dotGeneral dot_S2x4x64x256_S2x4x256x512_S2x4x64x512_3_2_2_3_01_01 none (res_main_while0b_v64 V0) (V0 (Proc.devRef .tc main_v36_7)))) (Host.dotGeneral dot_S2x4x64x64_S2x4x64x512_S2x4x64x512_3_2_2_3_01_01 none (res_main_while0b_v91 V0) (res_main_while0b_v66 V0)) : (Proc.devRef .tc main_while0b_v97 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (Host.dotGeneral dot_S2x4x64x256_S2x4x256_S2x4x64_3_2_2_n_01_01 none (res_main_while0b_v64 V0) (V0 (Proc.devRef .tc main_v36_8)) : (Proc.devRef .tc main_while0b_v98 : DevRef τ sig).ty.Contents (Elt F)) = Cert.ReferenceIdeal.Step.b64 j s := by
  unfold Cert.ReferenceIdeal.Step.b64
  rw [← al_5 h, h.f_8]
  try rfl
set_option maxRecDepth 8192 in
theorem al_65 (h : Holds V0 s j) : (mulf (res_main_while0b_v85 V0) (Host.dotGeneral dot_S2x4x64x256_S2x4x256_S2x4x64_3_2_2_n_01_01 none (res_main_while0b_v64 V0) (V0 (Proc.devRef .tc main_v36_8))) : (Proc.devRef .tc main_while0b_v99 : DevRef τ sig).ty.Contents (Elt F)) = Cert.ReferenceIdeal.Step.b65 j s := by
  unfold Cert.ReferenceIdeal.Step.b65
  rw [← al_51 h, ← al_64 h]
  try rfl
set_option maxRecDepth 8192 in
theorem al_66 (h : Holds V0 s j) : (constant S_ .f32 0x00000000#32 : (Proc.devRef .tc main_while0b_cst_22 : DevRef τ sig).ty.Contents (Elt F)) = Cert.ReferenceIdeal.Step.b66 j s := by
  unfold Cert.ReferenceIdeal.Step.b66
  rfl
set_option maxRecDepth 8192 in
theorem al_67 (h : Holds V0 s j) : (Host.reduceAdd (res_main_while0b_v91 V0) (constant S_ .f32 0x00000000#32) reducesTo_S2x4x64x64_S2x4x64_d3 h_S_ : (Proc.devRef .tc main_while0b_v100 : DevRef τ sig).ty.Contents (Elt F)) = Cert.ReferenceIdeal.Step.b67 j s := by
  unfold Cert.ReferenceIdeal.Step.b67
  rw [← al_57 h, ← al_66 h]
  try rfl
set_option maxRecDepth 8192 in
theorem al_68 (h : Holds V0 s j) : (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_) : (Proc.devRef .tc main_while0b_v101 : DevRef τ sig).ty.Contents (Elt F)) = Cert.ReferenceIdeal.Step.b68 j s := by
  unfold Cert.ReferenceIdeal.Step.b68
  rw [← al_65 h, ← al_67 h]
  try rfl
set_option maxRecDepth 8192 in
theorem al_69 (h : Holds V0 s j) : (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_)) : (Proc.devRef .tc main_while0b_v102 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (Host.negf (res_main_while0b_v83 V0) : (Proc.devRef .tc main_while0b_v103 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (Host.exp (Host.negf (res_main_while0b_v83 V0)) : (Proc.devRef .tc main_while0b_v104 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0))) : (Proc.devRef .tc main_while0b_v105 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (broadcastInDim S2x4x64x1 ![0, 1, 2] bcast_S2x4x64_S2x4x64x1_0_1_2 (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0)))) : (Proc.devRef .tc main_while0b_v106 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (broadcastInDim S2x4x64x512 ![0, 1, 2, 3] bcast_S2x4x64x1_S2x4x64x512_0_1_2_3 (broadcastInDim S2x4x64x1 ![0, 1, 2] bcast_S2x4x64_S2x4x64x1_0_1_2 (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0))))) : (Proc.devRef .tc main_while0b_v107 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (addf (mulf (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0))) (Host.dotGeneral dot_S2x4x64x256_S2x4x256x512_S2x4x64x512_3_2_2_3_01_01 none (res_main_while0b_v64 V0) (V0 (Proc.devRef .tc main_v36_7)))) (Host.dotGeneral dot_S2x4x64x64_S2x4x64x512_S2x4x64x512_3_2_2_3_01_01 none (res_main_while0b_v91 V0) (res_main_while0b_v66 V0))) (broadcastInDim S2x4x64x512 ![0, 1, 2, 3] bcast_S2x4x64x1_S2x4x64x512_0_1_2_3 (broadcastInDim S2x4x64x1 ![0, 1, 2] bcast_S2x4x64_S2x4x64x1_0_1_2 (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0)))))) : (Proc.devRef .tc main_while0b_v108 : DevRef τ sig).ty.Contents (Elt F)) = Cert.ReferenceIdeal.Step.b75 j s := by
  unfold Cert.ReferenceIdeal.Step.b75
  rw [← al_63 h, ← al_74 h]
  try rfl
set_option maxRecDepth 8192 in
theorem al_76 (h : Holds V0 s j) : (extractStridedSlice S2x4x1 ![0, 0, 63] (res_main_while0b_v69 V0) slices_S2x4x64_S2x4x1_0_0_63 : (Proc.devRef .tc main_while0b_v109 : DevRef τ sig).ty.Contents (Elt F)) = Cert.ReferenceIdeal.Step.b76 j s := by
  unfold Cert.ReferenceIdeal.Step.b76
  rw [← al_30 h]
  try rfl
set_option maxRecDepth 8192 in
theorem al_77 (h : Holds V0 s j) : (res_main_while0b_v110 V0 : (Proc.devRef .tc main_while0b_v110 : DevRef τ sig).ty.Contents (Elt F)) = Cert.ReferenceIdeal.Step.b77 j s := by
  unfold res_main_while0b_v110 Cert.ReferenceIdeal.Step.b77
  rw [← al_76 h]
  try rfl
set_option maxRecDepth 8192 in
theorem al_78 (h : Holds V0 s j) : (broadcastInDim S2x4x1 ![0, 1] bcast_S2x4_S2x4x1_0_1 (res_main_while0b_v110 V0) : (Proc.devRef .tc main_while0b_v111 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S2x4x64 ![0, 1, 2] bcast_S2x4x1_S2x4x64_0_1_2 (broadcastInDim S2x4x1 ![0, 1] bcast_S2x4_S2x4x1_0_1 (res_main_while0b_v110 V0)) : (Proc.devRef .tc main_while0b_v112 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (broadcastInDim S2x4x64 ![0, 1, 2] bcast_S2x4x1_S2x4x64_0_1_2 (broadcastInDim S2x4x1 ![0, 1] bcast_S2x4_S2x4x1_0_1 (res_main_while0b_v110 V0))) (res_main_while0b_v69 V0) : (Proc.devRef .tc main_while0b_v113 : DevRef τ sig).ty.Contents (Elt F)) = Cert.ReferenceIdeal.Step.b80 j s := by
  unfold Cert.ReferenceIdeal.Step.b80
  rw [← al_79 h, ← al_30 h]
  try rfl
set_option maxRecDepth 8192 in
theorem al_81 (h : Holds V0 s j) : (res_main_while0b_v114 V0 : (Proc.devRef .tc main_while0b_v114 : DevRef τ sig).ty.Contents (Elt F)) = Cert.ReferenceIdeal.Step.b81 j s := by
  unfold res_main_while0b_v114 Cert.ReferenceIdeal.Step.b81
  rw [← al_80 h, ← al_22 h]
  try rfl
set_option maxRecDepth 8192 in
theorem al_82 (h : Holds V0 s j) : (addf (res_main_while0b_v110 V0) (V0 (Proc.devRef .tc main_v36_9)) : (Proc.devRef .tc main_while0b_v115 : DevRef τ sig).ty.Contents (Elt F)) = Cert.ReferenceIdeal.Step.b82 j s := by
  unfold Cert.ReferenceIdeal.Step.b82
  rw [← al_77 h, h.f_9]
  try rfl
set_option maxRecDepth 8192 in
theorem al_83 (h : Holds V0 s j) : (constant S_ .f32 0xFF800000#32 : (Proc.devRef .tc main_while0b_cst_23 : DevRef τ sig).ty.Contents (Elt F)) = Cert.ReferenceIdeal.Step.b83 j s := by
  unfold Cert.ReferenceIdeal.Step.b83
  rfl
set_option maxRecDepth 8192 in
theorem al_84 (h : Holds V0 s j) : (Host.reduce FloatOps.maximumf (res_main_while0b_v114 V0) (constant S_ .f32 0xFF800000#32) reducesTo_S2x4x64_S2x4_d2 h_S_ : (Proc.devRef .tc main_while0b_v116 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (res_main_while0b_v117 V0 : (Proc.devRef .tc main_while0b_v117 : DevRef τ sig).ty.Contents (Elt F)) = Cert.ReferenceIdeal.Step.b85 j s := by
  unfold res_main_while0b_v117 Cert.ReferenceIdeal.Step.b85
  rw [← al_82 h, ← al_84 h]
  try rfl
set_option maxRecDepth 8192 in
theorem al_86 (h : Holds V0 s j) : (addf (res_main_while0b_v110 V0) (V0 (Proc.devRef .tc main_v36_9)) : (Proc.devRef .tc main_while0b_v118 : DevRef τ sig).ty.Contents (Elt F)) = Cert.ReferenceIdeal.Step.b86 j s := by
  unfold Cert.ReferenceIdeal.Step.b86
  rw [← al_77 h, h.f_9]
  try rfl
set_option maxRecDepth 8192 in
theorem al_87 (h : Holds V0 s j) : (subf (addf (res_main_while0b_v110 V0) (V0 (Proc.devRef .tc main_v36_9))) (res_main_while0b_v117 V0) : (Proc.devRef .tc main_while0b_v119 : DevRef τ sig).ty.Contents (Elt F)) = Cert.ReferenceIdeal.Step.b87 j s := by
  unfold Cert.ReferenceIdeal.Step.b87
  rw [← al_86 h, ← al_85 h]
  try rfl
set_option maxRecDepth 8192 in
theorem al_88 (h : Holds V0 s j) : (res_main_while0b_v120 V0 : (Proc.devRef .tc main_while0b_v120 : DevRef τ sig).ty.Contents (Elt F)) = Cert.ReferenceIdeal.Step.b88 j s := by
  unfold res_main_while0b_v120 Cert.ReferenceIdeal.Step.b88
  rw [← al_87 h]
  try rfl
set_option maxRecDepth 8192 in
theorem al_89 (h : Holds V0 s j) : (broadcastInDim S2x4x1 ![0, 1] bcast_S2x4_S2x4x1_0_1 (res_main_while0b_v117 V0) : (Proc.devRef .tc main_while0b_v121 : DevRef τ sig).ty.Contents (Elt F)) = Cert.ReferenceIdeal.Step.b89 j s := by
  unfold Cert.ReferenceIdeal.Step.b89
  rw [← al_85 h]
  try rfl
set_option maxRecDepth 8192 in
theorem al_90 (h : Holds V0 s j) : (broadcastInDim S2x4x64 ![0, 1, 2] bcast_S2x4x1_S2x4x64_0_1_2 (broadcastInDim S2x4x1 ![0, 1] bcast_S2x4_S2x4x1_0_1 (res_main_while0b_v117 V0)) : (Proc.devRef .tc main_while0b_v122 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (subf (res_main_while0b_v114 V0) (broadcastInDim S2x4x64 ![0, 1, 2] bcast_S2x4x1_S2x4x64_0_1_2 (broadcastInDim S2x4x1 ![0, 1] bcast_S2x4_S2x4x1_0_1 (res_main_while0b_v117 V0))) : (Proc.devRef .tc main_while0b_v123 : DevRef τ sig).ty.Contents (Elt F)) = Cert.ReferenceIdeal.Step.b91 j s := by
  unfold Cert.ReferenceIdeal.Step.b91
  rw [← al_81 h, ← al_90 h]
  try rfl
set_option maxRecDepth 8192 in
theorem al_92 (h : Holds V0 s j) : (res_main_while0b_v124 V0 : (Proc.devRef .tc main_while0b_v124 : DevRef τ sig).ty.Contents (Elt F)) = Cert.ReferenceIdeal.Step.b92 j s := by
  unfold res_main_while0b_v124 Cert.ReferenceIdeal.Step.b92
  rw [← al_91 h]
  try rfl
set_option maxRecDepth 8192 in
theorem al_93 (h : Holds V0 s j) : (broadcastInDim S2x4x1x1 ![0, 1] bcast_S2x4_S2x4x1x1_0_1 (res_main_while0b_v120 V0) : (Proc.devRef .tc main_while0b_v125 : DevRef τ sig).ty.Contents (Elt F)) = Cert.ReferenceIdeal.Step.b93 j s := by
  unfold Cert.ReferenceIdeal.Step.b93
  rw [← al_88 h]
  try rfl
set_option maxRecDepth 8192 in
theorem al_94 (h : Holds V0 s j) : (broadcastInDim S2x4x256x512 ![0, 1, 2, 3] bcast_S2x4x1x1_S2x4x256x512_0_1_2_3 (broadcastInDim S2x4x1x1 ![0, 1] bcast_S2x4_S2x4x1x1_0_1 (res_main_while0b_v120 V0)) : (Proc.devRef .tc main_while0b_v126 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (broadcastInDim S2x4x256x512 ![0, 1, 2, 3] bcast_S2x4x1x1_S2x4x256x512_0_1_2_3 (broadcastInDim S2x4x1x1 ![0, 1] bcast_S2x4_S2x4x1x1_0_1 (res_main_while0b_v120 V0))) (V0 (Proc.devRef .tc main_v36_7)) : (Proc.devRef .tc main_while0b_v127 : DevRef τ sig).ty.Contents (Elt F)) = Cert.ReferenceIdeal.Step.b95 j s := by
  unfold Cert.ReferenceIdeal.Step.b95
  rw [← al_94 h, h.f_7]
  try rfl
set_option maxRecDepth 8192 in
theorem al_96 (h : Holds V0 s j) : (broadcastInDim S2x4x64x1 ![0, 1, 2] bcast_S2x4x64_S2x4x64x1_0_1_2 (res_main_while0b_v124 V0) : (Proc.devRef .tc main_while0b_v128 : DevRef τ sig).ty.Contents (Elt F)) = Cert.ReferenceIdeal.Step.b96 j s := by
  unfold Cert.ReferenceIdeal.Step.b96
  rw [← al_92 h]
  try rfl
set_option maxRecDepth 8192 in
theorem al_97 (h : Holds V0 s j) : (broadcastInDim S2x4x64x256 ![0, 1, 2, 3] bcast_S2x4x64x1_S2x4x64x256_0_1_2_3 (broadcastInDim S2x4x64x1 ![0, 1, 2] bcast_S2x4x64_S2x4x64x1_0_1_2 (res_main_while0b_v124 V0)) : (Proc.devRef .tc main_while0b_v129 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v124 V0))) (res_main_while0b_v65 V0) : (Proc.devRef .tc main_while0b_v130 : DevRef τ sig).ty.Contents (Elt F)) = Cert.ReferenceIdeal.Step.b98 j s := by
  unfold Cert.ReferenceIdeal.Step.b98
  rw [← al_97 h, ← al_11 h]
  try rfl
set_option maxRecDepth 8192 in
theorem al_99 (h : Holds V0 s j) : (Host.dotGeneral dot_S2x4x64x256_S2x4x64x512_S2x4x256x512_2_2_3_3_01_01 none (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v124 V0))) (res_main_while0b_v65 V0)) (res_main_while0b_v66 V0) : (Proc.devRef .tc main_while0b_v131 : DevRef τ sig).ty.Contents (Elt F)) = Cert.ReferenceIdeal.Step.b99 j s := by
  unfold Cert.ReferenceIdeal.Step.b99
  rw [← al_98 h, ← al_17 h]
  try rfl
set_option maxRecDepth 8192 in
theorem al_100 (h : Holds V0 s j) : (addf (mulf (broadcastInDim S2x4x256x512 ![0, 1, 2, 3] bcast_S2x4x1x1_S2x4x256x512_0_1_2_3 (broadcastInDim S2x4x1x1 ![0, 1] bcast_S2x4_S2x4x1x1_0_1 (res_main_while0b_v120 V0))) (V0 (Proc.devRef .tc main_v36_7))) (Host.dotGeneral dot_S2x4x64x256_S2x4x64x512_S2x4x256x512_2_2_3_3_01_01 none (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v124 V0))) (res_main_while0b_v65 V0)) (res_main_while0b_v66 V0)) : (Proc.devRef .tc main_while0b_v132 : DevRef τ sig).ty.Contents (Elt F)) = Cert.ReferenceIdeal.Step.b100 j s := by
  unfold Cert.ReferenceIdeal.Step.b100
  rw [← al_95 h, ← al_99 h]
  try rfl
set_option maxRecDepth 8192 in
theorem al_101 (h : Holds V0 s j) : (broadcastInDim S2x4x1 ![0, 1] bcast_S2x4_S2x4x1_0_1 (res_main_while0b_v120 V0) : (Proc.devRef .tc main_while0b_v133 : DevRef τ sig).ty.Contents (Elt F)) = Cert.ReferenceIdeal.Step.b101 j s := by
  unfold Cert.ReferenceIdeal.Step.b101
  rw [← al_88 h]
  try rfl
set_option maxRecDepth 8192 in
theorem al_102 (h : Holds V0 s j) : (broadcastInDim S2x4x256 ![0, 1, 2] bcast_S2x4x1_S2x4x256_0_1_2 (broadcastInDim S2x4x1 ![0, 1] bcast_S2x4_S2x4x1_0_1 (res_main_while0b_v120 V0)) : (Proc.devRef .tc main_while0b_v134 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S2x4x256 ![0, 1, 2] bcast_S2x4x1_S2x4x256_0_1_2 (broadcastInDim S2x4x1 ![0, 1] bcast_S2x4_S2x4x1_0_1 (res_main_while0b_v120 V0))) (V0 (Proc.devRef .tc main_v36_8)) : (Proc.devRef .tc main_while0b_v135 : DevRef τ sig).ty.Contents (Elt F)) = Cert.ReferenceIdeal.Step.b103 j s := by
  unfold Cert.ReferenceIdeal.Step.b103
  rw [← al_102 h, h.f_8]
  try rfl
set_option maxRecDepth 8192 in
theorem al_104 (h : Holds V0 s j) : (Host.dotGeneral dot_S2x4x64_S2x4x64x256_S2x4x256_2_2_n_3_01_01 none (res_main_while0b_v124 V0) (res_main_while0b_v65 V0) : (Proc.devRef .tc main_while0b_v136 : DevRef τ sig).ty.Contents (Elt F)) = Cert.ReferenceIdeal.Step.b104 j s := by
  unfold Cert.ReferenceIdeal.Step.b104
  rw [← al_92 h, ← al_11 h]
  try rfl
set_option maxRecDepth 8192 in
theorem al_105 (h : Holds V0 s j) : (addf (mulf (broadcastInDim S2x4x256 ![0, 1, 2] bcast_S2x4x1_S2x4x256_0_1_2 (broadcastInDim S2x4x1 ![0, 1] bcast_S2x4_S2x4x1_0_1 (res_main_while0b_v120 V0))) (V0 (Proc.devRef .tc main_v36_8))) (Host.dotGeneral dot_S2x4x64_S2x4x64x256_S2x4x256_2_2_n_3_01_01 none (res_main_while0b_v124 V0) (res_main_while0b_v65 V0)) : (Proc.devRef .tc main_while0b_v137 : DevRef τ sig).ty.Contents (Elt F)) = Cert.ReferenceIdeal.Step.b105 j s := by
  unfold Cert.ReferenceIdeal.Step.b105
  rw [← al_103 h, ← al_104 h]
  try rfl
set_option maxRecDepth 8192 in
theorem al_106 (h : Holds V0 s j) : (broadcastInDim S1x2x4x64x512 ![1, 2, 3, 4] bcast_S2x4x64x512_S1x2x4x64x512_1_2_3_4 (Host.divf (addf (mulf (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0))) (Host.dotGeneral dot_S2x4x64x256_S2x4x256x512_S2x4x64x512_3_2_2_3_01_01 none (res_main_while0b_v64 V0) (V0 (Proc.devRef .tc main_v36_7)))) (Host.dotGeneral dot_S2x4x64x64_S2x4x64x512_S2x4x64x512_3_2_2_3_01_01 none (res_main_while0b_v91 V0) (res_main_while0b_v66 V0))) (broadcastInDim S2x4x64x512 ![0, 1, 2, 3] bcast_S2x4x64x1_S2x4x64x512_0_1_2_3 (broadcastInDim S2x4x64x1 ![0, 1, 2] bcast_S2x4x64_S2x4x64x1_0_1_2 (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0))))))) : (Proc.devRef .tc main_while0b_call8_v0 : DevRef τ sig).ty.Contents (Elt F)) = Cert.ReferenceIdeal.Step.b106 j s := by
  unfold Cert.ReferenceIdeal.Step.b106
  rw [← al_75 h]
  try rfl
set_option maxRecDepth 8192 in
theorem al_107 (h : Holds V0 s j) : (constantI S_ 32 0#32 : (Proc.devRef .tc main_while0b_call8_c : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call8_c_0 : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call8_c_1 : DevRef τ sig).ty.Contents (Elt F)) = Cert.ReferenceIdeal.Step.b109 j s := by
  unfold Cert.ReferenceIdeal.Step.b109
  rfl
set_option maxRecDepth 8192 in
theorem al_110 (h : Holds V0 s j) : (constantI S_ 32 0#32 : (Proc.devRef .tc main_while0b_call8_c_2 : DevRef τ sig).ty.Contents (Elt F)) = Cert.ReferenceIdeal.Step.b110 j s := by
  unfold Cert.ReferenceIdeal.Step.b110
  rfl
set_option maxRecDepth 8192 in
theorem al_111 (h : Holds V0 s j) : (Host.dynamicUpdateSlice (V0 (Proc.devRef .tc main_v36_10)) (broadcastInDim S1x2x4x64x512 ![1, 2, 3, 4] bcast_S2x4x64x512_S1x2x4x64x512_1_2_3_4 (Host.divf (addf (mulf (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0))) (Host.dotGeneral dot_S2x4x64x256_S2x4x256x512_S2x4x64x512_3_2_2_3_01_01 none (res_main_while0b_v64 V0) (V0 (Proc.devRef .tc main_v36_7)))) (Host.dotGeneral dot_S2x4x64x64_S2x4x64x512_S2x4x64x512_3_2_2_3_01_01 none (res_main_while0b_v91 V0) (res_main_while0b_v66 V0))) (broadcastInDim S2x4x64x512 ![0, 1, 2, 3] bcast_S2x4x64x1_S2x4x64x512_0_1_2_3 (broadcastInDim S2x4x64x1 ![0, 1, 2] bcast_S2x4x64_S2x4x64x1_0_1_2 (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0)))))))) (fun k => (((![V0 (Proc.devRef .tc main_v36_6), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x512_S1x2x4x64x512 : (Proc.devRef .tc main_while0b_v138 : DevRef τ sig).ty.Contents (Elt F)) = Cert.ReferenceIdeal.Step.b111 j s := by
  unfold Cert.ReferenceIdeal.Step.b111
  rw [← al_106 h, ← al_107 h, ← al_108 h, ← al_109 h, ← al_110 h, h.f_10, h.n_6]
  try rfl

/-! One trip's step of the carried values is `step`, field by field; a counter steps to the next number. -/

theorem step_7 (h : Holds V0 s j) : step_main_v36_7 V0 = (step j s).main_v36_7 := by
  unfold step_main_v36_7 Cert.ReferenceIdeal.Step.step
  show id (addf (mulf (broadcastInDim S2x4x256x512 ![0, 1, 2, 3] bcast_S2x4x1x1_S2x4x256x512_0_1_2_3 (broadcastInDim S2x4x1x1 ![0, 1] bcast_S2x4_S2x4x1x1_0_1 (res_main_while0b_v120 V0))) (V0 (Proc.devRef .tc main_v36_7))) (Host.dotGeneral dot_S2x4x64x256_S2x4x64x512_S2x4x256x512_2_2_3_3_01_01 none (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v124 V0))) (res_main_while0b_v65 V0)) (res_main_while0b_v66 V0))) = _
  rw [al_100 h]
  try rfl
theorem step_8 (h : Holds V0 s j) : step_main_v36_8 V0 = (step j s).main_v36_8 := by
  unfold step_main_v36_8 Cert.ReferenceIdeal.Step.step
  show id (addf (mulf (broadcastInDim S2x4x256 ![0, 1, 2] bcast_S2x4x1_S2x4x256_0_1_2 (broadcastInDim S2x4x1 ![0, 1] bcast_S2x4_S2x4x1_0_1 (res_main_while0b_v120 V0))) (V0 (Proc.devRef .tc main_v36_8))) (Host.dotGeneral dot_S2x4x64_S2x4x64x256_S2x4x256_2_2_n_3_01_01 none (res_main_while0b_v124 V0) (res_main_while0b_v65 V0))) = _
  rw [al_105 h]
  try rfl
theorem step_9 (h : Holds V0 s j) : step_main_v36_9 V0 = (step j s).main_v36_9 := by
  unfold step_main_v36_9 Cert.ReferenceIdeal.Step.step
  show id (res_main_while0b_v117 V0) = _
  rw [al_85 h]
  try rfl
theorem step_10 (h : Holds V0 s j) : step_main_v36_10 V0 = (step j s).main_v36_10 := by
  unfold step_main_v36_10 Cert.ReferenceIdeal.Step.step
  show id (Host.dynamicUpdateSlice (V0 (Proc.devRef .tc main_v36_10)) (broadcastInDim S1x2x4x64x512 ![1, 2, 3, 4] bcast_S2x4x64x512_S1x2x4x64x512_1_2_3_4 (Host.divf (addf (mulf (broadcastInDim S2x4x64x512 ![0, 1, 2, 3] bcast_S2x4x64x1_S2x4x64x512_0_1_2_3 (broadcastInDim S2x4x64x1 ![0, 1, 2] bcast_S2x4x64_S2x4x64x1_0_1_2 (res_main_while0b_v85 V0))) (Host.dotGeneral dot_S2x4x64x256_S2x4x256x512_S2x4x64x512_3_2_2_3_01_01 none (res_main_while0b_v64 V0) (V0 (Proc.devRef .tc main_v36_7)))) (Host.dotGeneral dot_S2x4x64x64_S2x4x64x512_S2x4x64x512_3_2_2_3_01_01 none (res_main_while0b_v91 V0) (res_main_while0b_v66 V0))) (broadcastInDim S2x4x64x512 ![0, 1, 2, 3] bcast_S2x4x64x1_S2x4x64x512_0_1_2_3 (broadcastInDim S2x4x64x1 ![0, 1, 2] bcast_S2x4x64_S2x4x64x1_0_1_2 (maximumf (Host.absf (addf (mulf (res_main_while0b_v85 V0) (Host.dotGeneral dot_S2x4x64x256_S2x4x256_S2x4x64_3_2_2_n_01_01 none (res_main_while0b_v64 V0) (V0 (Proc.devRef .tc main_v36_8)))) (Host.reduceAdd (res_main_while0b_v91 V0) (constant S_ .f32 0x00000000#32) reducesTo_S2x4x64x64_S2x4x64_d3 h_S_))) (Host.exp (Host.negf (res_main_while0b_v83 V0)))))))) (fun k => (((![V0 (Proc.devRef .tc main_v36_6), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x512_S1x2x4x64x512) = _
  exact al_111 h
theorem step_6 (h : Holds V0 s j) : step_main_v36_6 V0 = constantI S_ 32 (BitVec.ofNat 32 (j + 1)) := by
  unfold step_main_v36_6
  rw [h.n_6]
  funext i
  show BitVec.ofNat 32 j + 1#32 = BitVec.ofNat 32 (j + 1)
  simp only [BitVec.ofNat_add]

set_option maxRecDepth 8192 in
theorem out_main_v63_holds (h : Holds V0 s j) {x_main_arg0 : (⟨S2x8192x6152, .f32⟩ : BufTy).Contents (Elt F)} (h_main_arg0 : V0 (Proc.devRef .tc main_arg0) = x_main_arg0) {x_main_arg2 : (⟨S2048, .f32⟩ : BufTy).Contents (Elt F)} (h_main_arg2 : V0 (Proc.devRef .tc main_arg2) = x_main_arg2) : out_main_v63 V0 = Cert.ReferenceIdeal.Step.R_main_v63 s x_main_arg0 x_main_arg2 := by
  unfold out_main_v63 Cert.ReferenceIdeal.Step.R_main_v63
  rw [h.f_10, h_main_arg0, h_main_arg2]
  try rfl

/-- One trip keeps the valuation holding: `step` of the state, the same set-up values, the next number. -/
theorem holds_step (h : Holds V0 s j) : Holds (STEP V0) (step j s) (j + 1) where
  f_7 := (STEP_main_v36_7 V0).trans (step_7 h)
  f_8 := (STEP_main_v36_8 V0).trans (step_8 h)
  f_9 := (STEP_main_v36_9 V0).trans (step_9 h)
  f_10 := (STEP_main_v36_10 V0).trans (step_10 h)
  n_6 := (STEP_main_v36_6 V0).trans (step_6 h)
  k_5 := (STEP_main_v36_5 V0).trans h.k_5
  f_0 := (STEP_main_v36_0 V0).trans h.f_0
  f_1 := (STEP_main_v36_1 V0).trans h.f_1
  f_2 := (STEP_main_v36_2 V0).trans h.f_2
  f_3 := (STEP_main_v36_3 V0).trans h.f_3
  f_4 := (STEP_main_v36_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v63) = Cert.ReferenceIdeal.Step.R_main_v63 (it c 128) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 128
    ⟨(h c).1.trans (out_main_v63_holds hk (iter_main_arg0 m c 128) (iter_main_arg2 m c 128)), (h c).2.1, (h c).2.2.1, (h c).2.2.2⟩) (Value.run m ρ)

end Cert.Cell.Trips

end
-- ==== Proof.Stores.lean ====
module
public import proofs.«01_k».proof.Proof.Head
public import Idealize.ShloMosaic.Lib.Pipeline.ReadBack

/-!
# What the kernel's block leaves, as the stores of its four heads

For each buffer the block writes: what it holds afterwards is the four heads' stores, in both cases of the block (the
first block of a sequence, which works from a zero state, and a later one, which works from the state left before it).
-/

@[expose] public section
set_option maxRecDepth 16384
noncomputable section
namespace Cert.Cell
open Cert.KernelIdeal Cert.KernelIdeal.Gen Idealize.ShloMosaic Idealize.ShloMosaic.TcCoe Idealize.SL.Sem
open Idealize.ShloMosaic.Tactic
variable {F : FTy → Type} [FloatOps F]

set_option maxHeartbeats 4000000 in
/-- The result after a later block. -/
theorem outLeft_later (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (x0 x1 : Vec F S256x1024 .bf16) (x2 x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x1x1 .f32) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = View.canon (outPieces x0 x1 x2 x3 x4 x5 x6 xs0 xs1 xs2) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread]
  rfl

set_option maxHeartbeats 4000000 in
/-- The memory after a later block. -/
theorem memLeft_later (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (x0 x1 : Vec F S256x1024 .bf16) (x2 x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x1x1 .f32) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = View.canon (memPieces x1 x2 x4 x5 xs0 xs2) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread]
  rfl

set_option maxHeartbeats 4000000 in
/-- The normaliser after a later block. -/
theorem nrmLeft_later (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (x0 x1 : Vec F S256x1024 .bf16) (x2 x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x1x1 .f32) :
    sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = View.canon (nrmPieces x1 x4 x5 xs1 xs2) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread]
  rfl

set_option maxHeartbeats 4000000 in
/-- The stabiliser after a later block. -/
theorem stabLeft_later (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (x0 x1 : Vec F S256x1024 .bf16) (x2 x3 : Vec F S256x2048 .bf16) (x4 : Vec F S256x128 .f32) (x5 : Vec F S1x128 .f32) (x6 : Vec F S1x2048 .f32) (xs0 : Vec F S4x256x512 .f32) (xs1 : Vec F S4x1x256 .f32) (xs2 : Vec F S4x1x1 .f32) :
    sout0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = View.canon (stabPieces x4 x5 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread]
  rfl

set_option maxHeartbeats 4000000 in
/-- The result after a sequence's first block. -/
theorem outLeft_first (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (x0 x1 : Vec F S256x1024 .bf16) (x2 x3 : Vec F S256x2048 .bf16) (x4 : Vec F S256x128 .f32) (x5 : Vec F S1x128 .f32) (x6 : Vec F S1x2048 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6
      = View.canon (outPieces x0 x1 x2 x3 x4 x5 x6 k0_pay2 k0_pay3 k0_pay4) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp (discharger := decide) only [View.readCov_skip, View.readCov_fill]
  rfl

set_option maxHeartbeats 4000000 in
/-- The memory after a sequence's first block. -/
theorem memLeft_first (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (x0 x1 : Vec F S256x1024 .bf16) (x2 x3 : Vec F S256x2048 .bf16) (x4 : Vec F S256x128 .f32) (x5 : Vec F S1x128 .f32) (x6 : Vec F S1x2048 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6
      = View.canon (memPieces x1 x2 x4 x5 k0_pay2 k0_pay4 ++
        [⟨Rect.unit ![0, 0, 0] ![4, 256, 512] inb_S4x256x512_S4x256x512_0_0_0, k0_pay2⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp (discharger := decide) only [View.readCov_skip, View.readCov_fill]
  rfl

set_option maxHeartbeats 4000000 in
/-- The normaliser after a sequence's first block. -/
theorem nrmLeft_first (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (x0 x1 : Vec F S256x1024 .bf16) (x2 x3 : Vec F S256x2048 .bf16) (x4 : Vec F S256x128 .f32) (x5 : Vec F S1x128 .f32) (x6 : Vec F S1x2048 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6
      = View.canon (nrmPieces x1 x4 x5 k0_pay3 k0_pay4 ++
        [⟨Rect.unit ![0, 0, 0] ![4, 1, 256] inb_S4x1x256_S4x1x256_0_0_0, k0_pay3⟩]) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp (discharger := decide) only [View.readCov_skip, View.readCov_fill]
  rfl

set_option maxHeartbeats 4000000 in
/-- The stabiliser after a sequence's first block. -/
theorem stabLeft_first (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (x0 x1 : Vec F S256x1024 .bf16) (x2 x3 : Vec F S256x2048 .bf16) (x4 : Vec F S256x128 .f32) (x5 : Vec F S1x128 .f32) (x6 : Vec F S1x2048 .f32) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6
      = View.canon (stabPieces x4 x5 k0_pay4 ++
        [⟨Rect.unit ![0, 0, 0] ![4, 1, 1] inb_S4x1x1_S4x1x1_0_0_0, k0_pay4⟩]) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp (discharger := decide) only [View.readCov_skip, View.readCov_fill]
  rfl

end Cert.Cell
end
-- ==== Proof.Sweep.lean ====
module
public import proofs.«01_k».proof.Proof.Model
public import proofs.«01_k».proof.Proof.Stores

/-!
# The kernel over its grid

After a grid point the state buffers hold the recurrence's state at the end of the point's chunk, and the point's result
block holds the gated norm of the recurrence's hidden states; so the result array holds them everywhere.
-/

@[expose] public section
set_option maxRecDepth 16384
noncomputable section
namespace Cert.Cell
open Cert.KernelIdeal Cert.KernelIdeal.Gen Cert.KernelIdeal.Value Idealize.ShloMosaic Idealize.ShloMosaic.TcCoe Idealize.SL.Sem

theorem zero_mem (i) : (k0_pay2 (F := Ideal) i : EReal) = 0 := by
  unfold k0_pay2
  pointwise
theorem zero_nrm (i) : (k0_pay3 (F := Ideal) i : EReal) = 0 := by
  unfold k0_pay3
  pointwise
theorem zero_stab (i) : (k0_pay4 (F := Ideal) i : EReal) = 0 := by
  unfold k0_pay4
  pointwise

variable (m : (ℓ : Loc nD τ sig) → Buf (Elt Ideal) ℓ) (c : Dev nD)
variable (hP : RealCols (proj m c)) (hB : ∀ i, ∃ x : ℝ, bias m c i = (x : EReal))
include hP hB

/-- What a grid point leaves: the state at its chunk's end, and its rows of the result. -/
def Left (t : Fin cfg0.N) : Prop :=
  StateAt (heads (proj m c) (bias m c) (batchOf t)) (t.val % 32 * 256 + 256) (outsAt0 m c t.val t.isLt).2.1 (outsAt0 m c t.val t.isLt).2.2.1
      (outsAt0 m c t.val t.isLt).2.2.2
    ∧ ∀ (h : Fin 4) (r : Fin 256) (e : Fin 512), ((outsAt0 m c t.val t.isLt).1 (ix2 r ⟨512 * h.val + e.val, vcol_lt h e⟩) : EReal)
      = gatedOf (fun i => ((heads (proj m c) (bias m c) (batchOf t)).hid h (t.val % 32 * 256 + r.val) i : EReal))
          (gains m c (ix1 ⟨512 * h.val + e.val, vcol_lt h e⟩))
          (proj m c (ix3 (batchOf t) (timeOf t r) ⟨4096 + (512 * h.val + e.val), by omega⟩)) e

theorem left_first (t : Fin cfg0.N) (h0 : t.val % 32 = 0) : Left m c t := by
  have hx := holds_point m c hP hB t
  have hst : StateAt (heads (proj m c) (bias m c) (batchOf t)) (t.val % 32 * 256) (k0_pay2 (F := Ideal)) (k0_pay3 (F := Ideal)) (k0_pay4 (F := Ideal)) := by
    rw [h0, Nat.zero_mul]
    exact stateAt_zero _ _ _ _ zero_mem zero_nrm zero_stab
  unfold Left
  rw [outsAt0_A m c t h0]
  dsimp only
  refine ⟨?_, fun h r e => ?_⟩
  · rw [memLeft_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t),
      nrmLeft_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t),
      stabLeft_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)]
    exact state_block hx hst _ _ _
  · rw [outLeft_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t),
      out_block hx hst h r e, gain_block, gate_block]

theorem left_later (t : Fin cfg0.N) (h0 : ¬ t.val % 32 = 0)
    (hp : Left m c ⟨t.val - 1, Nat.lt_of_le_of_lt (Nat.sub_le _ _) t.isLt⟩) : Left m c t := by
  have hx := holds_point m c hP hB t
  have hst := hp.1
  have eT : (t.val - 1) % 32 * 256 + 256 = t.val % 32 * 256 := by omega
  have eb : batchOf ⟨t.val - 1, Nat.lt_of_le_of_lt (Nat.sub_le _ _) t.isLt⟩ = batchOf t :=
    Fin.ext (by show (t.val - 1) / 32 = t.val / 32; omega)
  rw [eb, eT] at hst
  unfold Left
  rw [outsAt0_B m c t h0]
  dsimp only
  refine ⟨?_, fun h r e => ?_⟩
  · rw [memLeft_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      nrmLeft_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      stabLeft_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    have q := state_block hx hst [] [] []
    simp only [List.append_nil] at q
    exact q
  · rw [outLeft_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    rw [out_block hx hst h r e, gain_block, gate_block]

/-- Every grid point leaves what it should. -/
theorem left_all : ∀ (n : ℕ) (hn : n < cfg0.N), Left m c ⟨n, hn⟩
  | 0, hn => left_first m c hP hB ⟨0, hn⟩ rfl
  | n + 1, hn => by
    by_cases h0 : (n + 1) % 32 = 0
    · exact left_first m c hP hB ⟨n + 1, hn⟩ h0
    · exact left_later m c hP hB ⟨n + 1, hn⟩ h0 (left_all n (Nat.lt_of_succ_lt hn))

omit hP hB in
/-- The result array at an index: what the point that writes the index's block back left there. -/
theorem result_at (i : S16384x2048.Idx) (n : ℕ) (hn : n < cfg0.N) (hp : pt7Of i = n) (l : S256x2048.Idx)
    (hl : ∀ a, (loc7Of i a).val = (l a).val) : G7 m c i = (outsAt0 m c n hn).1 l := by
  subst hp
  unfold G7
  rw [dif_pos hn, outsAt0_sweep m c _ hn]
  exact congrArg _ (funext fun a => Fin.ext (hl a))

/-- The kernel's result: the gated norm of the recurrence's hidden states. -/
theorem kernel_result (b : Fin 2) (t : Fin 8192) (h : Fin 4) (e : Fin 512) :
    (G7 m c (ix2 ⟨b.val * 8192 + t.val, by omega⟩ ⟨512 * h.val + e.val, vcol_lt h e⟩ : S16384x2048.Idx) : EReal)
      = gatedOf (fun i => ((heads (proj m c) (bias m c) b).hid h t.val i : EReal)) (gains m c (ix1 ⟨512 * h.val + e.val, vcol_lt h e⟩))
          (proj m c (ix3 b t ⟨4096 + (512 * h.val + e.val), by omega⟩)) e := by
  have hN : (b.val * 8192 + t.val) / 256 < cfg0.N := by have : cfg0.N = 64 := N_0; omega
  have key := (left_all m c hP hB _ hN).2 h ⟨(b.val * 8192 + t.val) % 256, by omega⟩ e
  have eb : batchOf ⟨(b.val * 8192 + t.val) / 256, hN⟩ = b := Fin.ext (by show (b.val * 8192 + t.val) / 256 / 32 = b.val; omega)
  have et : timeOf ⟨(b.val * 8192 + t.val) / 256, hN⟩ ⟨(b.val * 8192 + t.val) % 256, by omega⟩ = t :=
    Fin.ext (by show (b.val * 8192 + t.val) / 256 % 32 * 256 + (b.val * 8192 + t.val) % 256 = t.val; omega)
  have eT : (b.val * 8192 + t.val) / 256 % 32 * 256 + (b.val * 8192 + t.val) % 256 = t.val := by omega
  rw [eb, et] at key
  dsimp only at key
  rw [eT] at key
  rw [← key]
  refine result_at m c _ _ hN ?_ _ (fun a => ?_)
  · show 1 * ((b.val * 8192 + t.val) / 256 - 0) + 1 * ((512 * h.val + e.val) / 2048 - 0) = _
    omega
  · match a with
    | ⟨0, _⟩ => rfl
    | ⟨1, _⟩ => show (512 * h.val + e.val) % 2048 = 512 * h.val + e.val; omega
end Cert.Cell
end
-- ==== Proof.lean ====
module

public import proofs.«01_k».proof.Defs
public import proofs.«01_k».proof.Proof.FfnValue
public import proofs.«01_k».proof.Proof.Finite
public import proofs.«01_k».proof.Proof.Gen.Kernel.Frame
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Launch
public import proofs.«01_k».proof.Proof.Gen.Kernel2Ideal.Loops
public import proofs.«01_k».proof.Proof.Gen.Kernel2Ideal.Points
public import proofs.«01_k».proof.Proof.Gen.Kernel2Ideal.Skeleton
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Launch
public import proofs.«01_k».proof.Proof.Gen.Kernel3Ideal.Loops
public import proofs.«01_k».proof.Proof.Gen.Kernel3Ideal.Points
public import proofs.«01_k».proof.Proof.Gen.Kernel3Ideal.Skeleton
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.PleValue
public import proofs.«01_k».proof.Proof.ReferenceResult
public import proofs.«01_k».proof.Proof.ReferenceTrips
public import proofs.«01_k».proof.Proof.Sweep
public import Idealize.ShloMosaic.Lib.Quiescent

/-!
# The claim

The recurrence: the kernel's result and the reference's are the same gated norm of the same recurrence's hidden states.
The feed-forward layer: the kernel's result and the reference's are the input plus the same sum over the hidden units.
The per-layer embedding: both results are the input plus the projected embedding times the sigmoid of the same gate.
-/

@[expose] public section

noncomputable section

namespace Cert.Proof

open Idealize.ShloMosaic Idealize.SL.Sem

/-- The states of the reference's loop, one per trip. -/
def states (P : FVec Ideal Cert.ReferenceIdeal.S2x8192x6152 .f32) (B : FVec Ideal Cert.ReferenceIdeal.S8 .f32) :
    ℕ → Cert.ReferenceIdeal.Step.State Ideal
  | 0 => Cert.ReferenceIdeal.Step.init P B
  | n + 1 => Cert.ReferenceIdeal.Step.step n (states P B n)

/-- The two results are equal, index by index. -/
theorem equal (m : (ℓ : Loc Cert.KernelIdeal.nD Cert.KernelIdeal.τ Cert.KernelIdeal.sig) → Buf (Elt Ideal) ℓ)
    (c : Dev Cert.KernelIdeal.nD) (hP : Cert.Cell.RealCols (Cert.Cell.proj m c))
    (hB : ∀ i, ∃ x : ℝ, Cert.Cell.bias m c i = (x : EReal)) :
    Cert.ReferenceIdeal.Step.R_main_v63 (states (Cert.Cell.proj m c) (Cert.Cell.bias m c) 128) (Cert.Cell.proj m c) (Cert.Cell.gains m c)
      = Cert.KernelIdeal.Value.G7 m c := by
  funext i
  have h0 : (i 0).val < 16384 := (i 0).isLt
  have h1 : (i 1).val < 2048 := (i 1).isLt
  have e : i = (ix2 (⟨(i 0).val / 8192 * 8192 + (i 0).val % 8192, by omega⟩ : Fin 16384)
      (⟨512 * ((i 1).val / 512) + (i 1).val % 512, by omega⟩ : Fin 2048) : Cert.ReferenceIdeal.S16384x2048.Idx) := by
    funext a
    apply Fin.ext
    match a with
    | ⟨0, _⟩ => show (i 0).val = (i 0).val / 8192 * 8192 + (i 0).val % 8192; omega
    | ⟨1, _⟩ => show (i 1).val = 512 * ((i 1).val / 512) + (i 1).val % 512; omega
  have hr := Cert.Cell.Ref.reference_result (Cert.Cell.proj m c) (Cert.Cell.bias m c) hP hB (states (Cert.Cell.proj m c) (Cert.Cell.bias m c))
    rfl (fun _ => rfl) (Cert.Cell.gains m c) ⟨(i 0).val / 8192, by omega⟩ ⟨(i 0).val % 8192, by omega⟩ ⟨(i 1).val / 512, by omega⟩
    ⟨(i 1).val % 512, by omega⟩
  have hk := Cert.Cell.kernel_result m c hP hB ⟨(i 0).val / 8192, by omega⟩ ⟨(i 0).val % 8192, by omega⟩ ⟨(i 1).val / 512, by omega⟩
    ⟨(i 1).val % 512, by omega⟩
  rw [e]
  exact hr.trans hk.symm

/-- The reference runs, leaves its arguments and has no counters. -/
theorem reference_frame : Cert.quiescent_ReferenceIdeal := fun m g _ =>
  (θ_run _ _ _).mono (fun r h => ⟨fun c => (h c).2, sem_eq_zero_of_no_sems rfl _⟩) (Cert.ReferenceIdeal.Value.run m g)

theorem value : Cert.algebraic_KernelIdeal_ReferenceIdeal_pre_finite (hPre_finite := Cert.Cell.preFacts) := by
  intro m g m' g' hpre hargs
  have real (c : Dev Cert.KernelIdeal.nD) : Cert.Cell.RealCols (Cert.Cell.proj m c) ∧ ∀ i, ∃ x : ℝ, Cert.Cell.bias m c i = (x : EReal) :=
    have := Cert.Cell.preFacts
    ⟨Cert.Cell.realCols_of _ _ _ (hpre c).1 (hpre c).2.1, Cert.Cell.realBias_of _ _ _ (hpre c).2.2⟩
  refine ⟨fun c => Cert.KernelIdeal.Value.G7 m c, Cert.KernelIdeal.Value.run m g, ?_⟩
  refine (θ_run _ _ _).mono (fun r h c => ?_) (Cert.Cell.Trips.run_iter m' g' (fun c => states (Cert.Cell.proj m c) (Cert.Cell.bias m c))
    (fun c => ?_) (fun _ _ => rfl))
  · refine ⟨(h c).1.trans ?_, (h c).2⟩
    rw [(hargs c).1, (hargs c).2.2]
    exact equal m c (real c).1 (real c).2
  · show Cert.ReferenceIdeal.Step.init _ _ = Cert.ReferenceIdeal.Step.init _ _
    rw [(hargs c).1, (hargs c).2.1]
    rfl

/-- The kernel's body as printed for either reading is one function, -/
theorem ffn_bodies : (Cert.Kernel2.defs₀ (F := Bits)) = (Cert.Kernel2Ideal.defs₀ (F := Bits)) := by
  unfold Cert.Kernel2.defs₀ Cert.Kernel2Ideal.defs₀
  refine congrArg (Defs.onTc (Λ := Cert.Kernel2Ideal.Λ₀)) ?_
  funext l a
  match l, a with
  | 0, (t, s) => rfl

/-- so the two body tables are equal. -/
theorem ffn_tables : (Cert.Kernel2.defs (F := Bits)) = (Cert.Kernel2Ideal.defs (F := Bits)) :=
  congrArg (Pipeline.defs (Cert.Kernel2Ideal.pcfgs (F := Bits))) ffn_bodies

/-- The feed-forward kernel runs, leaves its arguments and its counters at zero. -/
theorem frame_ffn : Cert.quiescent_Kernel2 := fun m g _ => by
  rw [ffn_tables]
  exact Cert.Ffn.frame (F := Bits) m g

/-- The feed-forward reference runs, leaves its arguments and has no counters. -/
theorem frame_ffn_reference : Cert.quiescent_Reference2Ideal := fun m g _ =>
  (θ_run _ _ _).mono (fun r h => ⟨fun c => (h c).2, sem_eq_zero_of_no_sems rfl _⟩) (Cert.Reference2Ideal.Value.run m g)

theorem value_ffn : Cert.algebraic_Kernel2Ideal_Reference2Ideal := by
  intro m g m' g' _ hargs
  refine ⟨fun c => Cert.Ffn.result m c, Cert.Ffn.run_value m g, ?_⟩
  refine (θ_run _ _ _).mono (fun r h c => ?_) (Cert.Reference2Ideal.Value.run m' g')
  refine ⟨(h c).1.trans ?_, (h c).2⟩
  rw [(hargs c).1, (hargs c).2.1, (hargs c).2.2.1, (hargs c).2.2.2.1, (hargs c).2.2.2.2]
  rfl

/-- The embedding's body likewise is one function for either reading, -/
theorem ple_bodies : (Cert.Kernel3.defs₀ (F := Bits)) = (Cert.Kernel3Ideal.defs₀ (F := Bits)) := by
  unfold Cert.Kernel3.defs₀ Cert.Kernel3Ideal.defs₀
  refine congrArg (Defs.onTc (Λ := Cert.Kernel3Ideal.Λ₀)) ?_
  funext l a
  match l, a with
  | 0, (t, s) => rfl

/-- so the two body tables are equal. -/
theorem ple_tables : (Cert.Kernel3.defs (F := Bits)) = (Cert.Kernel3Ideal.defs (F := Bits)) :=
  congrArg (Pipeline.defs (Cert.Kernel3Ideal.pcfgs (F := Bits))) ple_bodies

/-- The per-layer embedding's kernel runs, leaves its arguments and its counters at zero. -/
theorem frame_ple : Cert.quiescent_Kernel3 := fun m g _ => by
  rw [ple_tables]
  exact Cert.Kernel3Ideal.Gen.frame (F := Bits) m g

/-- The per-layer embedding's reference runs, leaves its arguments and has no counters. -/
theorem frame_ple_reference : Cert.quiescent_Reference3Ideal := fun m g _ =>
  (θ_run _ _ _).mono (fun r h => ⟨fun c => (h c).2, sem_eq_zero_of_no_sems rfl _⟩) (Cert.Reference3Ideal.Value.run m g)

theorem value_ple : Cert.algebraic_Kernel3Ideal_Reference3Ideal := by
  intro m g m' g' _ hargs
  refine ⟨fun c => Cert.Ple.result m c, Cert.Ple.run_value m g, ?_⟩
  refine (θ_run _ _ _).mono (fun r h c => ?_) (Cert.Reference3Ideal.Value.run m' g')
  refine ⟨(h c).1.trans ?_, (h c).2⟩
  rw [(hargs c).1, (hargs c).2.1, (hargs c).2.2.1, (hargs c).2.2.2.1, (hargs c).2.2.2.2]
  rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Cell.preFacts,
    fun m g _ => Cert.Kernel.Gen.frame m g, fun m g _ => Cert.KernelIdeal.Gen.frame m g, fun m g _ => Cert.KernelIdeal.Gen.frame m g,
    reference_frame, fun m g _ => reference_frame m g trivial, frame_ffn, fun m g _ => Cert.Ffn.frame m g, frame_ffn_reference,
    frame_ple, fun m g _ => Cert.Kernel3Ideal.Gen.frame m g, frame_ple_reference,
    trivial, value, trivial, value_ffn, trivial, value_ple⟩

end Cert.Proof

end
